-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 [hPre_in_range : Cert.Pre_in_range.Facts] (m : (ℓ : Loc Cert.Kernel6.nD Cert.Kernel6.τ Cert.Kernel6.sig) → Buf (Elt Bits) ℓ) : Prop :=
  ∀ c : Dev Cert.Kernel6.nD,
    (Cert.Pre_in_range.fn (F := Bits) (m ((c.tc : Thread Cert.Kernel6.nD Cert.Kernel6.τ).loc Cert.Kernel6.main_arg0)) (m ((c.tc : Thread Cert.Kernel6.nD Cert.Kernel6.τ).loc Cert.Kernel6.main_arg1)) (m ((c.tc : Thread Cert.Kernel6.nD Cert.Kernel6.τ).loc Cert.Kernel6.main_arg2)) (m ((c.tc : Thread Cert.Kernel6.nD Cert.Kernel6.τ).loc Cert.Kernel6.main_arg3)) (m ((c.tc : Thread Cert.Kernel6.nD Cert.Kernel6.τ).loc Cert.Kernel6.main_arg4))) = (fun _ => 1#1)

def Pre_Kernel6Ideal [hPre_in_range : Cert.Pre_in_range.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_in_range.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_in_range [hPre_in_range : Cert.Pre_in_range.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_in_range.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] [hPre_in_range : Cert.Pre_in_range.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] [hPre_in_range : Cert.Pre_in_range.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_in_range [hReference6Ideal : Cert.Reference6Ideal.Facts] [hPre_in_range : Cert.Pre_in_range.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_in_range m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v2_1)) (v1 : (c : Dev Cert.Kernel3Ideal.nD) → Buf (Elt Ideal) ((c.tc : Thread Cert.Kernel3Ideal.nD Cert.Kernel3Ideal.τ).loc Cert.Kernel3Ideal.main_v2_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_1) = v0 c
          ∧ r.2.mem ((c.tc : Thread Cert.Kernel3Ideal.nD Cert.Kernel3Ideal.τ).loc Cert.Kernel3Ideal.main_v2_0) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_v21) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v7_0)) (v1 : (c : Dev Cert.Kernel4Ideal.nD) → Buf (Elt Ideal) ((c.tc : Thread Cert.Kernel4Ideal.nD Cert.Kernel4Ideal.τ).loc Cert.Kernel4Ideal.main_v7_1)) (v2 : (c : Dev Cert.Kernel4Ideal.nD) → Buf (Elt Ideal) ((c.tc : Thread Cert.Kernel4Ideal.nD Cert.Kernel4Ideal.τ).loc Cert.Kernel4Ideal.main_v7_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_0) = v0 c
          ∧ r.2.mem ((c.tc : Thread Cert.Kernel4Ideal.nD Cert.Kernel4Ideal.τ).loc Cert.Kernel4Ideal.main_v7_1) = v1 c
          ∧ r.2.mem ((c.tc : Thread Cert.Kernel4Ideal.nD Cert.Kernel4Ideal.τ).loc Cert.Kernel4Ideal.main_v7_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_v21) = v1 c
          ∧ r.2.mem ((c.tc : Thread Cert.Reference4Ideal.nD Cert.Reference4Ideal.τ).loc Cert.Reference4Ideal.main_v20) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v20) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] [hPre_in_range : Cert.Pre_in_range.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v17) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_in_range : Cert.Pre_in_range.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6) (hPre_in_range := hPre_in_range)
    ∧ quiescent_Kernel6Ideal (hKernel6Ideal := hKernel6Ideal) (hPre_in_range := hPre_in_range)
    ∧ quiescent_Reference6Ideal (hReference6Ideal := hReference6Ideal)
    ∧ quiescent_Reference6Ideal_pre_in_range (hReference6Ideal := hReference6Ideal) (hPre_in_range := hPre_in_range)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal) (hPre_in_range := hPre_in_range)
-- ==== Pre_finite.lean ====
abbrev S8x8192x3456 : Shape := ⟨3, ![8, 8192, 3456]⟩
abbrev S4x15x31 : Shape := ⟨3, ![4, 15, 31]⟩
abbrev S_ : Shape := ⟨0, ![]⟩

class Facts : Prop where
  bcast_S_S8x8192x3456 : S_.BroadcastsInDim S8x8192x3456 (![] : Fin 0 → Fin S8x8192x3456.rank)
  reducesTo_S8x8192x3456_S_d0_1_2 : S8x8192x3456.ReducesTo [0, 1, 2] S_
  h_S_ : 0 < S_.numel
  bcast_S_S4x15x31 : S_.BroadcastsInDim S4x15x31 (![] : Fin 0 → Fin S4x15x31.rank)
  reducesTo_S4x15x31_S_d0_1_2 : S4x15x31.ReducesTo [0, 1, 2] S_

variable [Facts]

def fn {F : FTy → Type} [FloatOps F] (main_arg0 : FVec F S8x8192x3456 .f32) (main_arg1 : FVec F S4x15x31 .f32) : IVec S_ 1 :=
  let main_v0 : FVec F S8x8192x3456 .f32 := Host.absf main_arg0
  let main_cst : FVec F S_ .f32 := constant S_ .f32 0x7F800000#32
  let main_v1 : FVec F S8x8192x3456 .f32 := broadcastInDim S8x8192x3456 ![] bcast_S_S8x8192x3456 main_cst
  let main_v2 : IVec S8x8192x3456 1 := cmpf .olt main_v0 main_v1
  let main_c : IVec S_ 1 := constantI S_ 1 1#1
  let main_v3 : IVec S_ 1 := (fun x v => Host.reduce IntOp.andi x v reducesTo_S8x8192x3456_S_d0_1_2 h_S_) main_v2 main_c
  let main_v4 : FVec F S4x15x31 .f32 := Host.absf main_arg1
  let main_cst_0 : FVec F S_ .f32 := constant S_ .f32 0x7F800000#32
  let main_v5 : FVec F S4x15x31 .f32 := broadcastInDim S4x15x31 ![] bcast_S_S4x15x31 main_cst_0
  let main_v6 : IVec S4x15x31 1 := cmpf .olt main_v4 main_v5
  let main_c_1 : IVec S_ 1 := constantI S_ 1 1#1
  let main_v7 : IVec S_ 1 := (fun x v => Host.reduce IntOp.andi x v reducesTo_S4x15x31_S_d0_1_2 h_S_) main_v6 main_c_1
  let main_v8 : IVec S_ 1 := andi main_v3 main_v7
  main_v8
-- ==== Pre_in_range.lean ====
abbrev S147456x1024 : Shape := ⟨2, ![147456, 1024]⟩
abbrev S288 : Shape := ⟨1, ![288]⟩
abbrev S2x32x1024x512 : Shape := ⟨4, ![2, 32, 1024, 512]⟩
abbrev S2x32x512x1024 : Shape := ⟨4, ![2, 32, 512, 1024]⟩
abbrev S_ : Shape := ⟨0, ![]⟩

class Facts : Prop where
  bcast_S_S288 : S_.BroadcastsInDim S288 (![] : Fin 0 → Fin S288.rank)
  reducesTo_S288_S_d0 : S288.ReducesTo [0] S_
  h_S_ : 0 < S_.numel

variable [Facts]

def fn {F : FTy → Type} [FloatOps F] (main_arg0 : FVec F S147456x1024 .bf16) (main_arg1 : IVec S288 32) (main_arg2 : FVec F S2x32x1024x512 .f32) (main_arg3 : FVec F S2x32x1024x512 .f32) (main_arg4 : FVec F S2x32x512x1024 .f32) : IVec S_ 1 :=
  let main_c : IVec S_ 32 := constantI S_ 32 0#32
  let main_v0 : IVec S288 32 := broadcastInDim S288 ![] bcast_S_S288 main_c
  let main_v1 : IVec S288 1 := cmpi .sge main_arg1 main_v0
  let main_c_0 : IVec S_ 32 := constantI S_ 32 32#32
  let main_v2 : IVec S288 32 := broadcastInDim S288 ![] bcast_S_S288 main_c_0
  let main_v3 : IVec S288 1 := cmpi .slt main_arg1 main_v2
  let main_v4 : IVec S288 1 := andi main_v1 main_v3
  let main_c_1 : IVec S_ 1 := constantI S_ 1 1#1
  let main_v5 : IVec S_ 1 := (fun x v => Host.reduce IntOp.andi x v reducesTo_S288_S_d0 h_S_) main_v4 main_c_1
  main_v5
-- ==== Kernel.lean ====
abbrev S8x8192x3456 : Shape := ⟨3, ![8, 8192, 3456]⟩
abbrev S4x15x31 : Shape := ⟨3, ![4, 15, 31]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S4x8x31 : Shape := ⟨3, ![4, 8, 31]⟩
abbrev S4x1x8x31 : Shape := ⟨4, ![4, 1, 8, 31]⟩
abbrev S4x8x8x31 : Shape := ⟨4, ![4, 8, 8, 31]⟩
abbrev S64x64x1 : Shape := ⟨3, ![64, 64, 1]⟩
abbrev S31 : Shape := ⟨1, ![31]⟩
abbrev S1x1x31 : Shape := ⟨3, ![1, 1, 31]⟩
abbrev S64x64x31 : Shape := ⟨3, ![64, 64, 31]⟩
abbrev S4x8x1x8x1x31 : Shape := ⟨6, ![4, 8, 1, 8, 1, 31]⟩
abbrev S1x1x64x1x64x31 : Shape := ⟨6, ![1, 1, 64, 1, 64, 31]⟩
abbrev S4x8x64x8x64x31 : Shape := ⟨6, ![4, 8, 64, 8, 64, 31]⟩
abbrev S4x8x64x8x64 : Shape := ⟨5, ![4, 8, 64, 8, 64]⟩
abbrev S1x1x64x1x64 : Shape := ⟨5, ![1, 1, 64, 1, 64]⟩
abbrev S2x2x8x64x512 : Shape := ⟨5, ![2, 2, 8, 64, 512]⟩
abbrev S8x2x2x64x512 : Shape := ⟨5, ![8, 2, 2, 64, 512]⟩
abbrev S8x2x128x512 : Shape := ⟨4, ![8, 2, 128, 512]⟩
abbrev S8x8192x256 : Shape := ⟨3, ![8, 8192, 256]⟩
abbrev S1x2048x128 : Shape := ⟨3, ![1, 2048, 128]⟩
abbrev S1x8192x128 : Shape := ⟨3, ![1, 8192, 128]⟩
abbrev S8x1x128x512 : Shape := ⟨4, ![8, 1, 128, 512]⟩
abbrev S8192x128 : Shape := ⟨2, ![8192, 128]⟩
abbrev S64x128 : Shape := ⟨2, ![64, 128]⟩
abbrev S1x64x128 : Shape := ⟨3, ![1, 64, 128]⟩
abbrev S128x128 : Shape := ⟨2, ![128, 128]⟩
abbrev S512x128 : Shape := ⟨2, ![512, 128]⟩
abbrev S128x512 : Shape := ⟨2, ![128, 512]⟩
abbrev S1x1x128x512 : Shape := ⟨4, ![1, 1, 128, 512]⟩
abbrev S128 : Shape := ⟨1, ![128]⟩
abbrev S128x1 : Shape := ⟨2, ![128, 1]⟩

abbrev nBuf : Space → Nat
  | .hbm => 85
  | .vmem => 12
  | .smem => 0
  | _ => 0

abbrev bufTy : (tb : Table) → Fin (tcTables nBuf tb) → BufTy
  | .hbm, ⟨0, _⟩ => ⟨S8x8192x3456, .f32⟩
  | .hbm, ⟨1, _⟩ => ⟨S4x15x31, .f32⟩
  | .hbm, ⟨2, _⟩ => ⟨S64, .i32⟩
  | .hbm, ⟨3, _⟩ => ⟨S_, .i32⟩
  | .hbm, ⟨4, _⟩ => ⟨S64, .i32⟩
  | .hbm, ⟨5, _⟩ => ⟨S64, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S64, .i32⟩
  | .hbm, ⟨10, _⟩ => ⟨S64, .i32⟩
  | .hbm, ⟨11, _⟩ => ⟨S_, .i32⟩
  | .hbm, ⟨12, _⟩ => ⟨S64, .i32⟩
  | .hbm, ⟨13, _⟩ => ⟨S64, .i32⟩
  | .hbm, ⟨14, _⟩ => ⟨S1x64, .i32⟩
  | .hbm, ⟨15, _⟩ => ⟨S64x1, .i32⟩
  | .hbm, ⟨16, _⟩ => ⟨S64x64, .i32⟩
  | .hbm, ⟨17, _⟩ => ⟨S64x64, .i32⟩
  | .hbm, ⟨18, _⟩ => ⟨S64x64, .i1⟩
  | .hbm, ⟨19, _⟩ => ⟨S1x64, .i32⟩
  | .hbm, ⟨20, _⟩ => ⟨S64x1, .i32⟩
  | .hbm, ⟨21, _⟩ => ⟨S_, .i32⟩
  | .hbm, ⟨22, _⟩ => ⟨S64x1, .i32⟩
  | .hbm, ⟨23, _⟩ => ⟨S64x1, .i32⟩
  | .hbm, ⟨24, _⟩ => ⟨S64x64, .i32⟩
  | .hbm, ⟨25, _⟩ => ⟨S64x64, .i32⟩
  | .hbm, ⟨26, _⟩ => ⟨S64x64, .i1⟩
  | .hbm, ⟨27, _⟩ => ⟨S64x64, .i1⟩
  | .hbm, ⟨28, _⟩ => ⟨S1x64, .i32⟩
  | .hbm, ⟨29, _⟩ => ⟨S64x1, .i32⟩
  | .hbm, ⟨30, _⟩ => ⟨S64x64, .i32⟩
  | .hbm, ⟨31, _⟩ => ⟨S64x64, .i32⟩
  | .hbm, ⟨32, _⟩ => ⟨S64x64, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S64x64, .i32⟩
  | .hbm, ⟨37, _⟩ => ⟨S64x64, .i32⟩
  | .hbm, ⟨38, _⟩ => ⟨S_, .i32⟩
  | .hbm, ⟨39, _⟩ => ⟨S64x64, .i32⟩
  | .hbm, ⟨40, _⟩ => ⟨S64x64, .i32⟩
  | .hbm, ⟨41, _⟩ => ⟨S_, .i32⟩
  | .hbm, ⟨42, _⟩ => ⟨S64x64, .i32⟩
  | .hbm, ⟨43, _⟩ => ⟨S64x64, .i32⟩
  | .hbm, ⟨44, _⟩ => ⟨S4x8x31, .f32⟩
  | .hbm, ⟨45, _⟩ => ⟨S4x8x31, .f32⟩
  | .hbm, ⟨46, _⟩ => ⟨S4x8x31, .f32⟩
  | .hbm, ⟨47, _⟩ => ⟨S4x8x31, .f32⟩
  | .hbm, ⟨48, _⟩ => ⟨S4x8x31, .f32⟩
  | .hbm, ⟨49, _⟩ => ⟨S4x8x31, .f32⟩
  | .hbm, ⟨50, _⟩ => ⟨S4x8x31, .f32⟩
  | .hbm, ⟨51, _⟩ => ⟨S4x8x31, .f32⟩
  | .hbm, ⟨52, _⟩ => ⟨S4x1x8x31, .f32⟩
  | .hbm, ⟨53, _⟩ => ⟨S4x1x8x31, .f32⟩
  | .hbm, ⟨54, _⟩ => ⟨S4x1x8x31, .f32⟩
  | .hbm, ⟨55, _⟩ => ⟨S4x1x8x31, .f32⟩
  | .hbm, ⟨56, _⟩ => ⟨S4x1x8x31, .f32⟩
  | .hbm, ⟨57, _⟩ => ⟨S4x1x8x31, .f32⟩
  | .hbm, ⟨58, _⟩ => ⟨S4x1x8x31, .f32⟩
  | .hbm, ⟨59, _⟩ => ⟨S4x1x8x31, .f32⟩
  | .hbm, ⟨60, _⟩ => ⟨S4x8x8x31, .f32⟩
  | .hbm, ⟨61, _⟩ => ⟨S64x64x1, .i32⟩
  | .hbm, ⟨62, _⟩ => ⟨S31, .i32⟩
  | .hbm, ⟨63, _⟩ => ⟨S1x1x31, .i32⟩
  | .hbm, ⟨64, _⟩ => ⟨S64x64x31, .i32⟩
  | .hbm, ⟨65, _⟩ => ⟨S64x64x31, .i32⟩
  | .hbm, ⟨66, _⟩ => ⟨S64x64x31, .i1⟩
  | .hbm, ⟨67, _⟩ => ⟨S64x64x31, .f32⟩
  | .hbm, ⟨68, _⟩ => ⟨S4x8x1x8x1x31, .f32⟩
  | .hbm, ⟨69, _⟩ => ⟨S1x1x64x1x64x31, .f32⟩
  | .hbm, ⟨70, _⟩ => ⟨S4x8x64x8x64x31, .f32⟩
  | .hbm, ⟨71, _⟩ => ⟨S4x8x64x8x64x31, .f32⟩
  | .hbm, ⟨72, _⟩ => ⟨S4x8x64x8x64x31, .f32⟩
  | .hbm, ⟨73, _⟩ => ⟨S_, .f32⟩
  | .hbm, ⟨74, _⟩ => ⟨S4x8x64x8x64, .f32⟩
  | .hbm, ⟨75, _⟩ => ⟨S1x1x64x1x64, .i1⟩
  | .hbm, ⟨76, _⟩ => ⟨S_, .f32⟩
  | .hbm, ⟨77, _⟩ => ⟨S_, .f32⟩
  | .hbm, ⟨78, _⟩ => ⟨S4x8x64x8x64, .i1⟩
  | .hbm, ⟨79, _⟩ => ⟨S4x8x64x8x64, .f32⟩
  | .hbm, ⟨80, _⟩ => ⟨S4x8x64x8x64, .f32⟩
  | .hbm, ⟨81, _⟩ => ⟨S2x2x8x64x512, .f32⟩
  | .hbm, ⟨82, _⟩ => ⟨S8x2x2x64x512, .f32⟩
  | .hbm, ⟨83, _⟩ => ⟨S8x2x128x512, .f32⟩
  | .hbm, ⟨84, _⟩ => ⟨S8x8192x256, .bf16⟩
  | .local _ .vmem, ⟨0, _⟩ => ⟨S1x2048x128, .f32⟩
  | .local _ .vmem, ⟨1, _⟩ => ⟨S1x2048x128, .f32⟩
  | .local _ .vmem, ⟨2, _⟩ => ⟨S1x8192x128, .f32⟩
  | .local _ .vmem, ⟨3, _⟩ => ⟨S1x8192x128, .f32⟩
  | .local _ .vmem, ⟨4, _⟩ => ⟨S1x8192x128, .f32⟩
  | .local _ .vmem, ⟨5, _⟩ => ⟨S1x8192x128, .f32⟩
  | .local _ .vmem, ⟨6, _⟩ => ⟨S8x1x128x512, .f32⟩
  | .local _ .vmem, ⟨7, _⟩ => ⟨S8x1x128x512, .f32⟩
  | .local _ .vmem, ⟨8, _⟩ => ⟨S1x2048x128, .bf16⟩
  | .local _ .vmem, ⟨9, _⟩ => ⟨S1x2048x128, .bf16⟩
  | .local _ .vmem, ⟨10, _⟩ => ⟨S8192x128, .bf16⟩
  | .local _ .vmem, ⟨11, _⟩ => ⟨S8192x128, .bf16⟩
  | _, _ => ⟨S8x8192x3456, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_c_1 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_c_4 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst : Ref sig .tc := ⟨.hbm, 73, rfl⟩
abbrev main_v54 : Ref sig .tc := ⟨.hbm, 74, rfl⟩
abbrev main_v55 : Ref sig .tc := ⟨.hbm, 75, rfl⟩
abbrev main_cst_6 : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 4], ![false, false, false]⟩

def k0_mult1 (i : grid0.Coords) : BitVec 32 :=
  let c120_i32 : BitVec 32 := 120#32
  let c0_i32_2 : BitVec 32 := 0#32
  let arg2 : BitVec 32 := BitVec.ofNat 32 (i 2).val
  let c32_i32 : BitVec 32 := 32#32
  let v6 : BitVec 32 := Scalar.muli arg2 c32_i32
  let c0_i32_1 : BitVec 32 := 0#32
  let v7 : BitVec 32 := Scalar.addi v6 c0_i32_1
  let c4_i32 : BitVec 32 := 4#32
  let v8 : BitVec 32 := Scalar.subi v7 c4_i32
  let v9 : BitVec 32 := Scalar.maxsi c0_i32_2 v8
  let v10 : BitVec 32 := Scalar.minsi c120_i32 v9
  let c64_i32_164 : BitVec 32 := 64#32
  let v239 : BitVec 32 := Scalar.muli v10 c64_i32_164
  v239
def k0_off1 (i : grid0.Coords) (c0_i32_1 : BitVec 32) : Fin 2 → Nat :=
  let c120_i32 : BitVec 32 := 120#32
  let c0_i32_2 : BitVec 32 := 0#32
  let arg2 : BitVec 32 := BitVec.ofNat 32 (i 2).val
  let c32_i32 : BitVec 32 := 32#32
  let v6 : BitVec 32 := Scalar.muli arg2 c32_i32
  let v7 : BitVec 32 := Scalar.addi v6 c0_i32_1
  let c4_i32 : BitVec 32 := 4#32
  let v8 : BitVec 32 := Scalar.subi v7 c4_i32
  let v9 : BitVec 32 := Scalar.maxsi c0_i32_2 v8
  let v10 : BitVec 32 := Scalar.minsi c120_i32 v9
  let c64_i32_164 : BitVec 32 := 64#32
  let v239 : BitVec 32 := Scalar.muli v10 c64_i32_164
  let v240 : BitVec 32 := v239
  let v241 : Index := Scalar.indexCast v240
  let c0_165 : Index := 0#32
  ![v241.toNat, 0]
def k0_off2 (i : grid0.Coords) (c0_i32_1 : BitVec 32) : Fin 4 → Nat :=
  let c120_i32 : BitVec 32 := 120#32
  let c0_i32_2 : BitVec 32 := 0#32
  let arg2 : BitVec 32 := BitVec.ofNat 32 (i 2).val
  let c32_i32 : BitVec 32 := 32#32
  let v6 : BitVec 32 := Scalar.muli arg2 c32_i32
  let v7 : BitVec 32 := Scalar.addi v6 c0_i32_1
  let c4_i32 : BitVec 32 := 4#32
  let v8 : BitVec 32 := Scalar.subi v7 c4_i32
  let v9 : BitVec 32 := Scalar.maxsi c0_i32_2 v8
  let v10 : BitVec 32 := Scalar.minsi c120_i32 v9
  let v11 : BitVec 32 := Scalar.subi v10 v7
  let c7_i32 : BitVec 32 := 7#32
  let v12 : BitVec 32 := Scalar.addi v11 c7_i32
  let v245 : Index := Scalar.indexCast v12
  let c0_167 : Index := 0#32
  let c0_168 : Index := 0#32
  let c0_169 : Index := 0#32
  ![v245.toNat, 0, 0, 0]
def k0_mult2 (i : grid0.Coords) : BitVec 32 :=
  let c120_i32_6 : BitVec 32 := 120#32
  let c0_i32_5 : BitVec 32 := 0#32
  let arg2 : BitVec 32 := BitVec.ofNat 32 (i 2).val
  let c32_i32_3 : BitVec 32 := 32#32
  let v13 : BitVec 32 := Scalar.muli arg2 c32_i32_3
  let c1_i32 : BitVec 32 := 1#32
  let v14 : BitVec 32 := Scalar.addi v13 c1_i32
  let c4_i32_4 : BitVec 32 := 4#32
  let v15 : BitVec 32 := Scalar.subi v14 c4_i32_4
  let v16 : BitVec 32 := Scalar.maxsi c0_i32_5 v15
  let v17 : BitVec 32 := Scalar.minsi c120_i32_6 v16
  let c64_i32_175 : BitVec 32 := 64#32
  let v258 : BitVec 32 := Scalar.muli v17 c64_i32_175
  v258
def k0_mult3 (i : grid0.Coords) : BitVec 32 :=
  let c120_i32_11 : BitVec 32 := 120#32
  let c0_i32_10 : BitVec 32 := 0#32
  let arg2 : BitVec 32 := BitVec.ofNat 32 (i 2).val
  let c32_i32_8 : BitVec 32 := 32#32
  let v20 : BitVec 32 := Scalar.muli arg2 c32_i32_8
  let c2_i32 : BitVec 32 := 2#32
  let v21 : BitVec 32 := Scalar.addi v20 c2_i32
  let c4_i32_9 : BitVec 32 := 4#32
  let v22 : BitVec 32 := Scalar.subi v21 c4_i32_9
  let v23 : BitVec 32 := Scalar.maxsi c0_i32_10 v22
  let v24 : BitVec 32 := Scalar.minsi c120_i32_11 v23
  let c64_i32_186 : BitVec 32 := 64#32
  let v277 : BitVec 32 := Scalar.muli v24 c64_i32_186
  v277
def k0_mult4 (i : grid0.Coords) : BitVec 32 :=
  let c120_i32_16 : BitVec 32 := 120#32
  let c0_i32_15 : BitVec 32 := 0#32
  let arg2 : BitVec 32 := BitVec.ofNat 32 (i 2).val
  let c32_i32_13 : BitVec 32 := 32#32
  let v27 : BitVec 32 := Scalar.muli arg2 c32_i32_13
  let c3_i32 : BitVec 32 := 3#32
  let v28 : BitVec 32 := Scalar.addi v27 c3_i32
  let c4_i32_14 : BitVec 32 := 4#32
  let v29 : BitVec 32 := Scalar.subi v28 c4_i32_14
  let v30 : BitVec 32 := Scalar.maxsi c0_i32_15 v29
  let v31 : BitVec 32 := Scalar.minsi c120_i32_16 v30
  let c64_i32_197 : BitVec 32 := 64#32
  let v296 : BitVec 32 := Scalar.muli v31 c64_i32_197
  v296
def k0_mult5 (i : grid0.Coords) : BitVec 32 :=
  let c120_i32_22 : BitVec 32 := 120#32
  let c0_i32_21 : BitVec 32 := 0#32
  let arg2 : BitVec 32 := BitVec.ofNat 32 (i 2).val
  let c32_i32_18 : BitVec 32 := 32#32
  let v34 : BitVec 32 := Scalar.muli arg2 c32_i32_18
  let c4_i32_19 : BitVec 32 := 4#32
  let v35 : BitVec 32 := Scalar.addi v34 c4_i32_19
  let c4_i32_20 : BitVec 32 := 4#32
  let v36 : BitVec 32 := Scalar.subi v35 c4_i32_20
  let v37 : BitVec 32 := Scalar.maxsi c0_i32_21 v36
  let v38 : BitVec 32 := Scalar.minsi c120_i32_22 v37
  let c64_i32_208 : BitVec 32 := 64#32
  let v315 : BitVec 32 := Scalar.muli v38 c64_i32_208
  v315
def k0_mult6 (i : grid0.Coords) : BitVec 32 :=
  let c120_i32_27 : BitVec 32 := 120#32
  let c0_i32_26 : BitVec 32 := 0#32
  let arg2 : BitVec 32 := BitVec.ofNat 32 (i 2).val
  let c32_i32_24 : BitVec 32 := 32#32
  let v41 : BitVec 32 := Scalar.muli arg2 c32_i32_24
  let c5_i32 : BitVec 32 := 5#32
  let v42 : BitVec 32 := Scalar.addi v41 c5_i32
  let c4_i32_25 : BitVec 32 := 4#32
  let v43 : BitVec 32 := Scalar.subi v42 c4_i32_25
  let v44 : BitVec 32 := Scalar.maxsi c0_i32_26 v43
  let v45 : BitVec 32 := Scalar.minsi c120_i32_27 v44
  let c64_i32_219 : BitVec 32 := 64#32
  let v334 : BitVec 32 := Scalar.muli v45 c64_i32_219
  v334
def k0_mult7 (i : grid0.Coords) : BitVec 32 :=
  let c120_i32_32 : BitVec 32 := 120#32
  let c0_i32_31 : BitVec 32 := 0#32
  let arg2 : BitVec 32 := BitVec.ofNat 32 (i 2).val
  let c32_i32_29 : BitVec 32 := 32#32
  let v48 : BitVec 32 := Scalar.muli arg2 c32_i32_29
  let c6_i32 : BitVec 32 := 6#32
  let v49 : BitVec 32 := Scalar.addi v48 c6_i32
  let c4_i32_30 : BitVec 32 := 4#32
  let v50 : BitVec 32 := Scalar.subi v49 c4_i32_30
  let v51 : BitVec 32 := Scalar.maxsi c0_i32_31 v50
  let v52 : BitVec 32 := Scalar.minsi c120_i32_32 v51
  let c64_i32_230 : BitVec 32 := 64#32
  let v353 : BitVec 32 := Scalar.muli v52 c64_i32_230
  v353
def k0_mult8 (i : grid0.Coords) : BitVec 32 :=
  let c120_i32_38 : BitVec 32 := 120#32
  let c0_i32_37 : BitVec 32 := 0#32
  let arg2 : BitVec 32 := BitVec.ofNat 32 (i 2).val
  let c32_i32_34 : BitVec 32 := 32#32
  let v55 : BitVec 32 := Scalar.muli arg2 c32_i32_34
  let c7_i32_35 : BitVec 32 := 7#32
  let v56 : BitVec 32 := Scalar.addi v55 c7_i32_35
  let c4_i32_36 : BitVec 32 := 4#32
  let v57 : BitVec 32 := Scalar.subi v56 c4_i32_36
  let v58 : BitVec 32 := Scalar.maxsi c0_i32_37 v57
  let v59 : BitVec 32 := Scalar.minsi c120_i32_38 v58
  let c64_i32_241 : BitVec 32 := 64#32
  let v372 : BitVec 32 := Scalar.muli v59 c64_i32_241
  v372
def k0_mult9 (i : grid0.Coords) : BitVec 32 :=
  let c120_i32_43 : BitVec 32 := 120#32
  let c0_i32_42 : BitVec 32 := 0#32
  let arg2 : BitVec 32 := BitVec.ofNat 32 (i 2).val
  let c32_i32_40 : BitVec 32 := 32#32
  let v62 : BitVec 32 := Scalar.muli arg2 c32_i32_40
  let c8_i32 : BitVec 32 := 8#32
  let v63 : BitVec 32 := Scalar.addi v62 c8_i32
  let c4_i32_41 : BitVec 32 := 4#32
  let v64 : BitVec 32 := Scalar.subi v63 c4_i32_41
  let v65 : BitVec 32 := Scalar.maxsi c0_i32_42 v64
  let v66 : BitVec 32 := Scalar.minsi c120_i32_43 v65
  let c64_i32_252 : BitVec 32 := 64#32
  let v391 : BitVec 32 := Scalar.muli v66 c64_i32_252
  v391
def k0_mult10 (i : grid0.Coords) : BitVec 32 :=
  let c120_i32_48 : BitVec 32 := 120#32
  let c0_i32_47 : BitVec 32 := 0#32
  let arg2 : BitVec 32 := BitVec.ofNat 32 (i 2).val
  let c32_i32_45 : BitVec 32 := 32#32
  let v69 : BitVec 32 := Scalar.muli arg2 c32_i32_45
  let c9_i32 : BitVec 32 := 9#32
  let v70 : BitVec 32 := Scalar.addi v69 c9_i32
  let c4_i32_46 : BitVec 32 := 4#32
  let v71 : BitVec 32 := Scalar.subi v70 c4_i32_46
  let v72 : BitVec 32 := Scalar.maxsi c0_i32_47 v71
  let v73 : BitVec 32 := Scalar.minsi c120_i32_48 v72
  let c64_i32_263 : BitVec 32 := 64#32
  let v410 : BitVec 32 := Scalar.muli v73 c64_i32_263
  v410
def k0_mult11 (i : grid0.Coords) : BitVec 32 :=
  let c120_i32_53 : BitVec 32 := 120#32
  let c0_i32_52 : BitVec 32 := 0#32
  let arg2 : BitVec 32 := BitVec.ofNat 32 (i 2).val
  let c32_i32_50 : BitVec 32 := 32#32
  let v76 : BitVec 32 := Scalar.muli arg2 c32_i32_50
  let c10_i32 : BitVec 32 := 10#32
  let v77 : BitVec 32 := Scalar.addi v76 c10_i32
  let c4_i32_51 : BitVec 32 := 4#32
  let v78 : BitVec 32 := Scalar.subi v77 c4_i32_51
  let v79 : BitVec 32 := Scalar.maxsi c0_i32_52 v78
  let v80 : BitVec 32 := Scalar.minsi c120_i32_53 v79
  let c64_i32_274 : BitVec 32 := 64#32
  let v429 : BitVec 32 := Scalar.muli v80 c64_i32_274
  v429
def k0_mult12 (i : grid0.Coords) : BitVec 32 :=
  let c120_i32_58 : BitVec 32 := 120#32
  let c0_i32_57 : BitVec 32 := 0#32
  let arg2 : BitVec 32 := BitVec.ofNat 32 (i 2).val
  let c32_i32_55 : BitVec 32 := 32#32
  let v83 : BitVec 32 := Scalar.muli arg2 c32_i32_55
  let c11_i32 : BitVec 32 := 11#32
  let v84 : BitVec 32 := Scalar.addi v83 c11_i32
  let c4_i32_56 : BitVec 32 := 4#32
  let v85 : BitVec 32 := Scalar.subi v84 c4_i32_56
  let v86 : BitVec 32 := Scalar.maxsi c0_i32_57 v85
  let v87 : BitVec 32 := Scalar.minsi c120_i32_58 v86
  let c64_i32_285 : BitVec 32 := 64#32
  let v448 : BitVec 32 := Scalar.muli v87 c64_i32_285
  v448
def k0_mult13 (i : grid0.Coords) : BitVec 32 :=
  let c120_i32_63 : BitVec 32 := 120#32
  let c0_i32_62 : BitVec 32 := 0#32
  let arg2 : BitVec 32 := BitVec.ofNat 32 (i 2).val
  let c32_i32_60 : BitVec 32 := 32#32
  let v90 : BitVec 32 := Scalar.muli arg2 c32_i32_60
  let c12_i32 : BitVec 32 := 12#32
  let v91 : BitVec 32 := Scalar.addi v90 c12_i32
  let c4_i32_61 : BitVec 32 := 4#32
  let v92 : BitVec 32 := Scalar.subi v91 c4_i32_61
  let v93 : BitVec 32 := Scalar.maxsi c0_i32_62 v92
  let v94 : BitVec 32 := Scalar.minsi c120_i32_63 v93
  let c64_i32_296 : BitVec 32 := 64#32
  let v467 : BitVec 32 := Scalar.muli v94 c64_i32_296
  v467
def k0_mult14 (i : grid0.Coords) : BitVec 32 :=
  let c120_i32_68 : BitVec 32 := 120#32
  let c0_i32_67 : BitVec 32 := 0#32
  let arg2 : BitVec 32 := BitVec.ofNat 32 (i 2).val
  let c32_i32_65 : BitVec 32 := 32#32
  let v97 : BitVec 32 := Scalar.muli arg2 c32_i32_65
  let c13_i32 : BitVec 32 := 13#32
  let v98 : BitVec 32 := Scalar.addi v97 c13_i32
  let c4_i32_66 : BitVec 32 := 4#32
  let v99 : BitVec 32 := Scalar.subi v98 c4_i32_66
  let v100 : BitVec 32 := Scalar.maxsi c0_i32_67 v99
  let v101 : BitVec 32 := Scalar.minsi c120_i32_68 v100
  let c64_i32_307 : BitVec 32 := 64#32
  let v486 : BitVec 32 := Scalar.muli v101 c64_i32_307
  v486
def k0_mult15 (i : grid0.Coords) : BitVec 32 :=
  let c120_i32_73 : BitVec 32 := 120#32
  let c0_i32_72 : BitVec 32 := 0#32
  let arg2 : BitVec 32 := BitVec.ofNat 32 (i 2).val
  let c32_i32_70 : BitVec 32 := 32#32
  let v104 : BitVec 32 := Scalar.muli arg2 c32_i32_70
  let c14_i32 : BitVec 32 := 14#32
  let v105 : BitVec 32 := Scalar.addi v104 c14_i32
  let c4_i32_71 : BitVec 32 := 4#32
  let v106 : BitVec 32 := Scalar.subi v105 c4_i32_71
  let v107 : BitVec 32 := Scalar.maxsi c0_i32_72 v106
  let v108 : BitVec 32 := Scalar.minsi c120_i32_73 v107
  let c64_i32_318 : BitVec 32 := 64#32
  let v505 : BitVec 32 := Scalar.muli v108 c64_i32_318
  v505
def k0_mult16 (i : grid0.Coords) : BitVec 32 :=
  let c120_i32_78 : BitVec 32 := 120#32
  let c0_i32_77 : BitVec 32 := 0#32
  let arg2 : BitVec 32 := BitVec.ofNat 32 (i 2).val
  let c32_i32_75 : BitVec 32 := 32#32
  let v111 : BitVec 32 := Scalar.muli arg2 c32_i32_75
  let c15_i32 : BitVec 32 := 15#32
  let v112 : BitVec 32 := Scalar.addi v111 c15_i32
  let c4_i32_76 : BitVec 32 := 4#32
  let v113 : BitVec 32 := Scalar.subi v112 c4_i32_76
  let v114 : BitVec 32 := Scalar.maxsi c0_i32_77 v113
  let v115 : BitVec 32 := Scalar.minsi c120_i32_78 v114
  let c64_i32_329 : BitVec 32 := 64#32
  let v524 : BitVec 32 := Scalar.muli v115 c64_i32_329
  v524
def k0_mult17 (i : grid0.Coords) : BitVec 32 :=
  let c120_i32_83 : BitVec 32 := 120#32
  let c0_i32_82 : BitVec 32 := 0#32
  let arg2 : BitVec 32 := BitVec.ofNat 32 (i 2).val
  let c32_i32_80 : BitVec 32 := 32#32
  let v118 : BitVec 32 := Scalar.muli arg2 c32_i32_80
  let c16_i32 : BitVec 32 := 16#32
  let v119 : BitVec 32 := Scalar.addi v118 c16_i32
  let c4_i32_81 : BitVec 32 := 4#32
  let v120 : BitVec 32 := Scalar.subi v119 c4_i32_81
  let v121 : BitVec 32 := Scalar.maxsi c0_i32_82 v120
  let v122 : BitVec 32 := Scalar.minsi c120_i32_83 v121
  let c64_i32_340 : BitVec 32 := 64#32
  let v543 : BitVec 32 := Scalar.muli v122 c64_i32_340
  v543
def k0_mult18 (i : grid0.Coords) : BitVec 32 :=
  let c120_i32_88 : BitVec 32 := 120#32
  let c0_i32_87 : BitVec 32 := 0#32
  let arg2 : BitVec 32 := BitVec.ofNat 32 (i 2).val
  let c32_i32_85 : BitVec 32 := 32#32
  let v125 : BitVec 32 := Scalar.muli arg2 c32_i32_85
  let c17_i32 : BitVec 32 := 17#32
  let v126 : BitVec 32 := Scalar.addi v125 c17_i32
  let c4_i32_86 : BitVec 32 := 4#32
  let v127 : BitVec 32 := Scalar.subi v126 c4_i32_86
  let v128 : BitVec 32 := Scalar.maxsi c0_i32_87 v127
  let v129 : BitVec 32 := Scalar.minsi c120_i32_88 v128
  let c64_i32_351 : BitVec 32 := 64#32
  let v562 : BitVec 32 := Scalar.muli v129 c64_i32_351
  v562
def k0_mult19 (i : grid0.Coords) : BitVec 32 :=
  let c120_i32_93 : BitVec 32 := 120#32
  let c0_i32_92 : BitVec 32 := 0#32
  let arg2 : BitVec 32 := BitVec.ofNat 32 (i 2).val
  let c32_i32_90 : BitVec 32 := 32#32
  let v132 : BitVec 32 := Scalar.muli arg2 c32_i32_90
  let c18_i32 : BitVec 32 := 18#32
  let v133 : BitVec 32 := Scalar.addi v132 c18_i32
  let c4_i32_91 : BitVec 32 := 4#32
  let v134 : BitVec 32 := Scalar.subi v133 c4_i32_91
  let v135 : BitVec 32 := Scalar.maxsi c0_i32_92 v134
  let v136 : BitVec 32 := Scalar.minsi c120_i32_93 v135
  let c64_i32_362 : BitVec 32 := 64#32
  let v581 : BitVec 32 := Scalar.muli v136 c64_i32_362
  v581
def k0_mult20 (i : grid0.Coords) : BitVec 32 :=
  let c120_i32_98 : BitVec 32 := 120#32
  let c0_i32_97 : BitVec 32 := 0#32
  let arg2 : BitVec 32 := BitVec.ofNat 32 (i 2).val
  let c32_i32_95 : BitVec 32 := 32#32
  let v139 : BitVec 32 := Scalar.muli arg2 c32_i32_95
  let c19_i32 : BitVec 32 := 19#32
  let v140 : BitVec 32 := Scalar.addi v139 c19_i32
  let c4_i32_96 : BitVec 32 := 4#32
  let v141 : BitVec 32 := Scalar.subi v140 c4_i32_96
  let v142 : BitVec 32 := Scalar.maxsi c0_i32_97 v141
  let v143 : BitVec 32 := Scalar.minsi c120_i32_98 v142
  let c64_i32_373 : BitVec 32 := 64#32
  let v600 : BitVec 32 := Scalar.muli v143 c64_i32_373
  v600
def k0_mult21 (i : grid0.Coords) : BitVec 32 :=
  let c120_i32_103 : BitVec 32 := 120#32
  let c0_i32_102 : BitVec 32 := 0#32
  let arg2 : BitVec 32 := BitVec.ofNat 32 (i 2).val
  let c32_i32_100 : BitVec 32 := 32#32
  let v146 : BitVec 32 := Scalar.muli arg2 c32_i32_100
  let c20_i32 : BitVec 32 := 20#32
  let v147 : BitVec 32 := Scalar.addi v146 c20_i32
  let c4_i32_101 : BitVec 32 := 4#32
  let v148 : BitVec 32 := Scalar.subi v147 c4_i32_101
  let v149 : BitVec 32 := Scalar.maxsi c0_i32_102 v148
  let v150 : BitVec 32 := Scalar.minsi c120_i32_103 v149
  let c64_i32_384 : BitVec 32 := 64#32
  let v619 : BitVec 32 := Scalar.muli v150 c64_i32_384
  v619
def k0_mult22 (i : grid0.Coords) : BitVec 32 :=
  let c120_i32_108 : BitVec 32 := 120#32
  let c0_i32_107 : BitVec 32 := 0#32
  let arg2 : BitVec 32 := BitVec.ofNat 32 (i 2).val
  let c32_i32_105 : BitVec 32 := 32#32
  let v153 : BitVec 32 := Scalar.muli arg2 c32_i32_105
  let c21_i32 : BitVec 32 := 21#32
  let v154 : BitVec 32 := Scalar.addi v153 c21_i32
  let c4_i32_106 : BitVec 32 := 4#32
  let v155 : BitVec 32 := Scalar.subi v154 c4_i32_106
  let v156 : BitVec 32 := Scalar.maxsi c0_i32_107 v155
  let v157 : BitVec 32 := Scalar.minsi c120_i32_108 v156
  let c64_i32_395 : BitVec 32 := 64#32
  let v638 : BitVec 32 := Scalar.muli v157 c64_i32_395
  v638
def k0_mult23 (i : grid0.Coords) : BitVec 32 :=
  let c120_i32_113 : BitVec 32 := 120#32
  let c0_i32_112 : BitVec 32 := 0#32
  let arg2 : BitVec 32 := BitVec.ofNat 32 (i 2).val
  let c32_i32_110 : BitVec 32 := 32#32
  let v160 : BitVec 32 := Scalar.muli arg2 c32_i32_110
  let c22_i32 : BitVec 32 := 22#32
  let v161 : BitVec 32 := Scalar.addi v160 c22_i32
  let c4_i32_111 : BitVec 32 := 4#32
  let v162 : BitVec 32 := Scalar.subi v161 c4_i32_111
  let v163 : BitVec 32 := Scalar.maxsi c0_i32_112 v162
  let v164 : BitVec 32 := Scalar.minsi c120_i32_113 v163
  let c64_i32_406 : BitVec 32 := 64#32
  let v657 : BitVec 32 := Scalar.muli v164 c64_i32_406
  v657
def k0_mult24 (i : grid0.Coords) : BitVec 32 :=
  let c120_i32_118 : BitVec 32 := 120#32
  let c0_i32_117 : BitVec 32 := 0#32
  let arg2 : BitVec 32 := BitVec.ofNat 32 (i 2).val
  let c32_i32_115 : BitVec 32 := 32#32
  let v167 : BitVec 32 := Scalar.muli arg2 c32_i32_115
  let c23_i32 : BitVec 32 := 23#32
  let v168 : BitVec 32 := Scalar.addi v167 c23_i32
  let c4_i32_116 : BitVec 32 := 4#32
  let v169 : BitVec 32 := Scalar.subi v168 c4_i32_116
  let v170 : BitVec 32 := Scalar.maxsi c0_i32_117 v169
  let v171 : BitVec 32 := Scalar.minsi c120_i32_118 v170
  let c64_i32_417 : BitVec 32 := 64#32
  let v676 : BitVec 32 := Scalar.muli v171 c64_i32_417
  v676
def k0_mult25 (i : grid0.Coords) : BitVec 32 :=
  let c120_i32_123 : BitVec 32 := 120#32
  let c0_i32_122 : BitVec 32 := 0#32
  let arg2 : BitVec 32 := BitVec.ofNat 32 (i 2).val
  let c32_i32_120 : BitVec 32 := 32#32
  let v174 : BitVec 32 := Scalar.muli arg2 c32_i32_120
  let c24_i32 : BitVec 32 := 24#32
  let v175 : BitVec 32 := Scalar.addi v174 c24_i32
  let c4_i32_121 : BitVec 32 := 4#32
  let v176 : BitVec 32 := Scalar.subi v175 c4_i32_121
  let v177 : BitVec 32 := Scalar.maxsi c0_i32_122 v176
  let v178 : BitVec 32 := Scalar.minsi c120_i32_123 v177
  let c64_i32_428 : BitVec 32 := 64#32
  let v695 : BitVec 32 := Scalar.muli v178 c64_i32_428
  v695
def k0_mult26 (i : grid0.Coords) : BitVec 32 :=
  let c120_i32_128 : BitVec 32 := 120#32
  let c0_i32_127 : BitVec 32 := 0#32
  let arg2 : BitVec 32 := BitVec.ofNat 32 (i 2).val
  let c32_i32_125 : BitVec 32 := 32#32
  let v181 : BitVec 32 := Scalar.muli arg2 c32_i32_125
  let c25_i32 : BitVec 32 := 25#32
  let v182 : BitVec 32 := Scalar.addi v181 c25_i32
  let c4_i32_126 : BitVec 32 := 4#32
  let v183 : BitVec 32 := Scalar.subi v182 c4_i32_126
  let v184 : BitVec 32 := Scalar.maxsi c0_i32_127 v183
  let v185 : BitVec 32 := Scalar.minsi c120_i32_128 v184
  let c64_i32_439 : BitVec 32 := 64#32
  let v714 : BitVec 32 := Scalar.muli v185 c64_i32_439
  v714
def k0_mult27 (i : grid0.Coords) : BitVec 32 :=
  let c120_i32_133 : BitVec 32 := 120#32
  let c0_i32_132 : BitVec 32 := 0#32
  let arg2 : BitVec 32 := BitVec.ofNat 32 (i 2).val
  let c32_i32_130 : BitVec 32 := 32#32
  let v188 : BitVec 32 := Scalar.muli arg2 c32_i32_130
  let c26_i32 : BitVec 32 := 26#32
  let v189 : BitVec 32 := Scalar.addi v188 c26_i32
  let c4_i32_131 : BitVec 32 := 4#32
  let v190 : BitVec 32 := Scalar.subi v189 c4_i32_131
  let v191 : BitVec 32 := Scalar.maxsi c0_i32_132 v190
  let v192 : BitVec 32 := Scalar.minsi c120_i32_133 v191
  let c64_i32_450 : BitVec 32 := 64#32
  let v733 : BitVec 32 := Scalar.muli v192 c64_i32_450
  v733
def k0_mult28 (i : grid0.Coords) : BitVec 32 :=
  let c120_i32_138 : BitVec 32 := 120#32
  let c0_i32_137 : BitVec 32 := 0#32
  let arg2 : BitVec 32 := BitVec.ofNat 32 (i 2).val
  let c32_i32_135 : BitVec 32 := 32#32
  let v195 : BitVec 32 := Scalar.muli arg2 c32_i32_135
  let c27_i32 : BitVec 32 := 27#32
  let v196 : BitVec 32 := Scalar.addi v195 c27_i32
  let c4_i32_136 : BitVec 32 := 4#32
  let v197 : BitVec 32 := Scalar.subi v196 c4_i32_136
  let v198 : BitVec 32 := Scalar.maxsi c0_i32_137 v197
  let v199 : BitVec 32 := Scalar.minsi c120_i32_138 v198
  let c64_i32_461 : BitVec 32 := 64#32
  let v752 : BitVec 32 := Scalar.muli v199 c64_i32_461
  v752
def k0_mult29 (i : grid0.Coords) : BitVec 32 :=
  let c120_i32_143 : BitVec 32 := 120#32
  let c0_i32_142 : BitVec 32 := 0#32
  let arg2 : BitVec 32 := BitVec.ofNat 32 (i 2).val
  let c32_i32_140 : BitVec 32 := 32#32
  let v202 : BitVec 32 := Scalar.muli arg2 c32_i32_140
  let c28_i32 : BitVec 32 := 28#32
  let v203 : BitVec 32 := Scalar.addi v202 c28_i32
  let c4_i32_141 : BitVec 32 := 4#32
  let v204 : BitVec 32 := Scalar.subi v203 c4_i32_141
  let v205 : BitVec 32 := Scalar.maxsi c0_i32_142 v204
  let v206 : BitVec 32 := Scalar.minsi c120_i32_143 v205
  let c64_i32_472 : BitVec 32 := 64#32
  let v771 : BitVec 32 := Scalar.muli v206 c64_i32_472
  v771
def k0_mult30 (i : grid0.Coords) : BitVec 32 :=
  let c120_i32_148 : BitVec 32 := 120#32
  let c0_i32_147 : BitVec 32 := 0#32
  let arg2 : BitVec 32 := BitVec.ofNat 32 (i 2).val
  let c32_i32_145 : BitVec 32 := 32#32
  let v209 : BitVec 32 := Scalar.muli arg2 c32_i32_145
  let c29_i32 : BitVec 32 := 29#32
  let v210 : BitVec 32 := Scalar.addi v209 c29_i32
  let c4_i32_146 : BitVec 32 := 4#32
  let v211 : BitVec 32 := Scalar.subi v210 c4_i32_146
  let v212 : BitVec 32 := Scalar.maxsi c0_i32_147 v211
  let v213 : BitVec 32 := Scalar.minsi c120_i32_148 v212
  let c64_i32_483 : BitVec 32 := 64#32
  let v790 : BitVec 32 := Scalar.muli v213 c64_i32_483
  v790
def k0_mult31 (i : grid0.Coords) : BitVec 32 :=
  let c120_i32_153 : BitVec 32 := 120#32
  let c0_i32_152 : BitVec 32 := 0#32
  let arg2 : BitVec 32 := BitVec.ofNat 32 (i 2).val
  let c32_i32_150 : BitVec 32 := 32#32
  let v216 : BitVec 32 := Scalar.muli arg2 c32_i32_150
  let c30_i32 : BitVec 32 := 30#32
  let v217 : BitVec 32 := Scalar.addi v216 c30_i32
  let c4_i32_151 : BitVec 32 := 4#32
  let v218 : BitVec 32 := Scalar.subi v217 c4_i32_151
  let v219 : BitVec 32 := Scalar.maxsi c0_i32_152 v218
  let v220 : BitVec 32 := Scalar.minsi c120_i32_153 v219
  let c64_i32_494 : BitVec 32 := 64#32
  let v809 : BitVec 32 := Scalar.muli v220 c64_i32_494
  v809
def k0_mult32 (i : grid0.Coords) : BitVec 32 :=
  let c120_i32_158 : BitVec 32 := 120#32
  let c0_i32_157 : BitVec 32 := 0#32
  let arg2 : BitVec 32 := BitVec.ofNat 32 (i 2).val
  let c32_i32_155 : BitVec 32 := 32#32
  let v223 : BitVec 32 := Scalar.muli arg2 c32_i32_155
  let c31_i32 : BitVec 32 := 31#32
  let v224 : BitVec 32 := Scalar.addi v223 c31_i32
  let c4_i32_156 : BitVec 32 := 4#32
  let v225 : BitVec 32 := Scalar.subi v224 c4_i32_156
  let v226 : BitVec 32 := Scalar.maxsi c0_i32_157 v225
  let v227 : BitVec 32 := Scalar.minsi c120_i32_158 v226
  let c64_i32_505 : BitVec 32 := 64#32
  let v828 : BitVec 32 := Scalar.muli v227 c64_i32_505
  v828
def k0_mult33 (i : grid0.Coords) : BitVec 32 :=
  let c120_i32 : BitVec 32 := 120#32
  let c0_i32_2 : BitVec 32 := 0#32
  let arg2 : BitVec 32 := BitVec.ofNat 32 (i 2).val
  let c32_i32 : BitVec 32 := 32#32
  let v6 : BitVec 32 := Scalar.muli arg2 c32_i32
  let c0_i32_1 : BitVec 32 := 0#32
  let v7 : BitVec 32 := Scalar.addi v6 c0_i32_1
  let c4_i32 : BitVec 32 := 4#32
  let v8 : BitVec 32 := Scalar.subi v7 c4_i32
  let v9 : BitVec 32 := Scalar.maxsi c0_i32_2 v8
  let v10 : BitVec 32 := Scalar.minsi c120_i32 v9
  let c64_i32_575 : BitVec 32 := 64#32
  let v1062 : BitVec 32 := Scalar.muli v10 c64_i32_575
  v1062
def k0_mult34 (i : grid0.Coords) : BitVec 32 :=
  let c120_i32_6 : BitVec 32 := 120#32
  let c0_i32_5 : BitVec 32 := 0#32
  let arg2 : BitVec 32 := BitVec.ofNat 32 (i 2).val
  let c32_i32_3 : BitVec 32 := 32#32
  let v13 : BitVec 32 := Scalar.muli arg2 c32_i32_3
  let c1_i32 : BitVec 32 := 1#32
  let v14 : BitVec 32 := Scalar.addi v13 c1_i32
  let c4_i32_4 : BitVec 32 := 4#32
  let v15 : BitVec 32 := Scalar.subi v14 c4_i32_4
  let v16 : BitVec 32 := Scalar.maxsi c0_i32_5 v15
  let v17 : BitVec 32 := Scalar.minsi c120_i32_6 v16
  let c64_i32_581 : BitVec 32 := 64#32
  let v1077 : BitVec 32 := Scalar.muli v17 c64_i32_581
  v1077
def k0_mult35 (i : grid0.Coords) : BitVec 32 :=
  let c120_i32_11 : BitVec 32 := 120#32
  let c0_i32_10 : BitVec 32 := 0#32
  let arg2 : BitVec 32 := BitVec.ofNat 32 (i 2).val
  let c32_i32_8 : BitVec 32 := 32#32
  let v20 : BitVec 32 := Scalar.muli arg2 c32_i32_8
  let c2_i32 : BitVec 32 := 2#32
  let v21 : BitVec 32 := Scalar.addi v20 c2_i32
  let c4_i32_9 : BitVec 32 := 4#32
  let v22 : BitVec 32 := Scalar.subi v21 c4_i32_9
  let v23 : BitVec 32 := Scalar.maxsi c0_i32_10 v22
  let v24 : BitVec 32 := Scalar.minsi c120_i32_11 v23
  let c64_i32_587 : BitVec 32 := 64#32
  let v1092 : BitVec 32 := Scalar.muli v24 c64_i32_587
  v1092
def k0_mult36 (i : grid0.Coords) : BitVec 32 :=
  let c120_i32_16 : BitVec 32 := 120#32
  let c0_i32_15 : BitVec 32 := 0#32
  let arg2 : BitVec 32 := BitVec.ofNat 32 (i 2).val
  let c32_i32_13 : BitVec 32 := 32#32
  let v27 : BitVec 32 := Scalar.muli arg2 c32_i32_13
  let c3_i32 : BitVec 32 := 3#32
  let v28 : BitVec 32 := Scalar.addi v27 c3_i32
  let c4_i32_14 : BitVec 32 := 4#32
  let v29 : BitVec 32 := Scalar.subi v28 c4_i32_14
  let v30 : BitVec 32 := Scalar.maxsi c0_i32_15 v29
  let v31 : BitVec 32 := Scalar.minsi c120_i32_16 v30
  let c64_i32_593 : BitVec 32 := 64#32
  let v1107 : BitVec 32 := Scalar.muli v31 c64_i32_593
  v1107
def k0_mult37 (i : grid0.Coords) : BitVec 32 :=
  let c120_i32_22 : BitVec 32 := 120#32
  let c0_i32_21 : BitVec 32 := 0#32
  let arg2 : BitVec 32 := BitVec.ofNat 32 (i 2).val
  let c32_i32_18 : BitVec 32 := 32#32
  let v34 : BitVec 32 := Scalar.muli arg2 c32_i32_18
  let c4_i32_19 : BitVec 32 := 4#32
  let v35 : BitVec 32 := Scalar.addi v34 c4_i32_19
  let c4_i32_20 : BitVec 32 := 4#32
  let v36 : BitVec 32 := Scalar.subi v35 c4_i32_20
  let v37 : BitVec 32 := Scalar.maxsi c0_i32_21 v36
  let v38 : BitVec 32 := Scalar.minsi c120_i32_22 v37
  let c64_i32_599 : BitVec 32 := 64#32
  let v1122 : BitVec 32 := Scalar.muli v38 c64_i32_599
  v1122
def k0_mult38 (i : grid0.Coords) : BitVec 32 :=
  let c120_i32_27 : BitVec 32 := 120#32
  let c0_i32_26 : BitVec 32 := 0#32
  let arg2 : BitVec 32 := BitVec.ofNat 32 (i 2).val
  let c32_i32_24 : BitVec 32 := 32#32
  let v41 : BitVec 32 := Scalar.muli arg2 c32_i32_24
  let c5_i32 : BitVec 32 := 5#32
  let v42 : BitVec 32 := Scalar.addi v41 c5_i32
  let c4_i32_25 : BitVec 32 := 4#32
  let v43 : BitVec 32 := Scalar.subi v42 c4_i32_25
  let v44 : BitVec 32 := Scalar.maxsi c0_i32_26 v43
  let v45 : BitVec 32 := Scalar.minsi c120_i32_27 v44
  let c64_i32_605 : BitVec 32 := 64#32
  let v1137 : BitVec 32 := Scalar.muli v45 c64_i32_605
  v1137
def k0_mult39 (i : grid0.Coords) : BitVec 32 :=
  let c120_i32_32 : BitVec 32 := 120#32
  let c0_i32_31 : BitVec 32 := 0#32
  let arg2 : BitVec 32 := BitVec.ofNat 32 (i 2).val
  let c32_i32_29 : BitVec 32 := 32#32
  let v48 : BitVec 32 := Scalar.muli arg2 c32_i32_29
  let c6_i32 : BitVec 32 := 6#32
  let v49 : BitVec 32 := Scalar.addi v48 c6_i32
  let c4_i32_30 : BitVec 32 := 4#32
  let v50 : BitVec 32 := Scalar.subi v49 c4_i32_30
  let v51 : BitVec 32 := Scalar.maxsi c0_i32_31 v50
  let v52 : BitVec 32 := Scalar.minsi c120_i32_32 v51
  let c64_i32_611 : BitVec 32 := 64#32
  let v1152 : BitVec 32 := Scalar.muli v52 c64_i32_611
  v1152
def k0_mult40 (i : grid0.Coords) : BitVec 32 :=
  let c120_i32_38 : BitVec 32 := 120#32
  let c0_i32_37 : BitVec 32 := 0#32
  let arg2 : BitVec 32 := BitVec.ofNat 32 (i 2).val
  let c32_i32_34 : BitVec 32 := 32#32
  let v55 : BitVec 32 := Scalar.muli arg2 c32_i32_34
  let c7_i32_35 : BitVec 32 := 7#32
  let v56 : BitVec 32 := Scalar.addi v55 c7_i32_35
  let c4_i32_36 : BitVec 32 := 4#32
  let v57 : BitVec 32 := Scalar.subi v56 c4_i32_36
  let v58 : BitVec 32 := Scalar.maxsi c0_i32_37 v57
  let v59 : BitVec 32 := Scalar.minsi c120_i32_38 v58
  let c64_i32_617 : BitVec 32 := 64#32
  let v1167 : BitVec 32 := Scalar.muli v59 c64_i32_617
  v1167
def k0_mult41 (i : grid0.Coords) : BitVec 32 :=
  let c120_i32_43 : BitVec 32 := 120#32
  let c0_i32_42 : BitVec 32 := 0#32
  let arg2 : BitVec 32 := BitVec.ofNat 32 (i 2).val
  let c32_i32_40 : BitVec 32 := 32#32
  let v62 : BitVec 32 := Scalar.muli arg2 c32_i32_40
  let c8_i32 : BitVec 32 := 8#32
  let v63 : BitVec 32 := Scalar.addi v62 c8_i32
  let c4_i32_41 : BitVec 32 := 4#32
  let v64 : BitVec 32 := Scalar.subi v63 c4_i32_41
  let v65 : BitVec 32 := Scalar.maxsi c0_i32_42 v64
  let v66 : BitVec 32 := Scalar.minsi c120_i32_43 v65
  let c64_i32_623 : BitVec 32 := 64#32
  let v1182 : BitVec 32 := Scalar.muli v66 c64_i32_623
  v1182
def k0_mult42 (i : grid0.Coords) : BitVec 32 :=
  let c120_i32_48 : BitVec 32 := 120#32
  let c0_i32_47 : BitVec 32 := 0#32
  let arg2 : BitVec 32 := BitVec.ofNat 32 (i 2).val
  let c32_i32_45 : BitVec 32 := 32#32
  let v69 : BitVec 32 := Scalar.muli arg2 c32_i32_45
  let c9_i32 : BitVec 32 := 9#32
  let v70 : BitVec 32 := Scalar.addi v69 c9_i32
  let c4_i32_46 : BitVec 32 := 4#32
  let v71 : BitVec 32 := Scalar.subi v70 c4_i32_46
  let v72 : BitVec 32 := Scalar.maxsi c0_i32_47 v71
  let v73 : BitVec 32 := Scalar.minsi c120_i32_48 v72
  let c64_i32_629 : BitVec 32 := 64#32
  let v1197 : BitVec 32 := Scalar.muli v73 c64_i32_629
  v1197
def k0_mult43 (i : grid0.Coords) : BitVec 32 :=
  let c120_i32_53 : BitVec 32 := 120#32
  let c0_i32_52 : BitVec 32 := 0#32
  let arg2 : BitVec 32 := BitVec.ofNat 32 (i 2).val
  let c32_i32_50 : BitVec 32 := 32#32
  let v76 : BitVec 32 := Scalar.muli arg2 c32_i32_50
  let c10_i32 : BitVec 32 := 10#32
  let v77 : BitVec 32 := Scalar.addi v76 c10_i32
  let c4_i32_51 : BitVec 32 := 4#32
  let v78 : BitVec 32 := Scalar.subi v77 c4_i32_51
  let v79 : BitVec 32 := Scalar.maxsi c0_i32_52 v78
  let v80 : BitVec 32 := Scalar.minsi c120_i32_53 v79
  let c64_i32_635 : BitVec 32 := 64#32
  let v1212 : BitVec 32 := Scalar.muli v80 c64_i32_635
  v1212
def k0_mult44 (i : grid0.Coords) : BitVec 32 :=
  let c120_i32_58 : BitVec 32 := 120#32
  let c0_i32_57 : BitVec 32 := 0#32
  let arg2 : BitVec 32 := BitVec.ofNat 32 (i 2).val
  let c32_i32_55 : BitVec 32 := 32#32
  let v83 : BitVec 32 := Scalar.muli arg2 c32_i32_55
  let c11_i32 : BitVec 32 := 11#32
  let v84 : BitVec 32 := Scalar.addi v83 c11_i32
  let c4_i32_56 : BitVec 32 := 4#32
  let v85 : BitVec 32 := Scalar.subi v84 c4_i32_56
  let v86 : BitVec 32 := Scalar.maxsi c0_i32_57 v85
  let v87 : BitVec 32 := Scalar.minsi c120_i32_58 v86
  let c64_i32_641 : BitVec 32 := 64#32
  let v1227 : BitVec 32 := Scalar.muli v87 c64_i32_641
  v1227
def k0_mult45 (i : grid0.Coords) : BitVec 32 :=
  let c120_i32_63 : BitVec 32 := 120#32
  let c0_i32_62 : BitVec 32 := 0#32
  let arg2 : BitVec 32 := BitVec.ofNat 32 (i 2).val
  let c32_i32_60 : BitVec 32 := 32#32
  let v90 : BitVec 32 := Scalar.muli arg2 c32_i32_60
  let c12_i32 : BitVec 32 := 12#32
  let v91 : BitVec 32 := Scalar.addi v90 c12_i32
  let c4_i32_61 : BitVec 32 := 4#32
  let v92 : BitVec 32 := Scalar.subi v91 c4_i32_61
  let v93 : BitVec 32 := Scalar.maxsi c0_i32_62 v92
  let v94 : BitVec 32 := Scalar.minsi c120_i32_63 v93
  let c64_i32_647 : BitVec 32 := 64#32
  let v1242 : BitVec 32 := Scalar.muli v94 c64_i32_647
  v1242
def k0_mult46 (i : grid0.Coords) : BitVec 32 :=
  let c120_i32_68 : BitVec 32 := 120#32
  let c0_i32_67 : BitVec 32 := 0#32
  let arg2 : BitVec 32 := BitVec.ofNat 32 (i 2).val
  let c32_i32_65 : BitVec 32 := 32#32
  let v97 : BitVec 32 := Scalar.muli arg2 c32_i32_65
  let c13_i32 : BitVec 32 := 13#32
  let v98 : BitVec 32 := Scalar.addi v97 c13_i32
  let c4_i32_66 : BitVec 32 := 4#32
  let v99 : BitVec 32 := Scalar.subi v98 c4_i32_66
  let v100 : BitVec 32 := Scalar.maxsi c0_i32_67 v99
  let v101 : BitVec 32 := Scalar.minsi c120_i32_68 v100
  let c64_i32_653 : BitVec 32 := 64#32
  let v1257 : BitVec 32 := Scalar.muli v101 c64_i32_653
  v1257
def k0_mult47 (i : grid0.Coords) : BitVec 32 :=
  let c120_i32_73 : BitVec 32 := 120#32
  let c0_i32_72 : BitVec 32 := 0#32
  let arg2 : BitVec 32 := BitVec.ofNat 32 (i 2).val
  let c32_i32_70 : BitVec 32 := 32#32
  let v104 : BitVec 32 := Scalar.muli arg2 c32_i32_70
  let c14_i32 : BitVec 32 := 14#32
  let v105 : BitVec 32 := Scalar.addi v104 c14_i32
  let c4_i32_71 : BitVec 32 := 4#32
  let v106 : BitVec 32 := Scalar.subi v105 c4_i32_71
  let v107 : BitVec 32 := Scalar.maxsi c0_i32_72 v106
  let v108 : BitVec 32 := Scalar.minsi c120_i32_73 v107
  let c64_i32_659 : BitVec 32 := 64#32
  let v1272 : BitVec 32 := Scalar.muli v108 c64_i32_659
  v1272
def k0_mult48 (i : grid0.Coords) : BitVec 32 :=
  let c120_i32_78 : BitVec 32 := 120#32
  let c0_i32_77 : BitVec 32 := 0#32
  let arg2 : BitVec 32 := BitVec.ofNat 32 (i 2).val
  let c32_i32_75 : BitVec 32 := 32#32
  let v111 : BitVec 32 := Scalar.muli arg2 c32_i32_75
  let c15_i32 : BitVec 32 := 15#32
  let v112 : BitVec 32 := Scalar.addi v111 c15_i32
  let c4_i32_76 : BitVec 32 := 4#32
  let v113 : BitVec 32 := Scalar.subi v112 c4_i32_76
  let v114 : BitVec 32 := Scalar.maxsi c0_i32_77 v113
  let v115 : BitVec 32 := Scalar.minsi c120_i32_78 v114
  let c64_i32_665 : BitVec 32 := 64#32
  let v1287 : BitVec 32 := Scalar.muli v115 c64_i32_665
  v1287
def k0_mult49 (i : grid0.Coords) : BitVec 32 :=
  let c120_i32_83 : BitVec 32 := 120#32
  let c0_i32_82 : BitVec 32 := 0#32
  let arg2 : BitVec 32 := BitVec.ofNat 32 (i 2).val
  let c32_i32_80 : BitVec 32 := 32#32
  let v118 : BitVec 32 := Scalar.muli arg2 c32_i32_80
  let c16_i32 : BitVec 32 := 16#32
  let v119 : BitVec 32 := Scalar.addi v118 c16_i32
  let c4_i32_81 : BitVec 32 := 4#32
  let v120 : BitVec 32 := Scalar.subi v119 c4_i32_81
  let v121 : BitVec 32 := Scalar.maxsi c0_i32_82 v120
  let v122 : BitVec 32 := Scalar.minsi c120_i32_83 v121
  let c64_i32_671 : BitVec 32 := 64#32
  let v1302 : BitVec 32 := Scalar.muli v122 c64_i32_671
  v1302
def k0_mult50 (i : grid0.Coords) : BitVec 32 :=
  let c120_i32_88 : BitVec 32 := 120#32
  let c0_i32_87 : BitVec 32 := 0#32
  let arg2 : BitVec 32 := BitVec.ofNat 32 (i 2).val
  let c32_i32_85 : BitVec 32 := 32#32
  let v125 : BitVec 32 := Scalar.muli arg2 c32_i32_85
  let c17_i32 : BitVec 32 := 17#32
  let v126 : BitVec 32 := Scalar.addi v125 c17_i32
  let c4_i32_86 : BitVec 32 := 4#32
  let v127 : BitVec 32 := Scalar.subi v126 c4_i32_86
  let v128 : BitVec 32 := Scalar.maxsi c0_i32_87 v127
  let v129 : BitVec 32 := Scalar.minsi c120_i32_88 v128
  let c64_i32_677 : BitVec 32 := 64#32
  let v1317 : BitVec 32 := Scalar.muli v129 c64_i32_677
  v1317
def k0_mult51 (i : grid0.Coords) : BitVec 32 :=
  let c120_i32_93 : BitVec 32 := 120#32
  let c0_i32_92 : BitVec 32 := 0#32
  let arg2 : BitVec 32 := BitVec.ofNat 32 (i 2).val
  let c32_i32_90 : BitVec 32 := 32#32
  let v132 : BitVec 32 := Scalar.muli arg2 c32_i32_90
  let c18_i32 : BitVec 32 := 18#32
  let v133 : BitVec 32 := Scalar.addi v132 c18_i32
  let c4_i32_91 : BitVec 32 := 4#32
  let v134 : BitVec 32 := Scalar.subi v133 c4_i32_91
  let v135 : BitVec 32 := Scalar.maxsi c0_i32_92 v134
  let v136 : BitVec 32 := Scalar.minsi c120_i32_93 v135
  let c64_i32_683 : BitVec 32 := 64#32
  let v1332 : BitVec 32 := Scalar.muli v136 c64_i32_683
  v1332
def k0_mult52 (i : grid0.Coords) : BitVec 32 :=
  let c120_i32_98 : BitVec 32 := 120#32
  let c0_i32_97 : BitVec 32 := 0#32
  let arg2 : BitVec 32 := BitVec.ofNat 32 (i 2).val
  let c32_i32_95 : BitVec 32 := 32#32
  let v139 : BitVec 32 := Scalar.muli arg2 c32_i32_95
  let c19_i32 : BitVec 32 := 19#32
  let v140 : BitVec 32 := Scalar.addi v139 c19_i32
  let c4_i32_96 : BitVec 32 := 4#32
  let v141 : BitVec 32 := Scalar.subi v140 c4_i32_96
  let v142 : BitVec 32 := Scalar.maxsi c0_i32_97 v141
  let v143 : BitVec 32 := Scalar.minsi c120_i32_98 v142
  let c64_i32_689 : BitVec 32 := 64#32
  let v1347 : BitVec 32 := Scalar.muli v143 c64_i32_689
  v1347
def k0_mult53 (i : grid0.Coords) : BitVec 32 :=
  let c120_i32_103 : BitVec 32 := 120#32
  let c0_i32_102 : BitVec 32 := 0#32
  let arg2 : BitVec 32 := BitVec.ofNat 32 (i 2).val
  let c32_i32_100 : BitVec 32 := 32#32
  let v146 : BitVec 32 := Scalar.muli arg2 c32_i32_100
  let c20_i32 : BitVec 32 := 20#32
  let v147 : BitVec 32 := Scalar.addi v146 c20_i32
  let c4_i32_101 : BitVec 32 := 4#32
  let v148 : BitVec 32 := Scalar.subi v147 c4_i32_101
  let v149 : BitVec 32 := Scalar.maxsi c0_i32_102 v148
  let v150 : BitVec 32 := Scalar.minsi c120_i32_103 v149
  let c64_i32_695 : BitVec 32 := 64#32
  let v1362 : BitVec 32 := Scalar.muli v150 c64_i32_695
  v1362
def k0_mult54 (i : grid0.Coords) : BitVec 32 :=
  let c120_i32_108 : BitVec 32 := 120#32
  let c0_i32_107 : BitVec 32 := 0#32
  let arg2 : BitVec 32 := BitVec.ofNat 32 (i 2).val
  let c32_i32_105 : BitVec 32 := 32#32
  let v153 : BitVec 32 := Scalar.muli arg2 c32_i32_105
  let c21_i32 : BitVec 32 := 21#32
  let v154 : BitVec 32 := Scalar.addi v153 c21_i32
  let c4_i32_106 : BitVec 32 := 4#32
  let v155 : BitVec 32 := Scalar.subi v154 c4_i32_106
  let v156 : BitVec 32 := Scalar.maxsi c0_i32_107 v155
  let v157 : BitVec 32 := Scalar.minsi c120_i32_108 v156
  let c64_i32_701 : BitVec 32 := 64#32
  let v1377 : BitVec 32 := Scalar.muli v157 c64_i32_701
  v1377
def k0_mult55 (i : grid0.Coords) : BitVec 32 :=
  let c120_i32_113 : BitVec 32 := 120#32
  let c0_i32_112 : BitVec 32 := 0#32
  let arg2 : BitVec 32 := BitVec.ofNat 32 (i 2).val
  let c32_i32_110 : BitVec 32 := 32#32
  let v160 : BitVec 32 := Scalar.muli arg2 c32_i32_110
  let c22_i32 : BitVec 32 := 22#32
  let v161 : BitVec 32 := Scalar.addi v160 c22_i32
  let c4_i32_111 : BitVec 32 := 4#32
  let v162 : BitVec 32 := Scalar.subi v161 c4_i32_111
  let v163 : BitVec 32 := Scalar.maxsi c0_i32_112 v162
  let v164 : BitVec 32 := Scalar.minsi c120_i32_113 v163
  let c64_i32_707 : BitVec 32 := 64#32
  let v1392 : BitVec 32 := Scalar.muli v164 c64_i32_707
  v1392
def k0_mult56 (i : grid0.Coords) : BitVec 32 :=
  let c120_i32_118 : BitVec 32 := 120#32
  let c0_i32_117 : BitVec 32 := 0#32
  let arg2 : BitVec 32 := BitVec.ofNat 32 (i 2).val
  let c32_i32_115 : BitVec 32 := 32#32
  let v167 : BitVec 32 := Scalar.muli arg2 c32_i32_115
  let c23_i32 : BitVec 32 := 23#32
  let v168 : BitVec 32 := Scalar.addi v167 c23_i32
  let c4_i32_116 : BitVec 32 := 4#32
  let v169 : BitVec 32 := Scalar.subi v168 c4_i32_116
  let v170 : BitVec 32 := Scalar.maxsi c0_i32_117 v169
  let v171 : BitVec 32 := Scalar.minsi c120_i32_118 v170
  let c64_i32_713 : BitVec 32 := 64#32
  let v1407 : BitVec 32 := Scalar.muli v171 c64_i32_713
  v1407
def k0_mult57 (i : grid0.Coords) : BitVec 32 :=
  let c120_i32_123 : BitVec 32 := 120#32
  let c0_i32_122 : BitVec 32 := 0#32
  let arg2 : BitVec 32 := BitVec.ofNat 32 (i 2).val
  let c32_i32_120 : BitVec 32 := 32#32
  let v174 : BitVec 32 := Scalar.muli arg2 c32_i32_120
  let c24_i32 : BitVec 32 := 24#32
  let v175 : BitVec 32 := Scalar.addi v174 c24_i32
  let c4_i32_121 : BitVec 32 := 4#32
  let v176 : BitVec 32 := Scalar.subi v175 c4_i32_121
  let v177 : BitVec 32 := Scalar.maxsi c0_i32_122 v176
  let v178 : BitVec 32 := Scalar.minsi c120_i32_123 v177
  let c64_i32_719 : BitVec 32 := 64#32
  let v1422 : BitVec 32 := Scalar.muli v178 c64_i32_719
  v1422
def k0_mult58 (i : grid0.Coords) : BitVec 32 :=
  let c120_i32_128 : BitVec 32 := 120#32
  let c0_i32_127 : BitVec 32 := 0#32
  let arg2 : BitVec 32 := BitVec.ofNat 32 (i 2).val
  let c32_i32_125 : BitVec 32 := 32#32
  let v181 : BitVec 32 := Scalar.muli arg2 c32_i32_125
  let c25_i32 : BitVec 32 := 25#32
  let v182 : BitVec 32 := Scalar.addi v181 c25_i32
  let c4_i32_126 : BitVec 32 := 4#32
  let v183 : BitVec 32 := Scalar.subi v182 c4_i32_126
  let v184 : BitVec 32 := Scalar.maxsi c0_i32_127 v183
  let v185 : BitVec 32 := Scalar.minsi c120_i32_128 v184
  let c64_i32_725 : BitVec 32 := 64#32
  let v1437 : BitVec 32 := Scalar.muli v185 c64_i32_725
  v1437
def k0_mult59 (i : grid0.Coords) : BitVec 32 :=
  let c120_i32_133 : BitVec 32 := 120#32
  let c0_i32_132 : BitVec 32 := 0#32
  let arg2 : BitVec 32 := BitVec.ofNat 32 (i 2).val
  let c32_i32_130 : BitVec 32 := 32#32
  let v188 : BitVec 32 := Scalar.muli arg2 c32_i32_130
  let c26_i32 : BitVec 32 := 26#32
  let v189 : BitVec 32 := Scalar.addi v188 c26_i32
  let c4_i32_131 : BitVec 32 := 4#32
  let v190 : BitVec 32 := Scalar.subi v189 c4_i32_131
  let v191 : BitVec 32 := Scalar.maxsi c0_i32_132 v190
  let v192 : BitVec 32 := Scalar.minsi c120_i32_133 v191
  let c64_i32_731 : BitVec 32 := 64#32
  let v1452 : BitVec 32 := Scalar.muli v192 c64_i32_731
  v1452
def k0_mult60 (i : grid0.Coords) : BitVec 32 :=
  let c120_i32_138 : BitVec 32 := 120#32
  let c0_i32_137 : BitVec 32 := 0#32
  let arg2 : BitVec 32 := BitVec.ofNat 32 (i 2).val
  let c32_i32_135 : BitVec 32 := 32#32
  let v195 : BitVec 32 := Scalar.muli arg2 c32_i32_135
  let c27_i32 : BitVec 32 := 27#32
  let v196 : BitVec 32 := Scalar.addi v195 c27_i32
  let c4_i32_136 : BitVec 32 := 4#32
  let v197 : BitVec 32 := Scalar.subi v196 c4_i32_136
  let v198 : BitVec 32 := Scalar.maxsi c0_i32_137 v197
  let v199 : BitVec 32 := Scalar.minsi c120_i32_138 v198
  let c64_i32_737 : BitVec 32 := 64#32
  let v1467 : BitVec 32 := Scalar.muli v199 c64_i32_737
  v1467
def k0_mult61 (i : grid0.Coords) : BitVec 32 :=
  let c120_i32_143 : BitVec 32 := 120#32
  let c0_i32_142 : BitVec 32 := 0#32
  let arg2 : BitVec 32 := BitVec.ofNat 32 (i 2).val
  let c32_i32_140 : BitVec 32 := 32#32
  let v202 : BitVec 32 := Scalar.muli arg2 c32_i32_140
  let c28_i32 : BitVec 32 := 28#32
  let v203 : BitVec 32 := Scalar.addi v202 c28_i32
  let c4_i32_141 : BitVec 32 := 4#32
  let v204 : BitVec 32 := Scalar.subi v203 c4_i32_141
  let v205 : BitVec 32 := Scalar.maxsi c0_i32_142 v204
  let v206 : BitVec 32 := Scalar.minsi c120_i32_143 v205
  let c64_i32_743 : BitVec 32 := 64#32
  let v1482 : BitVec 32 := Scalar.muli v206 c64_i32_743
  v1482
def k0_mult62 (i : grid0.Coords) : BitVec 32 :=
  let c120_i32_148 : BitVec 32 := 120#32
  let c0_i32_147 : BitVec 32 := 0#32
  let arg2 : BitVec 32 := BitVec.ofNat 32 (i 2).val
  let c32_i32_145 : BitVec 32 := 32#32
  let v209 : BitVec 32 := Scalar.muli arg2 c32_i32_145
  let c29_i32 : BitVec 32 := 29#32
  let v210 : BitVec 32 := Scalar.addi v209 c29_i32
  let c4_i32_146 : BitVec 32 := 4#32
  let v211 : BitVec 32 := Scalar.subi v210 c4_i32_146
  let v212 : BitVec 32 := Scalar.maxsi c0_i32_147 v211
  let v213 : BitVec 32 := Scalar.minsi c120_i32_148 v212
  let c64_i32_749 : BitVec 32 := 64#32
  let v1497 : BitVec 32 := Scalar.muli v213 c64_i32_749
  v1497
def k0_mult63 (i : grid0.Coords) : BitVec 32 :=
  let c120_i32_153 : BitVec 32 := 120#32
  let c0_i32_152 : BitVec 32 := 0#32
  let arg2 : BitVec 32 := BitVec.ofNat 32 (i 2).val
  let c32_i32_150 : BitVec 32 := 32#32
  let v216 : BitVec 32 := Scalar.muli arg2 c32_i32_150
  let c30_i32 : BitVec 32 := 30#32
  let v217 : BitVec 32 := Scalar.addi v216 c30_i32
  let c4_i32_151 : BitVec 32 := 4#32
  let v218 : BitVec 32 := Scalar.subi v217 c4_i32_151
  let v219 : BitVec 32 := Scalar.maxsi c0_i32_152 v218
  let v220 : BitVec 32 := Scalar.minsi c120_i32_153 v219
  let c64_i32_755 : BitVec 32 := 64#32
  let v1512 : BitVec 32 := Scalar.muli v220 c64_i32_755
  v1512
def k0_mult64 (i : grid0.Coords) : BitVec 32 :=
  let c120_i32_158 : BitVec 32 := 120#32
  let c0_i32_157 : BitVec 32 := 0#32
  let arg2 : BitVec 32 := BitVec.ofNat 32 (i 2).val
  let c32_i32_155 : BitVec 32 := 32#32
  let v223 : BitVec 32 := Scalar.muli arg2 c32_i32_155
  let c31_i32 : BitVec 32 := 31#32
  let v224 : BitVec 32 := Scalar.addi v223 c31_i32
  let c4_i32_156 : BitVec 32 := 4#32
  let v225 : BitVec 32 := Scalar.subi v224 c4_i32_156
  let v226 : BitVec 32 := Scalar.maxsi c0_i32_157 v225
  let v227 : BitVec 32 := Scalar.minsi c120_i32_158 v226
  let c64_i32_761 : BitVec 32 := 64#32
  let v1527 : BitVec 32 := Scalar.muli v227 c64_i32_761
  v1527
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c21_i32 : BitVec 32 := 21#32
  let v0 : BitVec 32 := Scalar.addi c21_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c23_i32 : BitVec 32 := 23#32
  let v0 : BitVec 32 := Scalar.addi c23_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c25_i32 : BitVec 32 := 25#32
  let v0 : BitVec 32 := Scalar.addi c25_i32 arg1
  let c0_i32 : BitVec 32 := 0#32
  let c0_i32_0 : BitVec 32 := 0#32
  ![arg0.toNat, c0_i32.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S8x1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S8x8192x3456 : Shape := ⟨3, ![8, 8192, 3456]⟩
abbrev S4x15x31 : Shape := ⟨3, ![4, 15, 31]⟩
abbrev S8x8192x768 : Shape := ⟨3, ![8, 8192, 768]⟩
abbrev S8x8192x256 : Shape := ⟨3, ![8, 8192, 256]⟩
abbrev S8x8192x4x64 : Shape := ⟨4, ![8, 8192, 4, 64]⟩
abbrev S128 : Shape := ⟨1, ![128]⟩
abbrev S_ : Shape := ⟨0, ![]⟩
abbrev S128x1 : Shape := ⟨2, ![128, 1]⟩
abbrev S8 : Shape := ⟨1, ![8]⟩
abbrev S1x8 : Shape := ⟨2, ![1, 8]⟩
abbrev S128x8 : Shape := ⟨2, ![128, 8]⟩
abbrev S8x128x64x4x64 : Shape := ⟨5, ![8, 128, 64, 4, 64]⟩
abbrev S128x8x1 : Shape := ⟨3, ![128, 8, 1]⟩
abbrev S8x128x8x64x4x64 : Shape := ⟨6, ![8, 128, 8, 64, 4, 64]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S128x1x8x1 : Shape := ⟨4, ![128, 1, 8, 1]⟩
abbrev S1x64x1x64 : Shape := ⟨4, ![1, 64, 1, 64]⟩
abbrev S128x64x8x64 : Shape := ⟨4, ![128, 64, 8, 64]⟩
abbrev S128x64x8x64x1 : Shape := ⟨5, ![128, 64, 8, 64, 1]⟩
abbrev S128x64x8x64x2 : Shape := ⟨5, ![128, 64, 8, 64, 2]⟩
abbrev S4x128x64x8x64 : Shape := ⟨5, ![4, 128, 64, 8, 64]⟩
abbrev S1x1x64x1x64 : Shape := ⟨5, ![1, 1, 64, 1, 64]⟩
abbrev S8x4x128x64x8x64 : Shape := ⟨6, ![8, 4, 128, 64, 8, 64]⟩
abbrev S1x4x128x64x8x64 : Shape := ⟨6, ![1, 4, 128, 64, 8, 64]⟩
abbrev S8x4x128x64 : Shape := ⟨4, ![8, 4, 128, 64]⟩
abbrev S8x4x128x64x1x1 : Shape := ⟨6, ![8, 4, 128, 64, 1, 1]⟩
abbrev S8x128x4x64x64 : Shape := ⟨5, ![8, 128, 4, 64, 64]⟩

abbrev nBuf : Space → Nat
  | .hbm => 149
  | .vmem => 0
  | .smem => 0
  | _ => 0

abbrev hbmTy0_0 (i : Nat) : BufTy := match i % 128 with
  | 0 => ⟨S8x8192x3456, .f32⟩
  | 1 => ⟨S4x15x31, .f32⟩
  | 2 => ⟨S8x8192x768, .f32⟩
  | 3 => ⟨S8x8192x256, .f32⟩
  | 4 => ⟨S8x8192x256, .f32⟩
  | 5 => ⟨S8x8192x256, .f32⟩
  | 6 => ⟨S8x8192x4x64, .f32⟩
  | 7 => ⟨S8x8192x4x64, .f32⟩
  | 8 => ⟨S8x8192x4x64, .f32⟩
  | 9 => ⟨S128, .i32⟩
  | 10 => ⟨S_, .i32⟩
  | 11 => ⟨S128, .i32⟩
  | 12 => ⟨S128, .i32⟩
  | 13 => ⟨S_, .i32⟩
  | 14 => ⟨S_, .i32⟩
  | 15 => ⟨S_, .i32⟩
  | 16 => ⟨S128, .i32⟩
  | 17 => ⟨S128, .i32⟩
  | 18 => ⟨S_, .i32⟩
  | 19 => ⟨S128, .i32⟩
  | 20 => ⟨S128, .i32⟩
  | 21 => ⟨S128x1, .i32⟩
  | 22 => ⟨S8, .i32⟩
  | 23 => ⟨S1x8, .i32⟩
  | 24 => ⟨S128x8, .i32⟩
  | 25 => ⟨S128x8, .i32⟩
  | 26 => ⟨S128x8, .i32⟩
  | 27 => ⟨S8x128x64x4x64, .f32⟩
  | 28 => ⟨S_, .i32⟩
  | 29 => ⟨S128x8, .i32⟩
  | 30 => ⟨S128x8, .i1⟩
  | 31 => ⟨S_, .i32⟩
  | 32 => ⟨S128x8, .i32⟩
  | 33 => ⟨S128x8, .i32⟩
  | 34 => ⟨S128x8, .i32⟩
  | 35 => ⟨S128x8x1, .i32⟩
  | 36 => ⟨S8x128x8x64x4x64, .f32⟩
  | 37 => ⟨S8x128x64x4x64, .f32⟩
  | 38 => ⟨S_, .i32⟩
  | 39 => ⟨S128x8, .i32⟩
  | 40 => ⟨S128x8, .i1⟩
  | 41 => ⟨S_, .i32⟩
  | 42 => ⟨S128x8, .i32⟩
  | 43 => ⟨S128x8, .i32⟩
  | 44 => ⟨S128x8, .i32⟩
  | 45 => ⟨S128x8x1, .i32⟩
  | 46 => ⟨S8x128x8x64x4x64, .f32⟩
  | 47 => ⟨S64, .i32⟩
  | 48 => ⟨S_, .i32⟩
  | 49 => ⟨S64, .i32⟩
  | 50 => ⟨S64, .i32⟩
  | 51 => ⟨S_, .i32⟩
  | 52 => ⟨S_, .i32⟩
  | 53 => ⟨S_, .i32⟩
  | 54 => ⟨S64, .i32⟩
  | 55 => ⟨S64, .i32⟩
  | 56 => ⟨S_, .i32⟩
  | 57 => ⟨S64, .i32⟩
  | 58 => ⟨S64, .i32⟩
  | 59 => ⟨S1x64, .i32⟩
  | 60 => ⟨S64x1, .i32⟩
  | 61 => ⟨S64x64, .i32⟩
  | 62 => ⟨S64x64, .i32⟩
  | 63 => ⟨S64x64, .i1⟩
  | 64 => ⟨S1x64, .i32⟩
  | 65 => ⟨S64x1, .i32⟩
  | 66 => ⟨S_, .i32⟩
  | 67 => ⟨S64x1, .i32⟩
  | 68 => ⟨S64x1, .i32⟩
  | 69 => ⟨S64x64, .i32⟩
  | 70 => ⟨S64x64, .i32⟩
  | 71 => ⟨S64x64, .i1⟩
  | 72 => ⟨S64x64, .i1⟩
  | 73 => ⟨S128x1, .i32⟩
  | 74 => ⟨S128x8, .i32⟩
  | 75 => ⟨S128x8, .i32⟩
  | 76 => ⟨S_, .i32⟩
  | 77 => ⟨S128x8, .i32⟩
  | 78 => ⟨S128x8, .i32⟩
  | 79 => ⟨S1x64, .i32⟩
  | 80 => ⟨S64x1, .i32⟩
  | 81 => ⟨S64x64, .i32⟩
  | 82 => ⟨S64x64, .i32⟩
  | 83 => ⟨S64x64, .i32⟩
  | 84 => ⟨S_, .i32⟩
  | 85 => ⟨S_, .i32⟩
  | 86 => ⟨S_, .i32⟩
  | 87 => ⟨S64x64, .i32⟩
  | 88 => ⟨S64x64, .i32⟩
  | 89 => ⟨S_, .i32⟩
  | 90 => ⟨S64x64, .i32⟩
  | 91 => ⟨S64x64, .i32⟩
  | 92 => ⟨S_, .i32⟩
  | 93 => ⟨S64x64, .i32⟩
  | 94 => ⟨S64x64, .i32⟩
  | 95 => ⟨S128x1x8x1, .i32⟩
  | 96 => ⟨S1x64x1x64, .i32⟩
  | 97 => ⟨S_, .i32⟩
  | 98 => ⟨S128x1x8x1, .i32⟩
  | 99 => ⟨S128x1x8x1, .i1⟩
  | 100 => ⟨S_, .i32⟩
  | 101 => ⟨S128x1x8x1, .i32⟩
  | 102 => ⟨S128x1x8x1, .i32⟩
  | 103 => ⟨S128x1x8x1, .i32⟩
  | 104 => ⟨S_, .i32⟩
  | 105 => ⟨S1x64x1x64, .i32⟩
  | 106 => ⟨S1x64x1x64, .i1⟩
  | 107 => ⟨S_, .i32⟩
  | 108 => ⟨S1x64x1x64, .i32⟩
  | 109 => ⟨S1x64x1x64, .i32⟩
  | 110 => ⟨S1x64x1x64, .i32⟩
  | 111 => ⟨S128x64x8x64, .i32⟩
  | 112 => ⟨S128x64x8x64, .i32⟩
  | 113 => ⟨S128x64x8x64x1, .i32⟩
  | 114 => ⟨S128x64x8x64x1, .i32⟩
  | 115 => ⟨S128x64x8x64x2, .i32⟩
  | 116 => ⟨S4x128x64x8x64, .f32⟩
  | 117 => ⟨S1x1x64x1x64, .i1⟩
  | 118 => ⟨S_, .f32⟩
  | 119 => ⟨S_, .f32⟩
  | 120 => ⟨S4x128x64x8x64, .i1⟩
  | 121 => ⟨S4x128x64x8x64, .f32⟩
  | 122 => ⟨S4x128x64x8x64, .f32⟩
  | 123 => ⟨S8x128x64x4x64, .f32⟩
  | 124 => ⟨S8x4x128x64x8x64, .f32⟩
  | 125 => ⟨S_, .f32⟩
  | 126 => ⟨S8x4x128x64x8x64, .f32⟩
  | 127 => ⟨S8x4x128x64x8x64, .f32⟩
  | _ => ⟨S8x8192x3456, .f32⟩

abbrev hbmTy0_1 (i : Nat) : BufTy := match i % 128 with
  | 0 => ⟨S1x4x128x64x8x64, .f32⟩
  | 1 => ⟨S8x4x128x64x8x64, .f32⟩
  | 2 => ⟨S8x4x128x64x8x64, .f32⟩
  | 3 => ⟨S_, .f32⟩
  | 4 => ⟨S8x4x128x64, .f32⟩
  | 5 => ⟨S_, .f32⟩
  | 6 => ⟨S8x4x128x64, .f32⟩
  | 7 => ⟨S8x4x128x64, .f32⟩
  | 8 => ⟨S8x4x128x64x1x1, .f32⟩
  | 9 => ⟨S8x4x128x64x8x64, .f32⟩
  | 10 => ⟨S8x4x128x64x8x64, .f32⟩
  | 11 => ⟨S8x4x128x64x8x64, .f32⟩
  | 12 => ⟨S_, .f32⟩
  | 13 => ⟨S8x4x128x64, .f32⟩
  | 14 => ⟨S8x4x128x64x1x1, .f32⟩
  | 15 => ⟨S8x4x128x64x8x64, .f32⟩
  | 16 => ⟨S8x4x128x64x8x64, .f32⟩
  | 17 => ⟨S8x128x4x64x64, .f32⟩
  | 18 => ⟨S8x128x64x4x64, .f32⟩
  | 19 => ⟨S8x8192x256, .f32⟩
  | 20 => ⟨S8x8192x256, .bf16⟩
  | _ => ⟨S8x8192x3456, .f32⟩

abbrev hbmTy (i : Nat) : BufTy := match i / 128 with
  | 0 => hbmTy0_0 i
  | 1 => hbmTy0_1 i
  | _ => ⟨S8x8192x3456, .f32⟩

abbrev bufTy : (tb : Table) → Fin (tcTables nBuf tb) → BufTy
  | .hbm, ⟨i, _⟩ => hbmTy i
  | _, _ => ⟨S8x8192x3456, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_v8 : Ref sig .tc := ⟨.hbm, 11, rfl⟩
abbrev main_v9 : Ref sig .tc := ⟨.hbm, 12, rfl⟩
abbrev main_c_0 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_4 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_c_7 : Ref sig .tc := ⟨.hbm, 51, rfl⟩
abbrev main_c_8 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_11 : Ref sig .tc := ⟨.hbm, 84, rfl⟩
abbrev main_c_12 : Ref sig .tc := ⟨.hbm, 85, rfl⟩
abbrev main_call2_v0 : Ref sig .tc := ⟨.hbm, 86, rfl⟩
abbrev main_call2_v1 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_v60 : Ref sig .tc := ⟨.hbm, 91, rfl⟩
abbrev main_c_13 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_c_14 : Ref sig .tc := ⟨.hbm, 97, rfl⟩
abbrev main_v65 : Ref sig .tc := ⟨.hbm, 98, rfl⟩
abbrev main_v66 : Ref sig .tc := ⟨.hbm, 99, rfl⟩
abbrev main_c_15 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_c_16 : Ref sig .tc := ⟨.hbm, 104, rfl⟩
abbrev main_v70 : Ref sig .tc := ⟨.hbm, 105, rfl⟩
abbrev main_v71 : Ref sig .tc := ⟨.hbm, 106, rfl⟩
abbrev main_c_17 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst : Ref sig .tc := ⟨.hbm, 118, rfl⟩
abbrev main_call3_v0 : Ref sig .tc := ⟨.hbm, 119, rfl⟩
abbrev main_call3_v1 : Ref sig .tc := ⟨.hbm, 120, rfl⟩
abbrev main_call3_v2 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_cst_18 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_cst_19 : Ref sig .tc := ⟨.hbm, 131, rfl⟩
abbrev main_v90 : Ref sig .tc := ⟨.hbm, 132, rfl⟩
abbrev main_cst_20 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_cst_21 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩

abbrev nD : Nat := 1
abbrev τ : Topo := Topo.v7x

variable {F : FTy → Type} [FloatOps F]
-- ==== Kernel2.lean ====
abbrev S65536x1024 : Shape := ⟨2, ![65536, 1024]⟩
abbrev S1024 : Shape := ⟨1, ![1024]⟩
abbrev S1024x3456 : Shape := ⟨2, ![1024, 3456]⟩
abbrev S1x1024 : Shape := ⟨2, ![1, 1024]⟩
abbrev S65536x3456 : Shape := ⟨2, ![65536, 3456]⟩
abbrev S1024x1024 : Shape := ⟨2, ![1024, 1024]⟩
abbrev S1024x1 : Shape := ⟨2, ![1024, 1]⟩

abbrev nBuf : Space → Nat
  | .hbm => 6
  | .vmem => 6
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x3456, .f32⟩
  | .hbm, ⟨3, _⟩ => ⟨S1x1024, .f32⟩
  | .hbm, ⟨4, _⟩ => ⟨S1024x3456, .bf16⟩
  | .hbm, ⟨5, _⟩ => ⟨S65536x3456, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3456, .bf16⟩
  | .local _ .vmem, ⟨4, _⟩ => ⟨S1024x3456, .f32⟩
  | .local _ .vmem, ⟨5, _⟩ => ⟨S1024x3456, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x3456 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S65536x1024 : Shape := ⟨2, ![65536, 1024]⟩
abbrev S1024 : Shape := ⟨1, ![1024]⟩
abbrev S1024x3456 : Shape := ⟨2, ![1024, 3456]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x3456 : Shape := ⟨2, ![65536, 3456]⟩

abbrev nBuf : Space → Nat
  | .hbm => 20
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x3456, .f32⟩
  | .hbm, ⟨3, _⟩ => ⟨S65536x1024, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S_, .f32⟩
  | .hbm, ⟨8, _⟩ => ⟨S65536x1, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S65536x1, .f32⟩
  | .hbm, ⟨14, _⟩ => ⟨S65536x1024, .f32⟩
  | .hbm, ⟨15, _⟩ => ⟨S65536x1024, .f32⟩
  | .hbm, ⟨16, _⟩ => ⟨S1x1024, .f32⟩
  | .hbm, ⟨17, _⟩ => ⟨S65536x1024, .f32⟩
  | .hbm, ⟨18, _⟩ => ⟨S65536x1024, .f32⟩
  | .hbm, ⟨19, _⟩ => ⟨S65536x3456, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel3.lean ====
abbrev S65536x1024 : Shape := ⟨2, ![65536, 1024]⟩
abbrev S65536x1 : Shape := ⟨2, ![65536, 1]⟩
abbrev S1024 : Shape := ⟨1, ![1024]⟩
abbrev S1024x3456 : Shape := ⟨2, ![1024, 3456]⟩
abbrev S1x1024 : Shape := ⟨2, ![1, 1024]⟩
abbrev S65536x3456 : Shape := ⟨2, ![65536, 3456]⟩
abbrev S512x1024 : Shape := ⟨2, ![512, 1024]⟩
abbrev S512x1 : Shape := ⟨2, ![512, 1]⟩
abbrev S512x3456 : Shape := ⟨2, ![512, 3456]⟩
abbrev S512 : Shape := ⟨1, ![512]⟩

abbrev nBuf : Space → Nat
  | .hbm => 11
  | .vmem => 16
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S65536x1024, .bf16⟩
  | .hbm, ⟨3, _⟩ => ⟨S65536x1, .f32⟩
  | .hbm, ⟨4, _⟩ => ⟨S65536x1, .f32⟩
  | .hbm, ⟨5, _⟩ => ⟨S1024, .f32⟩
  | .hbm, ⟨6, _⟩ => ⟨S1024x3456, .f32⟩
  | .hbm, ⟨7, _⟩ => ⟨S1x1024, .f32⟩
  | .hbm, ⟨8, _⟩ => ⟨S1024x3456, .bf16⟩
  | .hbm, ⟨9, _⟩ => ⟨S65536x3456, .f32⟩
  | .hbm, ⟨10, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1, .f32⟩
  | .local _ .vmem, ⟨7, _⟩ => ⟨S512x1, .f32⟩
  | .local _ .vmem, ⟨8, _⟩ => ⟨S512x1, .f32⟩
  | .local _ .vmem, ⟨9, _⟩ => ⟨S512x1, .f32⟩
  | .local _ .vmem, ⟨10, _⟩ => ⟨S1x1024, .f32⟩
  | .local _ .vmem, ⟨11, _⟩ => ⟨S1024x3456, .bf16⟩
  | .local _ .vmem, ⟨12, _⟩ => ⟨S512x3456, .f32⟩
  | .local _ .vmem, ⟨13, _⟩ => ⟨S512x3456, .f32⟩
  | .local _ .vmem, ⟨14, _⟩ => ⟨S512x1024, .f32⟩
  | .local _ .vmem, ⟨15, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x3456 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x3456 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S65536x1024 : Shape := ⟨2, ![65536, 1024]⟩
abbrev S65536x1 : Shape := ⟨2, ![65536, 1]⟩
abbrev S1024 : Shape := ⟨1, ![1024]⟩
abbrev S1024x3456 : Shape := ⟨2, ![1024, 3456]⟩
abbrev S_ : Shape := ⟨0, ![]⟩
abbrev S65536 : Shape := ⟨1, ![65536]⟩
abbrev S1x1024 : Shape := ⟨2, ![1, 1024]⟩
abbrev S65536x3456 : Shape := ⟨2, ![65536, 3456]⟩

abbrev nBuf : Space → Nat
  | .hbm => 32
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S65536x1024, .bf16⟩
  | .hbm, ⟨3, _⟩ => ⟨S65536x1, .f32⟩
  | .hbm, ⟨4, _⟩ => ⟨S65536x1, .f32⟩
  | .hbm, ⟨5, _⟩ => ⟨S1024, .f32⟩
  | .hbm, ⟨6, _⟩ => ⟨S1024x3456, .f32⟩
  | .hbm, ⟨7, _⟩ => ⟨S65536x1024, .f32⟩
  | .hbm, ⟨8, _⟩ => ⟨S65536x1024, .f32⟩
  | .hbm, ⟨9, _⟩ => ⟨S65536x1024, .f32⟩
  | .hbm, ⟨10, _⟩ => ⟨S65536x1024, .f32⟩
  | .hbm, ⟨11, _⟩ => ⟨S65536x1024, .f32⟩
  | .hbm, ⟨12, _⟩ => ⟨S65536x1024, .f32⟩
  | .hbm, ⟨13, _⟩ => ⟨S65536x1024, .f32⟩
  | .hbm, ⟨14, _⟩ => ⟨S65536x1024, .f32⟩
  | .hbm, ⟨15, _⟩ => ⟨S65536x1024, .f32⟩
  | .hbm, ⟨16, _⟩ => ⟨S_, .f32⟩
  | .hbm, ⟨17, _⟩ => ⟨S65536, .f32⟩
  | .hbm, ⟨18, _⟩ => ⟨S65536x1, .f32⟩
  | .hbm, ⟨19, _⟩ => ⟨S_, .f32⟩
  | .hbm, ⟨20, _⟩ => ⟨S65536x1, .f32⟩
  | .hbm, ⟨21, _⟩ => ⟨S65536x1, .f32⟩
  | .hbm, ⟨22, _⟩ => ⟨S_, .f32⟩
  | .hbm, ⟨23, _⟩ => ⟨S65536x1, .f32⟩
  | .hbm, ⟨24, _⟩ => ⟨S65536x1, .f32⟩
  | .hbm, ⟨25, _⟩ => ⟨S65536x1, .f32⟩
  | .hbm, ⟨26, _⟩ => ⟨S65536x1024, .f32⟩
  | .hbm, ⟨27, _⟩ => ⟨S65536x1024, .f32⟩
  | .hbm, ⟨28, _⟩ => ⟨S1x1024, .f32⟩
  | .hbm, ⟨29, _⟩ => ⟨S65536x1024, .f32⟩
  | .hbm, ⟨30, _⟩ => ⟨S65536x1024, .f32⟩
  | .hbm, ⟨31, _⟩ => ⟨S65536x3456, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Kernel4.lean ====
abbrev S65536x1024 : Shape := ⟨2, ![65536, 1024]⟩
abbrev S65536x256 : Shape := ⟨2, ![65536, 256]⟩
abbrev S65536x512 : Shape := ⟨2, ![65536, 512]⟩
abbrev S1024x1024 : Shape := ⟨2, ![1024, 1024]⟩
abbrev S1024 : Shape := ⟨1, ![1024]⟩
abbrev S1024x36 : Shape := ⟨2, ![1024, 36]⟩
abbrev S_ : Shape := ⟨0, ![]⟩
abbrev S1024x128 : Shape := ⟨2, ![1024, 128]⟩
abbrev S256x1024 : Shape := ⟨2, ![256, 1024]⟩
abbrev S512x1024 : Shape := ⟨2, ![512, 1024]⟩
abbrev S1x1024 : Shape := ⟨2, ![1, 1024]⟩
abbrev S65536x128 : Shape := ⟨2, ![65536, 128]⟩
abbrev S1024x256 : Shape := ⟨2, ![1024, 256]⟩
abbrev S1024x512 : Shape := ⟨2, ![1024, 512]⟩
abbrev S1024x1 : Shape := ⟨2, ![1024, 1]⟩

abbrev nBuf : Space → Nat
  | .hbm => 19
  | .vmem => 19
  | .smem => 0
  | _ => 0

abbrev bufTy : (tb : Table) → Fin (tcTables nBuf tb) → BufTy
  | .hbm, ⟨0, _⟩ => ⟨S65536x1024, .f32⟩
  | .hbm, ⟨1, _⟩ => ⟨S65536x256, .bf16⟩
  | .hbm, ⟨2, _⟩ => ⟨S65536x512, .bf16⟩
  | .hbm, ⟨3, _⟩ => ⟨S65536x256, .bf16⟩
  | .hbm, ⟨4, _⟩ => ⟨S1024x1024, .f32⟩
  | .hbm, ⟨5, _⟩ => ⟨S1024, .f32⟩
  | .hbm, ⟨6, _⟩ => ⟨S1024x36, .f32⟩
  | .hbm, ⟨7, _⟩ => ⟨S1024x36, .bf16⟩
  | .hbm, ⟨8, _⟩ => ⟨S_, .i32⟩
  | .hbm, ⟨9, _⟩ => ⟨S_, .bf16⟩
  | .hbm, ⟨10, _⟩ => ⟨S1024x128, .bf16⟩
  | .hbm, ⟨11, _⟩ => ⟨S1024x1024, .bf16⟩
  | .hbm, ⟨12, _⟩ => ⟨S256x1024, .bf16⟩
  | .hbm, ⟨13, _⟩ => ⟨S512x1024, .bf16⟩
  | .hbm, ⟨14, _⟩ => ⟨S256x1024, .bf16⟩
  | .hbm, ⟨15, _⟩ => ⟨S1x1024, .f32⟩
  | .hbm, ⟨16, _⟩ => ⟨S65536x1024, .f32⟩
  | .hbm, ⟨17, _⟩ => ⟨S65536x1024, .bf16⟩
  | .hbm, ⟨18, _⟩ => ⟨S65536x128, .f32⟩
  | .local _ .vmem, ⟨0, _⟩ => ⟨S1024x1024, .f32⟩
  | .local _ .vmem, ⟨1, _⟩ => ⟨S1024x1024, .f32⟩
  | .local _ .vmem, ⟨2, _⟩ => ⟨S1024x256, .bf16⟩
  | .local _ .vmem, ⟨3, _⟩ => ⟨S1024x256, .bf16⟩
  | .local _ .vmem, ⟨4, _⟩ => ⟨S1024x512, .bf16⟩
  | .local _ .vmem, ⟨5, _⟩ => ⟨S1024x512, .bf16⟩
  | .local _ .vmem, ⟨6, _⟩ => ⟨S1024x256, .bf16⟩
  | .local _ .vmem, ⟨7, _⟩ => ⟨S1024x256, .bf16⟩
  | .local _ .vmem, ⟨8, _⟩ => ⟨S256x1024, .bf16⟩
  | .local _ .vmem, ⟨9, _⟩ => ⟨S512x1024, .bf16⟩
  | .local _ .vmem, ⟨10, _⟩ => ⟨S256x1024, .bf16⟩
  | .local _ .vmem, ⟨11, _⟩ => ⟨S1x1024, .f32⟩
  | .local _ .vmem, ⟨12, _⟩ => ⟨S1024x128, .bf16⟩
  | .local _ .vmem, ⟨13, _⟩ => ⟨S1024x1024, .f32⟩
  | .local _ .vmem, ⟨14, _⟩ => ⟨S1024x1024, .f32⟩
  | .local _ .vmem, ⟨15, _⟩ => ⟨S1024x1024, .bf16⟩
  | .local _ .vmem, ⟨16, _⟩ => ⟨S1024x1024, .bf16⟩
  | .local _ .vmem, ⟨17, _⟩ => ⟨S1024x128, .f32⟩
  | .local _ .vmem, ⟨18, _⟩ => ⟨S1024x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S65536x1024 : Shape := ⟨2, ![65536, 1024]⟩
abbrev S65536x256 : Shape := ⟨2, ![65536, 256]⟩
abbrev S65536x512 : Shape := ⟨2, ![65536, 512]⟩
abbrev S1024x1024 : Shape := ⟨2, ![1024, 1024]⟩
abbrev S1024 : Shape := ⟨1, ![1024]⟩
abbrev S1024x36 : Shape := ⟨2, ![1024, 36]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x36 : Shape := ⟨2, ![65536, 36]⟩
abbrev S65536x128 : Shape := ⟨2, ![65536, 128]⟩

abbrev nBuf : Space → Nat
  | .hbm => 34
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x256, .bf16⟩
  | .hbm, ⟨2, _⟩ => ⟨S65536x512, .bf16⟩
  | .hbm, ⟨3, _⟩ => ⟨S65536x256, .bf16⟩
  | .hbm, ⟨4, _⟩ => ⟨S1024x1024, .f32⟩
  | .hbm, ⟨5, _⟩ => ⟨S1024, .f32⟩
  | .hbm, ⟨6, _⟩ => ⟨S1024x36, .f32⟩
  | .hbm, ⟨7, _⟩ => ⟨S65536x256, .f32⟩
  | .hbm, ⟨8, _⟩ => ⟨S65536x512, .f32⟩
  | .hbm, ⟨9, _⟩ => ⟨S65536x256, .f32⟩
  | .hbm, ⟨10, _⟩ => ⟨S65536x1024, .f32⟩
  | .hbm, ⟨11, _⟩ => ⟨S65536x1024, .f32⟩
  | .hbm, ⟨12, _⟩ => ⟨S65536x1024, .f32⟩
  | .hbm, ⟨13, _⟩ => ⟨S65536x1024, .f32⟩
  | .hbm, ⟨14, _⟩ => ⟨S_, .f32⟩
  | .hbm, ⟨15, _⟩ => ⟨S65536, .f32⟩
  | .hbm, ⟨16, _⟩ => ⟨S65536x1, .f32⟩
  | .hbm, ⟨17, _⟩ => ⟨S_, .f32⟩
  | .hbm, ⟨18, _⟩ => ⟨S65536x1, .f32⟩
  | .hbm, ⟨19, _⟩ => ⟨S65536x1, .f32⟩
  | .hbm, ⟨20, _⟩ => ⟨S_, .f32⟩
  | .hbm, ⟨21, _⟩ => ⟨S65536x1, .f32⟩
  | .hbm, ⟨22, _⟩ => ⟨S65536x1, .f32⟩
  | .hbm, ⟨23, _⟩ => ⟨S65536x1, .f32⟩
  | .hbm, ⟨24, _⟩ => ⟨S65536x1024, .f32⟩
  | .hbm, ⟨25, _⟩ => ⟨S65536x1024, .f32⟩
  | .hbm, ⟨26, _⟩ => ⟨S1x1024, .f32⟩
  | .hbm, ⟨27, _⟩ => ⟨S65536x1024, .f32⟩
  | .hbm, ⟨28, _⟩ => ⟨S65536x1024, .f32⟩
  | .hbm, ⟨29, _⟩ => ⟨S65536x36, .f32⟩
  | .hbm, ⟨30, _⟩ => ⟨S_, .i32⟩
  | .hbm, ⟨31, _⟩ => ⟨S_, .f32⟩
  | .hbm, ⟨32, _⟩ => ⟨S65536x128, .f32⟩
  | .hbm, ⟨33, _⟩ => ⟨S65536x1024, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c : Ref sig .tc := ⟨.hbm, 30, rfl⟩
abbrev main_call0_v0 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]
-- ==== Kernel5.lean ====
abbrev S65536x1024 : Shape := ⟨2, ![65536, 1024]⟩
abbrev S65536x1 : Shape := ⟨2, ![65536, 1]⟩
abbrev S1024 : Shape := ⟨1, ![1024]⟩
abbrev S1x1024 : Shape := ⟨2, ![1, 1024]⟩
abbrev S512x1024 : Shape := ⟨2, ![512, 1024]⟩
abbrev S512x1 : Shape := ⟨2, ![512, 1]⟩
abbrev S512 : Shape := ⟨1, ![512]⟩

abbrev nBuf : Space → Nat
  | .hbm => 8
  | .vmem => 13
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S65536x1024, .bf16⟩
  | .hbm, ⟨3, _⟩ => ⟨S65536x1, .f32⟩
  | .hbm, ⟨4, _⟩ => ⟨S65536x1, .f32⟩
  | .hbm, ⟨5, _⟩ => ⟨S1024, .f32⟩
  | .hbm, ⟨6, _⟩ => ⟨S1x1024, .f32⟩
  | .hbm, ⟨7, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1, .f32⟩
  | .local _ .vmem, ⟨7, _⟩ => ⟨S512x1, .f32⟩
  | .local _ .vmem, ⟨8, _⟩ => ⟨S512x1, .f32⟩
  | .local _ .vmem, ⟨9, _⟩ => ⟨S512x1, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S65536x1024 : Shape := ⟨2, ![65536, 1024]⟩
abbrev S65536x1 : Shape := ⟨2, ![65536, 1]⟩
abbrev S1024 : Shape := ⟨1, ![1024]⟩
abbrev S_ : Shape := ⟨0, ![]⟩
abbrev S65536 : Shape := ⟨1, ![65536]⟩
abbrev S1x1024 : Shape := ⟨2, ![1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S65536x1024, .bf16⟩
  | .hbm, ⟨3, _⟩ => ⟨S65536x1, .f32⟩
  | .hbm, ⟨4, _⟩ => ⟨S65536x1, .f32⟩
  | .hbm, ⟨5, _⟩ => ⟨S1024, .f32⟩
  | .hbm, ⟨6, _⟩ => ⟨S65536x1024, .f32⟩
  | .hbm, ⟨7, _⟩ => ⟨S65536x1024, .f32⟩
  | .hbm, ⟨8, _⟩ => ⟨S65536x1024, .f32⟩
  | .hbm, ⟨9, _⟩ => ⟨S65536x1024, .f32⟩
  | .hbm, ⟨10, _⟩ => ⟨S65536x1024, .f32⟩
  | .hbm, ⟨11, _⟩ => ⟨S65536x1024, .f32⟩
  | .hbm, ⟨12, _⟩ => ⟨S65536x1024, .f32⟩
  | .hbm, ⟨13, _⟩ => ⟨S65536x1024, .f32⟩
  | .hbm, ⟨14, _⟩ => ⟨S65536x1024, .f32⟩
  | .hbm, ⟨15, _⟩ => ⟨S_, .f32⟩
  | .hbm, ⟨16, _⟩ => ⟨S65536, .f32⟩
  | .hbm, ⟨17, _⟩ => ⟨S65536x1, .f32⟩
  | .hbm, ⟨18, _⟩ => ⟨S_, .f32⟩
  | .hbm, ⟨19, _⟩ => ⟨S65536x1, .f32⟩
  | .hbm, ⟨20, _⟩ => ⟨S65536x1, .f32⟩
  | .hbm, ⟨21, _⟩ => ⟨S_, .f32⟩
  | .hbm, ⟨22, _⟩ => ⟨S65536x1, .f32⟩
  | .hbm, ⟨23, _⟩ => ⟨S65536x1, .f32⟩
  | .hbm, ⟨24, _⟩ => ⟨S65536x1, .f32⟩
  | .hbm, ⟨25, _⟩ => ⟨S65536x1024, .f32⟩
  | .hbm, ⟨26, _⟩ => ⟨S65536x1024, .f32⟩
  | .hbm, ⟨27, _⟩ => ⟨S1x1024, .f32⟩
  | .hbm, ⟨28, _⟩ => ⟨S65536x1024, .f32⟩
  | .hbm, ⟨29, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel6.lean ====
abbrev S147456x1024 : Shape := ⟨2, ![147456, 1024]⟩
abbrev S288 : Shape := ⟨1, ![288]⟩
abbrev S2x32x1024x512 : Shape := ⟨4, ![2, 32, 1024, 512]⟩
abbrev S2x32x512x1024 : Shape := ⟨4, ![2, 32, 512, 1024]⟩
abbrev S512x1024 : Shape := ⟨2, ![512, 1024]⟩
abbrev S1x1x1024x512 : Shape := ⟨4, ![1, 1, 1024, 512]⟩
abbrev S1 : Shape := ⟨1, ![1]⟩
abbrev S1x1x512x1024 : Shape := ⟨4, ![1, 1, 512, 1024]⟩
abbrev S1024x512 : Shape := ⟨2, ![1024, 512]⟩
abbrev S512x512 : Shape := ⟨2, ![512, 512]⟩

abbrev nBuf : Space → Nat
  | .hbm => 5
  | .vmem => 13
  | .smem => 1
  | _ => 0

abbrev bufTy : (tb : Table) → Fin (tcTables nBuf tb) → BufTy
  | .hbm, ⟨0, _⟩ => ⟨S147456x1024, .bf16⟩
  | .hbm, ⟨1, _⟩ => ⟨S2x32x1024x512, .f32⟩
  | .hbm, ⟨2, _⟩ => ⟨S2x32x1024x512, .f32⟩
  | .hbm, ⟨3, _⟩ => ⟨S2x32x512x1024, .f32⟩
  | .hbm, ⟨4, _⟩ => ⟨S147456x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S512x1024, .bf16⟩
  | .local _ .vmem, ⟨9, _⟩ => ⟨S512x1024, .bf16⟩
  | .local _ .vmem, ⟨10, _⟩ => ⟨S1024x512, .bf16⟩
  | .local _ .vmem, ⟨11, _⟩ => ⟨S1024x512, .bf16⟩
  | .local _ .vmem, ⟨12, _⟩ => ⟨S512x1024, .bf16⟩
  | .local _ .smem, ⟨0, _⟩ => ⟨S288, .i32⟩
  | _, _ => ⟨S147456x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![288], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S147456x1024 : Shape := ⟨2, ![147456, 1024]⟩
abbrev S288 : Shape := ⟨1, ![288]⟩
abbrev S2x32x1024x512 : Shape := ⟨4, ![2, 32, 1024, 512]⟩
abbrev S2x32x512x1024 : Shape := ⟨4, ![2, 32, 512, 1024]⟩
abbrev S288x512x1024 : Shape := ⟨3, ![288, 512, 1024]⟩
abbrev S1x32x1024x512 : Shape := ⟨4, ![1, 32, 1024, 512]⟩
abbrev S32x1024x512 : Shape := ⟨3, ![32, 1024, 512]⟩
abbrev S288x1 : Shape := ⟨2, ![288, 1]⟩
abbrev S288x1024x512 : Shape := ⟨3, ![288, 1024, 512]⟩
abbrev S1x32x512x1024 : Shape := ⟨4, ![1, 32, 512, 1024]⟩
abbrev S32x512x1024 : Shape := ⟨3, ![32, 512, 1024]⟩
abbrev S288x512x512 : Shape := ⟨3, ![288, 512, 512]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S147456x1024, .bf16⟩
  | .hbm, ⟨1, _⟩ => ⟨S288, .i32⟩
  | .hbm, ⟨2, _⟩ => ⟨S2x32x1024x512, .f32⟩
  | .hbm, ⟨3, _⟩ => ⟨S2x32x1024x512, .f32⟩
  | .hbm, ⟨4, _⟩ => ⟨S2x32x512x1024, .f32⟩
  | .hbm, ⟨5, _⟩ => ⟨S147456x1024, .f32⟩
  | .hbm, ⟨6, _⟩ => ⟨S288x512x1024, .f32⟩
  | .hbm, ⟨7, _⟩ => ⟨S1x32x1024x512, .f32⟩
  | .hbm, ⟨8, _⟩ => ⟨S32x1024x512, .f32⟩
  | .hbm, ⟨9, _⟩ => ⟨S288x1, .i32⟩
  | .hbm, ⟨10, _⟩ => ⟨S288x1024x512, .f32⟩
  | .hbm, ⟨11, _⟩ => ⟨S1x32x1024x512, .f32⟩
  | .hbm, ⟨12, _⟩ => ⟨S32x1024x512, .f32⟩
  | .hbm, ⟨13, _⟩ => ⟨S288x1, .i32⟩
  | .hbm, ⟨14, _⟩ => ⟨S288x1024x512, .f32⟩
  | .hbm, ⟨15, _⟩ => ⟨S1x32x512x1024, .f32⟩
  | .hbm, ⟨16, _⟩ => ⟨S32x512x1024, .f32⟩
  | .hbm, ⟨17, _⟩ => ⟨S288x1, .i32⟩
  | .hbm, ⟨18, _⟩ => ⟨S288x512x1024, .f32⟩
  | .hbm, ⟨19, _⟩ => ⟨S288x512x512, .f32⟩
  | .hbm, ⟨20, _⟩ => ⟨S288x512x512, .f32⟩
  | .hbm, ⟨21, _⟩ => ⟨S288x512x512, .f32⟩
  | .hbm, ⟨22, _⟩ => ⟨S288x512x512, .f32⟩
  | .hbm, ⟨23, _⟩ => ⟨S_, .f32⟩
  | .hbm, ⟨24, _⟩ => ⟨S288x512x512, .f32⟩
  | .hbm, ⟨25, _⟩ => ⟨S288x512x512, .f32⟩
  | .hbm, ⟨26, _⟩ => ⟨S_, .f32⟩
  | .hbm, ⟨27, _⟩ => ⟨S288x512x512, .f32⟩
  | .hbm, ⟨28, _⟩ => ⟨S288x512x512, .f32⟩
  | .hbm, ⟨29, _⟩ => ⟨S288x512x512, .f32⟩
  | .hbm, ⟨30, _⟩ => ⟨S288x512x512, .f32⟩
  | .hbm, ⟨31, _⟩ => ⟨S288x512x1024, .f32⟩
  | .hbm, ⟨32, _⟩ => ⟨S147456x1024, .f32⟩
  | .hbm, ⟨33, _⟩ => ⟨S147456x1024, .bf16⟩
  | _, _ => ⟨S147456x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call1_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call2_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call3_v0 : Ref sig .tc := ⟨.hbm, 21, rfl⟩
abbrev main_call3_v1 : Ref sig .tc := ⟨.hbm, 22, rfl⟩
abbrev main_call3_cst : Ref sig .tc := ⟨.hbm, 23, rfl⟩
abbrev main_call3_v2 : Ref sig .tc := ⟨.hbm, 24, rfl⟩
abbrev main_call3_v3 : Ref sig .tc := ⟨.hbm, 25, rfl⟩
abbrev main_call3_cst_0 : Ref sig .tc := ⟨.hbm, 26, rfl⟩
abbrev main_call3_v4 : Ref sig .tc := ⟨.hbm, 27, rfl⟩
abbrev main_call3_v5 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩

abbrev nD : Nat := 1
abbrev τ : Topo := Topo.v7x

variable {F : FTy → Type} [FloatOps F]
-- ==== Proof.MoeBase.lean ====
/- The pieces of the experts' feed-forward program that its runs and its launch share: the memory at launch, the block experts read from
   it, each window's block at a point, and when the body copies an expert's weights into its scratch. -/
module

public import proofs.«01_k».proof.Proof.Gen.Kernel6Ideal.Launch
public import proofs.«01_k».proof.Proof.Gen.Kernel6Ideal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers when the pallas_call starts: as launched. -/
abbrev V (c : Dev nD) (b : Ref sig .tc) : Buf (Elt F) ((c : Thread nD τ).loc b) := m ((c : Thread nD τ).loc b)

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl

/-- The block experts as the launch memory holds them. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- Every weight window lies inside its array for these block experts. -/
abbrev Ok : Prop := ok0 (F := F) (tbl m)
/-- The table as admissible contents, and the pipeline it gives. -/
abbrev adm (hO : Ok m) : (pcfg0 (F := F)).Adm := ⟨tbl m, hO⟩
abbrev cfgM (hO : Ok m) : Pipeline.Cfg sig Λ₀ := cfg0 (adm m hO)

/-- The table as the body is handed it. -/
abbrev tbM0_0 : Memref sig .tc .smem S288 .i32 := Memref.whole main_arg1
abbrev htbM0_0 : tbM0_0.IsWhole := Memref.isWhole_whole _

abbrev TbBuf0 (c : Dev nD) {S : Shape} {e : EltTy} (M : Memref sig .tc .smem S e) : Type := Buf (Elt F) (M.view.loc (c : Thread nD τ))
/-- The half share of the table that the body reads through. -/
abbrev tbPt0 (c : Dev nD) {S : Shape} {e : EltTy} (M : Memref sig .tc .smem S e) (f : TbBuf0 (F := F) c M) : sProp 𝕄 :=
  M.view.loc (c : Thread nD τ) ↦{fullShare.right} f

/-- What the body is handed of the tables is that half share. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-- The block of window `w` at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The arguments end as launched, from any run of the pipeline over the launch arrays. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).2 main_arg1 (by decide : main_arg1 ∈ Pipeline.restRefs sig spec0)).trans (V_main_arg1 m c),
      ((h c).1 1).trans (((dats 0 c).arrAt_in 1 rfl _).trans ((hA c 1).trans (V_main_arg2 m c))),
      ((h c).1 2).trans (((dats 0 c).arrAt_in 2 rfl _).trans ((hA c 2).trans (V_main_arg3 m c))),
      ((h c).1 3).trans (((dats 0 c).arrAt_in 3 rfl _).trans ((hA c 3).trans (V_main_arg4 m c)))⟩) h

abbrev VO0_4 : View sig .tc .vmem S512x1024 .bf16 := (Memref.whole cc0_stg4_0 : Memref sig .tc .vmem S512x1024 .bf16).view
/-- The staging buffers at a point. -/
abbrev ms0_0 (hO : Ok m) (t : Fin (cfgM m hO).N) : Memref sig .tc .vmem S512x1024 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x1024x512 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x1024x512 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x512x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S512x1024 .bf16 := spec0_4.stage ((cfgM m hO).slots t 4)
abbrev hs0_4 (hO : Ok m) (t : Fin (cfgM m hO).N) : (ms0_4 m hO t).IsWhole := hstage0_4 (((cfgM m hO).slots t 4).cast nbuf0_4)

abbrev scM0_0 : Memref sig .tc .vmem S1024x512 .bf16 := Memref.whole cc0_scratch0
abbrev scM0_1 : Memref sig .tc .vmem S1024x512 .bf16 := Memref.whole cc0_scratch1
abbrev scM0_2 : Memref sig .tc .vmem S512x1024 .bf16 := Memref.whole cc0_scratch2

/-- The body at a point, on the buffers the pipeline hands it. -/
abbrev bodyAt0 (hO : Ok m) (t : Fin (cfgM m hO).N) : Prog (TpuEff nD τ sig (Elt F) Λ₀ .tc) PUnit :=
  cc0_moe_expert_ffn (grid0.coords t) (Memref.whole main_arg1) (Memref.isWhole_whole _) (ms0_0 m hO t) (hs0_0 m hO t) (ms0_1 m hO t) (hs0_1 m hO t)
    (ms0_2 m hO t) (hs0_2 m hO t) (ms0_3 m hO t) (hs0_3 m hO t) (ms0_4 m hO t) (hs0_4 m hO t)
    (Memref.whole cc0_scratch0) (Memref.isWhole_whole _) (Memref.whole cc0_scratch1) (Memref.isWhole_whole _) (Memref.whole cc0_scratch2) (Memref.isWhole_whole _)

/-- The second table offset: the block before, the first block's own at the first point. -/
theorem k0_off2_eq : ∀ i : grid0.Coords, k0_off2 i = ![(i 0).val - 1] := by
  intro i
  have r_i0 : (i 0).val < 288 := (i 0).isLt
  have h_arg0 : Affine.IsInt (BitVec.ofNat 32 (i 0).val) (((i 0).val : Int)) := Affine.ofNat _ (by omega)
  have h_c1 : Affine.IsInt 1#32 (1) := Affine.ofNat _ (by omega)
  have h_v3 : Affine.IsInt _ (((i 0).val : Int) - 1) := Affine.subi h_arg0 h_c1 (by omega)
  have h_c0 : Affine.IsInt 0#32 (0) := Affine.ofNat _ (by omega)
  have h_v4 : Affine.IsInt _ ((max (((i 0).val : Int) - 1) 0)) := Affine.maxsi h_v3 h_c0 (by omega)
  have h_v5 : Affine.IsInt _ ((max (((i 0).val : Int) - 1) 0)) := Affine.indexCast h_v4
  exact Affine.vec_cons h_v5 (by omega) <| Affine.vec_nil
instance closedOff_k0_off2 (i : grid0.Coords) : ClosedOff (k0_off2 i) := ⟨![(i 0).val - 1], k0_off2_eq i⟩

/-- The body's branch condition, of the point and the two table words. -/
abbrev condW (i : grid0.Coords) (v2 v6 : BitVec 32) : Prop :=
  Scalar.cmpi .ne (Scalar.extui (Scalar.ori (Scalar.cmpi .eq (BitVec.ofNat 32 (i 0).val) 0#32) (Scalar.cmpi .ne v2 v6)) : BitVec 32) 0#32 = 1#1

end Cert.Kernel6Ideal.Gen

end
-- ==== Proof.MoeRun.lean ====
/- The body at a point that copies its expert's weights into the scratch. -/
module

public import proofs.«01_k».proof.Proof.MoeBase
public import Idealize.ShloMosaic.Lib.Pipeline.ValueKit
public import Idealize.ShloMosaic.Lib.Ring

@[expose] public section

set_option maxRecDepth 16384

noncomputable section

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zeros2 : (![0, 0] : Fin 2 → Nat) = fun _ => 0 := funext fun a => match a with | ⟨0, _⟩ => rfl | ⟨1, _⟩ => rfl

theorem zeros4 : (![0, 0, 0, 0] : Fin 4 → Nat) = fun _ => 0 :=
  funext fun a => match a with | ⟨0, _⟩ => rfl | ⟨1, _⟩ => rfl | ⟨2, _⟩ => rfl | ⟨3, _⟩ => rfl

/-- What a buffer holds after its one whole store. -/
theorem read_stored {κ : Kind} {sp : Space} {a b : ℕ} {e : EltTy} (v : View sig κ sp ⟨2, ![a, b]⟩ e) (f : v.ty.Contents (Elt F))
    (inb : ∀ x, (![0, 0] : Fin 2 → Nat) x + (⟨2, ![a, b]⟩ : Shape).size x ≤ (⟨2, ![a, b]⟩ : Shape).size x) (w : (⟨2, ![a, b]⟩ : Shape).Idx → Elt F e) :
    v.read (Elt F) (v.writes (Elt F) f [⟨Rect.unit ![0, 0] (⟨2, ![a, b]⟩ : Shape).size inb, w⟩]) = w := by
  rw [View.read_writes_eq_canon _ _ _ fun y => ⟨_, List.mem_singleton.mpr rfl, View.mem_set_unit_zero zeros2 inb y⟩]
  exact View.canon_unit_zero zeros2 inb w

/-- What a scratch buffer holds after a conditional whole store. -/
theorem read_sel {κ : Kind} {sp : Space} {a b : ℕ} {e : EltTy} (v : View sig κ sp ⟨2, ![a, b]⟩ e) (P : Prop) [Decidable P] (f : v.ty.Contents (Elt F))
    (inb : ∀ x, (![0, 0] : Fin 2 → Nat) x + (⟨2, ![a, b]⟩ : Shape).size x ≤ (⟨2, ![a, b]⟩ : Shape).size x) (w s d : (⟨2, ![a, b]⟩ : Shape).Idx → Elt F e)
    (hT : P → s = w) (hF : ¬ P → s = d) (hd : v.read (Elt F) f = d) :
    v.read (Elt F) (if _hc : P then v.writes (Elt F) f [⟨Rect.unit ![0, 0] (⟨2, ![a, b]⟩ : Shape).size inb, w⟩] else f) = s := by
  by_cases h : P
  · rw [dif_pos h, read_stored, hT h]
  · rw [dif_neg h, hd, hF h]

/-- The table's index for a block. -/
abbrev blkIdx (k : Fin 288) : S288.Idx := fun a => match a with | ⟨0, _⟩ => k

/-- A word of the block-expert table. -/
abbrev wordAt (T : S288.Idx → BitVec 32) (k : Fin 288) : BitVec 32 := T (blkIdx k)

theorem word_eq (T : S288.Idx → BitVec 32) (k : Fin 288) (y : S288.Idx) (hy : (y 0).val = k.val) : T y = wordAt T k :=
  congrArg T (funext fun a => match a with | ⟨0, _⟩ => Fin.ext hy)

set_option maxHeartbeats 2000000 in
theorem moeRun (c : Dev nD) (i : grid0.Coords) (arg2 : Memref sig .tc .vmem S512x1024 .bf16) (harg2 : arg2.IsWhole) (arg3 : Memref sig .tc .vmem S1x1x1024x512 .f32) (harg3 : arg3.IsWhole)
    (arg4 : Memref sig .tc .vmem S1x1x1024x512 .f32) (harg4 : arg4.IsWhole) (arg5 : Memref sig .tc .vmem S1x1x512x1024 .f32) (harg5 : arg5.IsWhole)
    (arg6 : Memref sig .tc .vmem S512x1024 .bf16) (harg6 : arg6.IsWhole) (arg7 : Memref sig .tc .vmem S1024x512 .bf16) (harg7 : arg7.IsWhole)
    (arg8 : Memref sig .tc .vmem S1024x512 .bf16) (harg8 : arg8.IsWhole) (arg9 : Memref sig .tc .vmem S512x1024 .bf16) (harg9 : arg9.IsWhole)
    (x0 : Vec F S512x1024 .bf16) (x1 : Vec F S1x1x1024x512 .f32) (x2 : Vec F S1x1x1024x512 .f32) (x3 : Vec F S1x1x512x1024 .f32) (xt0 : TbBuf0 (F := F) c tbM0_0)
    (d0 d1 s0 s1 : Vec F S1024x512 .bf16) (d2 s2 : Vec F S512x1024 .bf16)
    (hT : condW i (wordAt xt0 (i 0)) (wordAt xt0 ⟨(i 0).val - 1, by have : (i 0).val < 288 := (i 0).isLt; omega⟩) → s0 = k0_pay1 x1 ∧ s1 = k0_pay2 x2 ∧ s2 = k0_pay3 x3)
    (hF : ¬ condW i (wordAt xt0 (i 0)) (wordAt xt0 ⟨(i 0).val - 1, by have : (i 0).val < 288 := (i 0).isLt; omega⟩) → s0 = d0 ∧ s1 = d1 ∧ s2 = d2) :
    ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ (∃ d, owns (c : Thread nD τ) arg6 fullShare d)
            ∗ owns (c : Thread nD τ) arg7 fullShare d0 ∗ owns (c : Thread nD τ) arg8 fullShare d1 ∗ owns (c : Thread nD τ) arg9 fullShare d2
            ∗ tbPt0 c tbM0_0 xt0
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay4 x0 s0 s1 s2)
            ∗ owns (c : Thread nD τ) arg7 fullShare s0 ∗ owns (c : Thread nD τ) arg8 fullShare s1 ∗ owns (c : Thread nD τ) arg9 fullShare s2
            ∗ tbPt0 c tbM0_0 xt0) -∗ K ⟨⟩))
          ⊢ wp frame (wpE (defs₀ (F := F)) Variants.none c none) E (cc0_moe_expert_ffn i tbM0_0 htbM0_0 arg2 harg2 arg3 harg3 arg4 harg4 arg5 harg5 arg6 harg6 arg7 harg7 arg8 harg8 arg9 harg9) K := by
    intro E K
    simp only [cc0_moe_expert_ffn_eq_skeleton]; unfold cc0_moe_expert_ffn_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hs0, HS0⟩, ⟨%fs1, %hs1, HS1⟩, ⟨%fs2, %hs2, HS2⟩, HT0, Hk⟩
    obtain rfl := harg2.eq_unread hf0; obtain rfl := harg3.eq_unread hf1; obtain rfl := harg4.eq_unread hf2; obtain rfl := harg5.eq_unread hf3
    sl_exec
    sl_step
    have hv : moeRun.sl.v10 c i xt0 = 1#1 ↔ condW i (wordAt xt0 (i 0)) (wordAt xt0 ⟨(i 0).val - 1, by have : (i 0).val < 288 := (i 0).isLt; omega⟩) := by
      unfold moeRun.sl.v10 moeRun.sl.v9 moeRun.sl.v8 moeRun.sl.v7 moeRun.sl.v0
      rw [show moeRun.sl.r c i xt0 = wordAt xt0 (i 0) from word_eq xt0 (i 0) _ (by show k0_off1 i 0 + 0 = _; rw [k0_off1_eq]; rfl),
        show moeRun.sl.r_1 c i xt0 = wordAt xt0 ⟨(i 0).val - 1, by have : (i 0).val < 288 := (i 0).isLt; omega⟩ from
          word_eq xt0 _ _ (by show k0_off2 i 0 + 0 = _; rw [k0_off2_eq]; rfl)]
    have r3 := (View.readAt_eq_ld arg3.view (harg3.unread x1) (Rect.unit ![0, 0, 0, 0] S1x1x1024x512.size inb_S1x1x1024x512_S1x1x1024x512_0_0_0_0)).trans
      ((View.ld_unit_zero zeros4 _ _).trans (harg3.read_unread x1))
    have r4 := (View.readAt_eq_ld arg4.view (harg4.unread x2) (Rect.unit ![0, 0, 0, 0] S1x1x1024x512.size inb_S1x1x1024x512_S1x1x1024x512_0_0_0_0)).trans
      ((View.ld_unit_zero zeros4 _ _).trans (harg4.read_unread x2))
    have r5 := (View.readAt_eq_ld arg5.view (harg5.unread x3) (Rect.unit ![0, 0, 0, 0] S1x1x512x1024.size inb_S1x1x512x1024_S1x1x512x1024_0_0_0_0)).trans
      ((View.ld_unit_zero zeros4 _ _).trans (harg5.read_unread x3))
    have g0 := read_sel arg7.view (moeRun.sl.v10 c i xt0 = 1#1) fs0 inb_S1024x512_S1024x512_0_0 _ s0 d0
      (fun h => (hT (hv.mp h)).1.trans (congrArg k0_pay1 r3).symm) (fun h => (hF (fun h' => h (hv.mpr h'))).1) hs0
    have g1 := read_sel arg8.view (moeRun.sl.v10 c i xt0 = 1#1) fs1 inb_S1024x512_S1024x512_0_0 _ s1 d1
      (fun h => (hT (hv.mp h)).2.1.trans (congrArg k0_pay2 r4).symm) (fun h => (hF (fun h' => h (hv.mpr h'))).2.1) hs1
    have g2 := read_sel arg9.view (moeRun.sl.v10 c i xt0 = 1#1) fs2 inb_S512x1024_S512x1024_0_0 _ s2 d2
      (fun h => (hT (hv.mp h)).2.2.trans (congrArg k0_pay3 r5).symm) (fun h => (hF (fun h' => h (hv.mpr h'))).2.2) hs2
    have g4 : k0_pay4 (View.readAt (Elt F) arg2.view (Rect.unit ![0, 0] S512x1024.size inb_S512x1024_S512x1024_0_0).toLoadRect (harg2.unread x0))
        (moeRun.sl.v12 c i arg3 harg3 arg7 x1 xt0 fs0) (moeRun.sl.v14 c i arg4 harg4 arg8 x2 xt0 fs1) (moeRun.sl.v20 c i arg5 harg5 arg9 x3 xt0 fs2)
        = k0_pay4 x0 s0 s1 s2 := by
      have q (a b : ℕ) {e : EltTy} (v : View sig .tc .vmem ⟨2, ![a, b]⟩ e) (f : v.ty.Contents (Elt F))
          (inb : ∀ x, (![0, 0] : Fin 2 → Nat) x + (⟨2, ![a, b]⟩ : Shape).size x ≤ (⟨2, ![a, b]⟩ : Shape).size x) :
          v.readAt (Elt F) (Rect.unit ![0, 0] (⟨2, ![a, b]⟩ : Shape).size inb).toLoadRect f = v.read (Elt F) f :=
        (View.readAt_eq_ld _ _ _).trans (View.ld_unit_zero zeros2 _ _)
      have q2 := (q 512 1024 arg2.view (harg2.unread x0) inb_S512x1024_S512x1024_0_0).trans (harg2.read_unread x0)
      have q12 : moeRun.sl.v12 c i arg3 harg3 arg7 x1 xt0 fs0 = s0 := by
        unfold moeRun.sl.v12; exact (q 1024 512 _ _ _).trans g0
      have q14 : moeRun.sl.v14 c i arg4 harg4 arg8 x2 xt0 fs1 = s1 := by
        unfold moeRun.sl.v14; exact (q 1024 512 _ _ _).trans g1
      have q20 : moeRun.sl.v20 c i arg5 harg5 arg9 x3 xt0 fs2 = s2 := by
        unfold moeRun.sl.v20; exact (q 512 1024 _ _ _).trans g2
      rw [q12, q14, q20]
      exact congrArg (fun z => k0_pay4 z s0 s1 s2) q2
    rw [g4]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      exact read_stored _ _ _ _
    isplitl [HS0]
    · iexists _; isplitr; swap; · iexact HS0
      ipureintro; exact g0
    isplitl [HS1]
    · iexists _; isplitr; swap; · iexact HS1
      ipureintro; exact g1
    isplitl [HS2]
    · iexists _; isplitr; swap; · iexact HS2
      ipureintro; exact g2
    iexact HT0

end Cert.Kernel6Ideal.Gen

end
-- ==== Proof.MoeIdx.lean ====
/- Where each window of the experts' feed-forward is at a point, in terms of the block's expert; when two points share their weights; and
   the pipeline's side condition from the range of the experts. -/
module

public import proofs.«01_k».proof.Proof.MoeRun

@[expose] public section

set_option maxRecDepth 16384

noncomputable section

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem pt (t : Fin grid0.N) : (grid0.coords t 0).val = t.val := by
  have ht : t.val < 288 := Nat.lt_of_lt_of_eq t.isLt N_0
  have e0 : (grid0.coords t 0).val = t.val / 1 % 288 := Pipeline.Grid.coords_val t 0 (by decide) rfl
  omega

/-- The expert of block `k`, as a number. -/
def expert (pf : pre0.Contents (Elt F)) (k : ℕ) : ℕ := if h : k < 288 then (wordAt (pf 0) ⟨k, h⟩).toNat else 0

theorem map_word (pf : pre0.Contents (Elt F)) (i : grid0.Coords) (inb) :
    ((pf.at 0 (Rect.unit (s := S288) ![(Scalar.indexCast (BitVec.ofNat 32 (i 0).val)).toNat] S1.size inb) numel1_S1 : BitVec 32)).toNat = expert pf (i 0).val := by
  have h : (i 0).val < 288 := (i 0).isLt
  unfold expert
  rw [dif_pos h]
  exact congrArg BitVec.toNat (word_eq (pf 0) ⟨(i 0).val, h⟩ _ (by show k0_off1 i 0 + 0 = _; rw [k0_off1_eq]; rfl))

theorem map1 (pf : pre0.Contents (Elt F)) (i : grid0.Coords) : cc0_transform_1 k0_off1_inb numel1_S1 pf i = ![0, expert pf (i 0).val, 0, 0] := by
  unfold cc0_transform_1; rw [← map_word pf i (k0_off1_inb i)]; rfl
theorem map2 (pf : pre0.Contents (Elt F)) (i : grid0.Coords) : cc0_transform_2 k0_off1_inb numel1_S1 pf i = ![0, expert pf (i 0).val, 0, 0] := by
  unfold cc0_transform_2; rw [← map_word pf i (k0_off1_inb i)]; rfl
theorem map3 (pf : pre0.Contents (Elt F)) (i : grid0.Coords) : cc0_transform_3 k0_off1_inb numel1_S1 pf i = ![0, expert pf (i 0).val, 0, 0] := by
  unfold cc0_transform_3; rw [← map_word pf i (k0_off1_inb i)]; rfl

/-- Experts within range put every weight window inside its array. -/
theorem ok_of_range (pf : pre0.Contents (Elt F)) (h : ∀ k, expert pf k < 32) : ok0 pf := by
  refine ⟨fun i => ⟨?_, .inl rfl⟩, fun i => ⟨?_, .inl rfl⟩, fun i => ⟨?_, .inl rfl⟩⟩
  all_goals
    have hk := h (i 0).val
    first | rw [map1] | rw [map2] | rw [map3]
    intro a
    match a with
    | ⟨0, _⟩ => exact Nat.le_of_ble_eq_true rfl
    | ⟨1, _⟩ => show (expert pf (i 0).val + 1) * 1 ≤ 32; omega
    | ⟨2, _⟩ => exact Nat.le_of_ble_eq_true rfl
    | ⟨3, _⟩ => exact Nat.le_of_ble_eq_true rfl

theorem index0 (hO : Ok m) (t : Fin (cfgM m hO).N) : ((cfgM m hO).win 0).index t = ![t.val, 0] := by
  show cc0_transform_0 (grid0.coords t) = _
  have ht : t.val < 288 := Nat.lt_of_lt_of_eq t.isLt N_0
  unfold cc0_transform_0
  rw [pt t]
  funext a
  match a with
  | ⟨0, _⟩ => show (t.val % 2 ^ 32) = t.val; omega
  | ⟨1, _⟩ => rfl
theorem index4 (hO : Ok m) (t : Fin (cfgM m hO).N) : ((cfgM m hO).win 4).index t = ![t.val, 0] := by
  show cc0_transform_4 (grid0.coords t) = _
  have ht : t.val < 288 := Nat.lt_of_lt_of_eq t.isLt N_0
  unfold cc0_transform_4
  rw [pt t]
  funext a
  match a with
  | ⟨0, _⟩ => show (t.val % 2 ^ 32) = t.val; omega
  | ⟨1, _⟩ => rfl
theorem index1 (hO : Ok m) (t : Fin (cfgM m hO).N) : ((cfgM m hO).win 1).index t = ![0, expert (tbl m) t.val, 0, 0] :=
  (map1 (tbl m) (grid0.coords t)).trans (by rw [pt t])
theorem index2 (hO : Ok m) (t : Fin (cfgM m hO).N) : ((cfgM m hO).win 2).index t = ![0, expert (tbl m) t.val, 0, 0] :=
  (map2 (tbl m) (grid0.coords t)).trans (by rw [pt t])
theorem index3 (hO : Ok m) (t : Fin (cfgM m hO).N) : ((cfgM m hO).win 3).index t = ![0, expert (tbl m) t.val, 0, 0] :=
  (map3 (tbl m) (grid0.coords t)).trans (by rw [pt t])

abbrev xBlk (hO : Ok m) (c : Dev nD) (t : Fin (cfgM m hO).N) : Vec F S512x1024 .bf16 := iblk m hO c 0 t
abbrev w1Blk (hO : Ok m) (c : Dev nD) (t : Fin (cfgM m hO).N) : Vec F S1x1x1024x512 .f32 := iblk m hO c 1 t
abbrev w3Blk (hO : Ok m) (c : Dev nD) (t : Fin (cfgM m hO).N) : Vec F S1x1x1024x512 .f32 := iblk m hO c 2 t
abbrev w2Blk (hO : Ok m) (c : Dev nD) (t : Fin (cfgM m hO).N) : Vec F S1x1x512x1024 .f32 := iblk m hO c 3 t

/-- Two points of one expert see the same weights. -/
theorem w1_same (hO : Ok m) (c : Dev nD) (t t' : Fin (cfgM m hO).N) (h : expert (tbl m) t.val = expert (tbl m) t'.val) : w1Blk m hO c t = w1Blk m hO c t' := by
  funext y
  blk_ext [w1Blk, iblk, index1 m hO t, index1 m hO t']
theorem w3_same (hO : Ok m) (c : Dev nD) (t t' : Fin (cfgM m hO).N) (h : expert (tbl m) t.val = expert (tbl m) t'.val) : w3Blk m hO c t = w3Blk m hO c t' := by
  funext y
  blk_ext [w3Blk, iblk, index2 m hO t, index2 m hO t']
theorem w2_same (hO : Ok m) (c : Dev nD) (t t' : Fin (cfgM m hO).N) (h : expert (tbl m) t.val = expert (tbl m) t'.val) : w2Blk m hO c t = w2Blk m hO c t' := by
  funext y
  blk_ext [w2Blk, iblk, index3 m hO t, index3 m hO t']

/-- The body's branch is taken exactly when this is the first point or the expert is not the previous block's. -/
theorem cond_iff (i : grid0.Coords) (v w : BitVec 32) : condW i v w ↔ (i 0).val = 0 ∨ v ≠ w := by
  have hi : (i 0).val < 288 := (i 0).isLt
  have key : ∀ b1 b2 : Bool, (Scalar.cmpi .ne (Scalar.extui (Scalar.ori (BitVec.ofBool b1) (BitVec.ofBool b2)) : BitVec 32) 0#32 = 1#1) ↔ (b1 = true ∨ b2 = true) := by
    decide
  refine (key (BitVec.ofNat 32 (i 0).val == 0#32) (v != w)).trans ?_
  rw [beq_iff_eq, bne_iff_ne]
  refine or_congr ⟨fun h => ?_, fun h => by rw [h]⟩ Iff.rfl
  have := congrArg BitVec.toNat h
  simp at this
  omega

end Cert.Kernel6Ideal.Gen

end
-- ==== Proof.MoeLaunch.lean ====
/- The launch of the experts' feed-forward: between points the scratch holds the weights of the last block's expert, so at every point the
   body computes the block from its own expert's weights. -/
module

public import proofs.«01_k».proof.Proof.MoeIdx
public import Idealize.ShloMosaic.Lib.Claim

@[expose] public section

set_option maxRecDepth 16384

noncomputable section

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the scratch holds before point `k`: the weights the point before used. -/
def Kept (hO : Ok m) (c : Dev nD) (k : ℕ) (d0 d1 : Vec F S1024x512 .bf16) (d2 : Vec F S512x1024 .bf16) : Prop :=
  ∀ t : Fin (cfgM m hO).N, t.val + 1 = k → d0 = k0_pay1 (w1Blk m hO c t) ∧ d1 = k0_pay2 (w3Blk m hO c t) ∧ d2 = k0_pay3 (w2Blk m hO c t)

/-- The invariant between points: the scratch as `Kept` says, the generator register and the table's half share. -/
def inv (hO : Ok m) (c : Dev nD) (k : ℕ) : sProp 𝕄 :=
  iprop(((∃ d0, ∃ d1, ∃ d2, ⌜Kept m hO c k d0 d1 d2⌝ ∗ owns (c : Thread nD τ) scM0_0 fullShare d0 ∗ owns (c : Thread nD τ) scM0_1 fullShare d1
      ∗ owns (c : Thread nD τ) scM0_2 fullShare d2)
    ∗ (∃ r, prngReg c r)) ∗ tbPt0 c tbM0_0 (tbl m 0))

/-- What the body leaves in the output's buffer at a point. -/
def outBlk (hO : Ok m) (c : Dev nD) (t : Fin (cfgM m hO).N) : Vec F S512x1024 .bf16 :=
  k0_pay4 (xBlk m hO c t) (k0_pay1 (w1Blk m hO c t)) (k0_pay2 (w3Blk m hO c t)) (k0_pay3 (w2Blk m hO c t))

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outBlk m hO c t
  Φ k := inv m hO c k.val
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = outBlk m hO c t := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-! ## The body at a point -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t))

/-- At a point that keeps the scratch, what it holds is already this point's weights. -/
theorem kept_here (hO : Ok m) (c : Dev nD) (t : Fin (cfgM m hO).N) (d0 d1 d2) (hk : Kept m hO c t.val d0 d1 d2)
    (hF : ¬ condW (grid0.coords t) (wordAt (tbl m 0) (grid0.coords t 0))
      (wordAt (tbl m 0) ⟨(grid0.coords t 0).val - 1, by have : (grid0.coords t 0).val < 288 := (grid0.coords t 0).isLt; omega⟩)) :
    k0_pay1 (w1Blk m hO c t) = d0 ∧ k0_pay2 (w3Blk m hO c t) = d1 ∧ k0_pay3 (w2Blk m hO c t) = d2 := by
  have ht : t.val < 288 := Nat.lt_of_lt_of_eq t.isLt N_0
  have hp := pt t
  rw [cond_iff, not_or, not_not] at hF
  obtain ⟨h0, hw⟩ := hF
  have hN : t.val - 1 < (cfgM m hO).N := lt_of_le_of_lt (Nat.sub_le _ _) t.isLt
  have he : expert (tbl m) t.val = expert (tbl m) (t.val - 1) := by
    unfold expert
    rw [dif_pos ht, dif_pos (by omega)]
    have e1 : (⟨t.val, ht⟩ : Fin 288) = grid0.coords t 0 := Fin.ext hp.symm
    have e2 : (⟨t.val - 1, by omega⟩ : Fin 288) = ⟨(grid0.coords t 0).val - 1, by have : (grid0.coords t 0).val < 288 := (grid0.coords t 0).isLt; omega⟩ :=
      Fin.ext (by show t.val - 1 = _ - 1; rw [hp])
    rw [e1, e2]
    exact congrArg BitVec.toNat hw
  obtain ⟨a0, a1, a2⟩ := hk ⟨t.val - 1, hN⟩ (by show t.val - 1 + 1 = _; omega)
  rw [a0, a1, a2, w1_same m hO c t ⟨t.val - 1, hN⟩ he, w3_same m hO c t ⟨t.val - 1, hN⟩ he, w2_same m hO c t ⟨t.val - 1, hN⟩ he]
  exact ⟨rfl, rfl, rfl⟩

set_option maxHeartbeats 1600000 in
theorem sound_body (hO : Ok m) (c : Dev nD) (t : Fin (cfgM m hO).N) :
    bodyPre m hO c t ⊢ wp frame (wpE (defs₀ (F := F)) Variants.none c none) Set.univ (bodyAt0 m hO t) (fun _ => bodyPost m hO c t) := by
  unfold bodyPre bodyPost bodyAt0
  simp only [before0_0, before0_1, before0_2, before0_3]
  rw [show (dats m hO 0 c).owesAt () t.succ = (dats m hO 0 c).owesAt () t.castSucc from rfl,
    after0_0, after0_1, after0_2, after0_3, after0_4]
  rw [show (dats m hO 0 c).Φ t.castSucc = inv m hO c t.val from rfl, show (dats m hO 0 c).Φ t.succ = inv m hO c (t.val + 1) from rfl]
  unfold inv outBlk
  iintro ⟨⟨⟨⟨%ds0, %ds1, %ds2, %hk, HS0, HS1, HS2⟩, Hg⟩, HT0⟩, Ho, ⟨%d0, H0⟩, ⟨%d1, H1⟩, ⟨%d2, H2⟩, ⟨%d3, H3⟩, ⟨%d4, H4⟩⟩
  iapply ((moeRun c (grid0.coords t) _ _ _ _ _ _ _ _ _ _ _ _ _ _ _ _ (xBlk m hO c t) (w1Blk m hO c t) (w3Blk m hO c t) (w2Blk m hO c t) (tbl m 0)
    ds0 ds1 (k0_pay1 (w1Blk m hO c t)) (k0_pay2 (w3Blk m hO c t)) ds2 (k0_pay3 (w2Blk m hO c t)) (fun _ => ⟨rfl, rfl, rfl⟩)
    (kept_here m hO c t ds0 ds1 ds2 hk)) Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  isplitl [HT0]; · iexact HT0
  iintro ⟨H0, H1, H2, H3, H4, HS0, HS1, HS2, HT0⟩
  isplitl [HS0 HS1 HS2 Hg HT0]
  · isplitl [HS0 HS1 HS2 Hg]
    · isplitl [HS0 HS1 HS2]
      · iexists _, _, _
        isplitr
        · ipureintro
          intro t' e
          obtain rfl : t' = t := Fin.ext (by omega)
          exact ⟨rfl, rfl, rfl⟩
        isplitl [HS0]
        · iexact HS0
        isplitl [HS1]
        · iexact HS1
        iexact HS2
      iexact Hg
    iexact HT0
  isplitl [Ho]; · iexact Ho
  isplitl [H0]; · iexact H0
  isplitl [H1]; · iexact H1
  isplitl [H2]; · iexact H2
  isplitl [H3]; · iexact H3
  iexact H4

theorem defs₀_row (hO : Ok m) (t : Fin (cfgM m hO).N) :
    defs₀ (F := F) .tc (cfgM m hO).body ((cfgM m hO).bodyArgs t ((cfgM m hO).slots t)) = bodyAt0 m hO t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d))
        ∗ (∃ r, prngReg c r)) := by
  unfold Pipeline.ΦA; rw [scopedRest0_eq]; simp only [scM0_0, scM0_1, scM0_2, owns_whole]; try rfl

/-- Before the first point nothing is asked of the scratch. -/
theorem inv_in (hO : Ok m) (c : Dev nD) : iprop(Pipeline.ΦA spec0 c ∗ Pipeline.ΦT pre0 (tbl m) c : sProp 𝕄) ⊢ (dats m hO 0 c).Φ 0 := by
  rw [PhiA0_eq, PhiT0_eq, show (dats m hO 0 c).Φ 0 = inv m hO c 0 from rfl]
  unfold inv
  iintro ⟨⟨⟨⟨%d0, HS0⟩, ⟨%d1, HS1⟩, ⟨%d2, HS2⟩⟩, Hg⟩, HT0⟩
  isplitl [HS0 HS1 HS2 Hg]
  · isplitl [HS0 HS1 HS2]
    · iexists d0, d1, d2
      isplitr
      · ipureintro; exact fun t e => absurd e (Nat.succ_ne_zero _)
      isplitl [HS0]; · iexact HS0
      isplitl [HS1]; · iexact HS1
      iexact HS2
    iexact Hg
  iexact HT0

/-- After the last point what it holds is forgotten. -/
theorem inv_out (hO : Ok m) (c : Dev nD) : (dats m hO 0 c).Φ (Fin.last (cfgM m hO).N) ⊢ (Pipeline.ΦA spec0 c : sProp 𝕄) := by
  rw [PhiA0_eq, show (dats m hO 0 c).Φ (Fin.last (cfgM m hO).N) = inv m hO c (cfgM m hO).N from rfl]
  unfold inv
  iintro ⟨⟨⟨%d0, %d1, %d2, -, HS0, HS1, HS2⟩, Hg⟩, -⟩
  isplitl [HS0 HS1 HS2]
  · isplitl [HS0]
    · iexists d0; iexact HS0
    isplitl [HS1]
    · iexists d1; iexact HS1
    iexists d2; iexact HS2
  iexact Hg

set_option backward.isDefEq.respectTransparency.types false in
theorem run_main_quiescent (hO : Ok m) : θ_run defs (onTc (τ := τ) (main (F := F))) (s₀ m ρ)
    (fun r => Pipeline.FramePost (Pipeline.pin pcfgs fun _ => adm m hO) (dats m hO) 0 (V m) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := inv_in m hO) (hout := inv_out m hO)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (dats m hO) (A_eq m hO) (run_main m ρ hO)

theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO) ((θ_run defs _ _).mono (fun _ h => h.2) (run_main_quiescent m ρ hO))

end Cert.Kernel6Ideal.Gen

end
-- ==== Proof.MoeSpec.lean ====
/- The gated network of an expert as sums, the rows of a stack taken by a list of numbers, and the range of the experts. -/
module

public import proofs.«01_k».proof.Proof.Gen.Pre_in_range
public import Idealize.ShloMosaic.Lib.ReduceAll
public import Idealize.ShloMosaic.Lib.ValueIdx
public import Idealize.ShloMosaic.Lib.Pointwise
public import Idealize.ShloMosaic.PureOps.Ideal.Laws

@[expose] public section

set_option maxRecDepth 16384

noncomputable section

namespace Cert.Moe

open Idealize.ShloMosaic

/-- The product of a row with a column of weights. -/
def hidden (x : Fin 1024 → EReal) (u : Fin 1024 → Fin 512 → EReal) (f : Fin 512) : EReal := ∑ k, x k * u k f

/-- An expert's output at a row: its hidden products gated, times its output weights. -/
def ffn (x : Fin 1024 → EReal) (u1 u3 : Fin 1024 → Fin 512 → EReal) (u2 : Fin 512 → Fin 1024 → EReal) (j : Fin 1024) : EReal :=
  ∑ f, hidden x u1 f * Ideal.logistic (hidden x u1 f) * hidden x u3 f * u2 f j

/-- The matrices of a stack taken by a list of numbers: entry `(p, a, b)` of the result is entry `(a, b)` of the matrix that the list
    names at `p`, when it names one. -/
theorem take_apply {α : Type} {N A B R : Nat} (d : GatherDims ⟨3, ![N, A, B]⟩ ⟨2, ![R, 1]⟩ ⟨3, ![R, A, B]⟩)
    (hoff : d.offsetDims = [1, 2]) (hcoll : d.collapsedSliceDims = [0]) (hob : d.operandBatchingDims = [])
    (hsim : d.startIndexMap = [0]) (hivd : d.indexVectorDim = 1)
    (x : (⟨3, ![N, A, B]⟩ : Shape).Idx → α) (idx : IVec ⟨2, ![R, 1]⟩ 32) (p : Fin R) (a : Fin A) (b : Fin B) (e : Fin N)
    (he : (idx (ix2 p (0 : Fin 1))).toInt = e.val) : Host.gather d x idx (ix3 p a b) = x (ix3 e a b) := by
  obtain ⟨offs, coll, ob, sb, sim, ivd, ss, wf⟩ := d
  simp only at hoff hcoll hob hsim hivd
  subst hoff hcoll hob hsim hivd
  unfold Host.gather
  refine congrArg x (funext fun c => Fin.ext ?_)
  have hsl : ss 0 = 1 := GatherDims.slice_collapsed ⟨[1, 2], [0], [], sb, [0], 1, ss, wf⟩ 0 (List.mem_singleton.2 rfl)
  have hsb : sb = [] := List.length_eq_zero_iff.1 (GatherDims.ob_length ⟨[1, 2], [0], [], sb, [0], 1, ss, wf⟩).symm
  subst hsb
  generalize hd : (⟨[1, 2], [0], [], [], [0], 1, ss, wf⟩ : GatherDims ⟨3, ![N, A, B]⟩ ⟨2, ![R, 1]⟩ ⟨3, ![R, A, B]⟩) = d
  show d.start (ix3 p a b) idx c + d.batchCoord (ix3 p a b) c + d.offCoord (ix3 p a b) c = (ix3 e a b c).val
  rw [d.batchCoord_eq_zero _ _ (by subst hd; exact List.not_mem_nil), Nat.add_zero]
  match c with
  | ⟨0, _⟩ =>
    rw [d.offCoord_eq_zero _ _ (fun h => ((GatherDims.mem_sKept _ _).mp h).1 (by subst hd; exact List.mem_singleton.mpr rfl)), Nat.add_zero]
    subst hd
    unfold GatherDims.start
    refine Eq.trans (dif_pos (List.mem_singleton.mpr rfl)) ?_
    have hsi : ∀ n, GatherDims.siIdx (⟨[1, 2], [0], [], [], [0], 1, ss, wf⟩ : GatherDims ⟨3, ![N, A, B]⟩ ⟨2, ![R, 1]⟩ ⟨3, ![R, A, B]⟩) (ix3 p a b) n = ix2 p (0 : Fin 1) := by
      intro n
      funext q
      match q with
      | ⟨0, _⟩ => rfl
      | ⟨1, _⟩ => exact Subsingleton.elim (α := Fin 1) _ _
    rw [hsi, he]
    have := e.isLt
    show min ((e.val : Int)).toNat (N - ss 0) = e.val
    rw [hsl]
    omega
  | ⟨1, _⟩ =>
    subst hd
    unfold GatherDims.start
    refine Eq.trans (congrArg (· + _) (dif_neg fun h => Nat.one_ne_zero (congrArg Fin.val (List.mem_singleton.1 h)))) ?_
    exact Nat.zero_add _
  | ⟨2, _⟩ =>
    subst hd
    unfold GatherDims.start
    refine Eq.trans (congrArg (· + _) (dif_neg fun h => Nat.succ_ne_zero 1 (congrArg Fin.val (List.mem_singleton.1 h)))) ?_
    exact Nat.zero_add _

/-- A word that is not negative and below 32 as a signed number is a number below 32. -/
theorem word_lt {v : BitVec 32} (h0 : IntOp.cmpi .sge v 0#32 = 1#1) (h1 : IntOp.cmpi .slt v 32#32 = 1#1) : v.toNat < 32 := by
  have ob : ∀ b : Bool, BitVec.ofBool b = 1#1 → b = true := by decide
  have a : (0#32).sle v = true := ob _ h0
  have b : v.slt 32#32 = true := ob _ h1
  unfold BitVec.sle at a
  unfold BitVec.slt at b
  have a' := of_decide_eq_true a
  have b' := of_decide_eq_true b
  have z : (0#32).toInt = 0 := by decide
  have t : (32#32).toInt = 32 := by decide
  rw [z] at a'
  rw [t] at b'
  unfold BitVec.toInt at a' b'
  have := v.isLt
  split at a' <;> omega

theorem toInt_of_lt {v : BitVec 32} (h : v.toNat < 32) : v.toInt = v.toNat := by
  unfold BitVec.toInt
  split <;> omega

end Cert.Moe

namespace Cert.Pre_in_range

open Idealize.ShloMosaic

variable [Facts] {F : FTy → Type} [FloatOps F]

/-- Every block's expert is one of the 32. -/
theorem word_range (x : FVec F S147456x1024 .bf16) (be : IVec S288 32) (w1 w3 : FVec F S2x32x1024x512 .f32) (w2 : FVec F S2x32x512x1024 .f32)
    (h : fn (F := F) x be w1 w3 w2 = fun _ => 1#1) (i : S288.Idx) : (be i).toNat < 32 := by
  have h0 := congrFun h (Shape.Idx.first Facts.h_S_)
  dsimp only [fn] at h0
  have : Subsingleton S_.Idx := ⟨fun a b => funext fun i => i.elim0⟩
  obtain ⟨ha, hb⟩ := IntOp.andi_eq_one.1 (Host.reduce_andi_all _ _ _ _ _ h0 i)
  exact Cert.Moe.word_lt ha hb

end Cert.Pre_in_range

end
-- ==== Proof.MoeRef.lean ====
/- The experts' feed-forward as its reference computes it. -/
module

public import proofs.«01_k».proof.Proof.MoeSpec
public import proofs.«01_k».proof.Proof.Gen.Reference6Ideal.Read

@[expose] public section

set_option maxRecDepth 16384

noncomputable section

namespace Cert.Reference6Ideal.Read

open Idealize.ShloMosaic Idealize.ShloMosaic.TcCoe Idealize.ShloMosaic.Tactic
open Cert.Reference6Ideal Cert.Reference6Ideal.Gen
open Cert.Moe

variable (x : Vec Ideal S147456x1024 .bf16) (be : (⟨S288, .i32⟩ : BufTy).Contents (Elt Ideal)) (w1 w3 : Vec Ideal S2x32x1024x512 .f32) (w2 : Vec Ideal S2x32x512x1024 .f32)

/-- The rows of a block, -/
theorem x_apply (p : Fin 288) (r : Fin 512) (R : Fin 147456) (hR : R.val = 512 * p.val + r.val) (k : Fin 1024) : val_main_v1 (F := Ideal) x (ix3 p r k) = x (ix2 R k) := by
  rw [val_main_v1_apply, val_main_v0_apply]
  refine congrArg x (funext fun a => Fin.ext ?_)
  match a with
  | ⟨0, _⟩ => show ((p.val * 512 + r.val) * 1024 + k.val) / 1024 = R.val; omega
  | ⟨1, _⟩ => show ((p.val * 512 + r.val) * 1024 + k.val) % 1024 = k.val; omega

section
variable (p : Fin 288) (e : Fin 32) (he : (be (ix1 p)).toInt = e.val)
include he

/-- its expert's weights: -/
theorem u1_apply (k : Fin 1024) (f : Fin 512) : val_main_v4 (F := Ideal) be w1 (ix3 p k f) = w1 (ix4 0 e k f) := by
  unfold val_main_v4
  refine (take_apply _ rfl rfl rfl rfl rfl _ _ p k f e ?_).trans ?_
  · rw [val_main_call0_v0_apply]
    refine (congrArg (fun i => (be i).toInt) ?_).trans he
    funext a
    match a with
    | ⟨0, _⟩ => rfl
  rw [val_main_v3_apply, val_main_v2_apply]
  refine congrArg w1 (funext fun a => Fin.ext ?_)
  match a with
  | ⟨0, _⟩ => rfl
  | ⟨1, _⟩ => show ((e.val * 1024 + k.val) * 512 + f.val) / 524288 % 32 = e.val; omega
  | ⟨2, _⟩ => show ((e.val * 1024 + k.val) * 512 + f.val) / 512 % 1024 = k.val; omega
  | ⟨3, _⟩ => show ((e.val * 1024 + k.val) * 512 + f.val) % 512 = f.val; omega

theorem u3_apply (k : Fin 1024) (f : Fin 512) : val_main_v7 (F := Ideal) be w3 (ix3 p k f) = w3 (ix4 0 e k f) := by
  unfold val_main_v7
  refine (take_apply _ rfl rfl rfl rfl rfl _ _ p k f e ?_).trans ?_
  · rw [val_main_call1_v0_apply]
    refine (congrArg (fun i => (be i).toInt) ?_).trans he
    funext a
    match a with
    | ⟨0, _⟩ => rfl
  rw [val_main_v6_apply, val_main_v5_apply]
  refine congrArg w3 (funext fun a => Fin.ext ?_)
  match a with
  | ⟨0, _⟩ => rfl
  | ⟨1, _⟩ => show ((e.val * 1024 + k.val) * 512 + f.val) / 524288 % 32 = e.val; omega
  | ⟨2, _⟩ => show ((e.val * 1024 + k.val) * 512 + f.val) / 512 % 1024 = k.val; omega
  | ⟨3, _⟩ => show ((e.val * 1024 + k.val) * 512 + f.val) % 512 = f.val; omega

theorem u2_apply (f : Fin 512) (j : Fin 1024) : val_main_v10 (F := Ideal) be w2 (ix3 p f j) = w2 (ix4 0 e f j) := by
  unfold val_main_v10
  refine (take_apply _ rfl rfl rfl rfl rfl _ _ p f j e ?_).trans ?_
  · rw [val_main_call2_v0_apply]
    refine (congrArg (fun i => (be i).toInt) ?_).trans he
    funext a
    match a with
    | ⟨0, _⟩ => rfl
  rw [val_main_v9_apply, val_main_v8_apply]
  refine congrArg w2 (funext fun a => Fin.ext ?_)
  match a with
  | ⟨0, _⟩ => rfl
  | ⟨1, _⟩ => show ((e.val * 512 + f.val) * 1024 + j.val) / 524288 % 32 = e.val; omega
  | ⟨2, _⟩ => show ((e.val * 512 + f.val) * 1024 + j.val) / 1024 % 512 = f.val; omega
  | ⟨3, _⟩ => show ((e.val * 512 + f.val) * 1024 + j.val) % 1024 = j.val; omega

section
variable (r : Fin 512) (R : Fin 147456) (hR : R.val = 512 * p.val + r.val)
include hR

/-- their products, -/
theorem h1_apply (f : Fin 512) : val_main_v11 (F := Ideal) x be w1 (ix3 p r f)
    = hidden (fun k => x (ix2 R k)) (fun k f => w1 (ix4 0 e k f)) f := by
  rw [val_main_v11_apply]
  refine Finset.sum_congr rfl fun k _ => ?_
  have el : lidx_main_v11 (ix3 p r f) k = ix3 p r k := funext fun a => by match a with | ⟨0, _⟩ => rfl | ⟨1, _⟩ => rfl | ⟨2, _⟩ => rfl
  have er : ridx_main_v11 (ix3 p r f) k = ix3 p k f := funext fun a => by match a with | ⟨0, _⟩ => rfl | ⟨1, _⟩ => rfl | ⟨2, _⟩ => rfl
  rw [el, er, x_apply x p r R hR, u1_apply be w1 p e he]

theorem h3_apply (f : Fin 512) : val_main_v12 (F := Ideal) x be w3 (ix3 p r f)
    = hidden (fun k => x (ix2 R k)) (fun k f => w3 (ix4 0 e k f)) f := by
  rw [val_main_v12_apply]
  refine Finset.sum_congr rfl fun k _ => ?_
  have el : lidx_main_v12 (ix3 p r f) k = ix3 p r k := funext fun a => by match a with | ⟨0, _⟩ => rfl | ⟨1, _⟩ => rfl | ⟨2, _⟩ => rfl
  have er : ridx_main_v12 (ix3 p r f) k = ix3 p k f := funext fun a => by match a with | ⟨0, _⟩ => rfl | ⟨1, _⟩ => rfl | ⟨2, _⟩ => rfl
  rw [el, er, x_apply x p r R hR, u3_apply be w3 p e he]

/-- gated, -/
theorem gate_apply (f : Fin 512) : val_main_v14 (F := Ideal) x be w1 w3 (ix3 p r f)
    = hidden (fun k => x (ix2 R k)) (fun k f => w1 (ix4 0 e k f)) f
      * Ideal.logistic (hidden (fun k => x (ix2 R k)) (fun k f => w1 (ix4 0 e k f)) f)
      * hidden (fun k => x (ix2 R k)) (fun k f => w3 (ix4 0 e k f)) f := by
  rw [val_main_v14_apply, val_main_v13_apply, val_main_call3_v5_apply, val_main_call3_v4_apply, val_main_call3_cst_0_apply, val_main_call3_v3_apply,
    val_main_call3_v2_apply, val_main_call3_cst_apply, val_main_call3_v1_apply, val_main_call3_v0_apply, h3_apply x be w3 p e he r R hR, h1_apply x be w1 p e he r R hR]
  have one : (FloatOps.ofBits FTy.f32 0x3F800000#32 : Ideal .f32) = (1 : EReal) := by
    simp [FloatOps.ofBits, Ideal.ofBits, Ideal.ieee]
    rw [← EReal.coe_mul]
    norm_num
  rw [one]
  rfl

/-- and the output. -/
theorem out_apply (j : Fin 1024) : val_main_v15 (F := Ideal) x be w1 w3 w2 (ix3 p r j)
    = ffn (fun k => x (ix2 R k)) (fun k f => w1 (ix4 0 e k f)) (fun k f => w3 (ix4 0 e k f)) (fun f j => w2 (ix4 0 e f j)) j := by
  rw [val_main_v15_apply]
  refine Finset.sum_congr rfl fun f _ => ?_
  have el : lidx_main_v15 (ix3 p r j) f = ix3 p r f := funext fun a => by match a with | ⟨0, _⟩ => rfl | ⟨1, _⟩ => rfl | ⟨2, _⟩ => rfl
  have er : ridx_main_v15 (ix3 p r j) f = ix3 p f j := funext fun a => by match a with | ⟨0, _⟩ => rfl | ⟨1, _⟩ => rfl | ⟨2, _⟩ => rfl
  rw [el, er, gate_apply x be w1 w3 p e he r R hR, u2_apply be w2 p e he]

/-- The reference at a place: row `r` of block `p`. -/
theorem ref_apply (j : Fin 1024) : val_main_v17 (F := Ideal) x be w1 w3 w2 (ix2 R j)
    = ffn (fun k => x (ix2 R k)) (fun k f => w1 (ix4 0 e k f)) (fun k f => w3 (ix4 0 e k f)) (fun f j => w2 (ix4 0 e f j)) j := by
  rw [val_main_v17_apply, val_main_v16_apply]
  have ei : idx_main_v16 (ix2 R j) = ix3 p r j := funext fun a => Fin.ext (by
    match a with
    | ⟨0, _⟩ => show (R.val * 1024 + j.val) / 524288 = p.val; omega
    | ⟨1, _⟩ => show (R.val * 1024 + j.val) / 1024 % 512 = r.val; omega
    | ⟨2, _⟩ => show (R.val * 1024 + j.val) % 1024 = j.val; omega)
  rw [ei, out_apply x be w1 w3 w2 p e he r R hR]
  rfl

end

end

end Cert.Reference6Ideal.Read

end
-- ==== Proof.MoeVal.lean ====
/- The experts' feed-forward: what its kernel leaves is what its reference does. -/
module

public import proofs.«01_k».proof.Proof.MoeLaunch
public import proofs.«01_k».proof.Proof.MoeRef
public import Idealize.ShloMosaic.Lib.Pointwise
public import Idealize.ShloMosaic.Lib.Pipeline.ValueKit
public import Idealize.ShloMosaic.Lib.Pipeline.Covers
public import Idealize.ShloMosaic.Lib.KernelVsHost
public import Idealize.ShloMosaic.Lib.Claim

@[expose] public section

set_option maxRecDepth 16384

noncomputable section

namespace Cert.Kernel6Ideal.Gen

open Idealize.ShloMosaic Idealize.ShloMosaic.TcCoe Idealize.ShloMosaic.Tactic
open Idealize.ShloMosaic.Pipeline (Dat)
open Cert.Moe

/-- The scratch's weights are the blocks', -/
theorem pay1_apply (w : Vec Ideal S1x1x1024x512 .f32) (k : Fin 1024) (f : Fin 512) : k0_pay1 (F := Ideal) w (ix2 k f) = w (ix4 0 0 k f) := by
  pointwise [k0_pay1]
  try rfl

theorem pay2_apply (w : Vec Ideal S1x1x1024x512 .f32) (k : Fin 1024) (f : Fin 512) : k0_pay2 (F := Ideal) w (ix2 k f) = w (ix4 0 0 k f) := by
  pointwise [k0_pay2]
  try rfl

theorem pay3_apply (w : Vec Ideal S1x1x512x1024 .f32) (f : Fin 512) (j : Fin 1024) : k0_pay3 (F := Ideal) w (ix2 f j) = w (ix4 0 0 f j) := by
  pointwise [k0_pay3]
  try rfl

/-- and a block's output is its expert's. -/
theorem pay4_apply (x : Vec Ideal S512x1024 .bf16) (u1 u3 : Vec Ideal S1024x512 .bf16) (u2 : Vec Ideal S512x1024 .bf16) (r : Fin 512) (j : Fin 1024) :
    k0_pay4 (F := Ideal) x u1 u3 u2 (ix2 r j)
      = ffn (fun k => x (ix2 r k)) (fun k f => u1 (ix2 k f)) (fun k f => u3 (ix2 k f)) (fun f j => u2 (ix2 f j)) j := by
  pointwise [k0_pay4]
  rfl

variable (m : (ℓ : Loc nD τ sig) → Buf (Elt Ideal) ℓ)

/-- The arguments: the dispatched rows, each block's expert, and the three stacks of weights. -/
abbrev xOf (dev : Dev nD) : Vec Ideal S147456x1024 .bf16 := m ((dev : Thread nD τ).loc main_arg0)
abbrev beOf (dev : Dev nD) : (⟨S288, .i32⟩ : BufTy).Contents (Elt Ideal) := m ((dev : Thread nD τ).loc main_arg1)
abbrev w1Of (dev : Dev nD) : Vec Ideal S2x32x1024x512 .f32 := m ((dev : Thread nD τ).loc main_arg2)
abbrev w3Of (dev : Dev nD) : Vec Ideal S2x32x1024x512 .f32 := m ((dev : Thread nD τ).loc main_arg3)
abbrev w2Of (dev : Dev nD) : Vec Ideal S2x32x512x1024 .f32 := m ((dev : Thread nD τ).loc main_arg4)

/-- A row of a block, -/
theorem x_read (hO : Ok m) (dev : Dev nD) (t : Fin (cfgM m hO).N) (r : Fin 512) (k : Fin 1024) (R : Fin 147456) (h : R.val = 512 * t.val + r.val) :
    xBlk m hO dev t (ix2 r k) = xOf m dev (ix2 R k) := by
  rw [xOf, ← V_main_arg0 m dev]
  blk_ext [xBlk, iblk, index0 m hO t]

/-- and the weights of its expert. -/
theorem w1_read (hO : Ok m) (dev : Dev nD) (t : Fin (cfgM m hO).N) (e : Fin 32) (he : expert (tbl m) t.val = e.val) (k : Fin 1024) (f : Fin 512) :
    w1Blk m hO dev t (ix4 0 0 k f) = w1Of m dev (ix4 0 e k f) := by
  rw [w1Of, ← V_main_arg2 m dev]
  blk_ext [w1Blk, iblk, index1 m hO t, he]

theorem w3_read (hO : Ok m) (dev : Dev nD) (t : Fin (cfgM m hO).N) (e : Fin 32) (he : expert (tbl m) t.val = e.val) (k : Fin 1024) (f : Fin 512) :
    w3Blk m hO dev t (ix4 0 0 k f) = w3Of m dev (ix4 0 e k f) := by
  rw [w3Of, ← V_main_arg3 m dev]
  blk_ext [w3Blk, iblk, index2 m hO t, he]

theorem w2_read (hO : Ok m) (dev : Dev nD) (t : Fin (cfgM m hO).N) (e : Fin 32) (he : expert (tbl m) t.val = e.val) (f : Fin 512) (j : Fin 1024) :
    w2Blk m hO dev t (ix4 0 0 f j) = w2Of m dev (ix4 0 e f j) := by
  rw [w2Of, ← V_main_arg4 m dev]
  blk_ext [w2Blk, iblk, index3 m hO t, he]

/-- What a point leaves at a place of its block. -/
theorem out_apply (hO : Ok m) (hr : ∀ k, expert (tbl m) k < 32) (dev : Dev nD) (t : Fin (cfgM m hO).N) (y : S512x1024.Idx) (i : S147456x1024.Idx)
    (h0 : (i 0).val = 512 * t.val + (y 0).val) (h1 : (i 1).val = (y 1).val) :
    outBlk m hO dev t y
      = Cert.Reference6Ideal.Read.val_main_v17 (F := Ideal) (xOf m dev) (beOf m dev) (w1Of m dev) (w3Of m dev) (w2Of m dev) i := by
  have ht : t.val < 288 := Nat.lt_of_lt_of_eq t.isLt N_0
  obtain rfl : dev = 0 := Subsingleton.elim _ _
  have ey : y = ix2 (y 0) (y 1) := funext fun a => by fin_cases a <;> rfl
  have ei : i = ix2 (i 0) (y 1) := funext fun a => by
    match a with
    | ⟨0, _⟩ => rfl
    | ⟨1, _⟩ => exact Fin.ext h1
  have hw : (beOf m 0 (ix1 (⟨t.val, ht⟩ : Fin 288)) : BitVec 32).toNat = expert (tbl m) t.val := by
    unfold expert
    rw [dif_pos ht]
    exact congrArg BitVec.toNat (word_eq (tbl m 0) ⟨t.val, ht⟩ (ix1 (⟨t.val, ht⟩ : Fin 288)) rfl)
  have hlt := hr t.val
  have he : (beOf m 0 (ix1 (⟨t.val, ht⟩ : Fin 288)) : BitVec 32).toInt = ((⟨expert (tbl m) t.val, hlt⟩ : Fin 32).val : Int) :=
    (toInt_of_lt (hw ▸ hlt)).trans (congrArg Int.ofNat hw)
  rw [ey, ei]
  refine Eq.trans ?_ (Cert.Reference6Ideal.Read.ref_apply _ _ _ _ _ ⟨t.val, ht⟩ ⟨expert (tbl m) t.val, hlt⟩ he (y 0) (i 0) h0 (y 1)).symm
  unfold outBlk
  refine (pay4_apply _ _ _ _ (y 0) (y 1)).trans ?_
  simp only [pay1_apply, pay2_apply, pay3_apply, x_read m hO 0 t (y 0) _ (i 0) h0,
    w1_read m hO 0 t ⟨expert (tbl m) t.val, hlt⟩ rfl, w3_read m hO 0 t ⟨expert (tbl m) t.val, hlt⟩ rfl, w2_read m hO 0 t ⟨expert (tbl m) t.val, hlt⟩ rfl]

theorem blocks_eq {a b : ℕ} (A B n : ℕ) (ha : a = A) (hb : b = B) (h : (A + B - 1) / B = n) : (a + b - 1) / b = n := by
  subst ha hb
  exact h

/-- The blocks are the whole array's. -/
theorem covers (hO : Ok m) : ((cfgM m hO).win 4).Covers := by
  refine ⟨fun a => ?_, fun β => ?_⟩
  · match a with
    | ⟨0, _⟩ => exact Nat.le_of_ble_eq_true rfl
    | ⟨1, _⟩ => exact Nat.le_of_ble_eq_true rfl
  · have e0 : ((cfgM m hO).win 4).nblk ⟨0, Nat.le_of_ble_eq_true rfl⟩ = 288 := blocks_eq 147456 512 288 rfl rfl (by decide)
    have e1 : ((cfgM m hO).win 4).nblk ⟨1, Nat.le_of_ble_eq_true rfl⟩ = 1 := blocks_eq 1024 1024 1 rfl rfl (by decide)
    have h0 : (β ⟨0, Nat.le_of_ble_eq_true rfl⟩).val < 288 := Nat.lt_of_lt_of_eq (β ⟨0, Nat.le_of_ble_eq_true rfl⟩).isLt e0
    have h1 : (β ⟨1, Nat.le_of_ble_eq_true rfl⟩).val < 1 := Nat.lt_of_lt_of_eq (β ⟨1, Nat.le_of_ble_eq_true rfl⟩).isLt e1
    obtain ⟨t, -, hf, hi⟩ := ((cfgM m hO).win 4).exists_flush_same_index rfl ⟨(β ⟨0, Nat.le_of_ble_eq_true rfl⟩).val, Nat.lt_of_lt_of_eq h0 N_0.symm⟩
    refine ⟨t, hf, fun a => ⟨?_, Or.inl ?_⟩⟩
    · rw [hi, index4 m hO]
      match a with
      | ⟨0, _⟩ => rfl
      | ⟨1, _⟩ => exact (Nat.lt_one_iff.mp h1).symm
    · match a with
      | ⟨0, _⟩ => rfl
      | ⟨1, _⟩ => rfl

/-- The result array after the run is the reference's. -/
theorem final (hO : Ok m) (hr : ∀ k, expert (tbl m) k < 32) (dev : Dev nD) : (dats m hO 0 dev).arrAt 4 (cfgM m hO).N
    = Cert.Reference6Ideal.Read.val_main_v17 (F := Ideal) (xOf m dev) (beOf m dev) (w1Of m dev) (w3Of m dev) (w2Of m dev) := by
  refine (dats m hO 0 dev).arrAt_eq_of_covers 4 _ ?_ fun t _ y => ?_
  · exact covers m hO
  blk_simp
  rw [after0_4]
  refine out_apply m hO hr dev t y _ ?_ ?_
  all_goals
    blk_simp [index4 m hO t]
    try (idx_bounds y; omega)

/-- Every block's expert is in range under the precondition. -/
theorem range_of (h : ∀ i, (beOf m 0 i : BitVec 32).toNat < 32) (k : ℕ) : expert (tbl m) k < 32 := by
  unfold expert
  split
  · exact h _
  · decide

end Cert.Kernel6Ideal.Gen

end
-- ==== Proof.KBase.lean ====
/- What the two runs of the neighbourhood attention kernel's body share: when the body copies the keys and values into its
   scratch, the names of its staging buffers and scratch, and the frame claim read off a run that forgets the output. -/
module

public import proofs.«01_k».proof.Proof.Gen.Kernel.Frame
public import proofs.«01_k».proof.Proof.Gen.Kernel.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The argument arrays end as they were launched, from a run of the launch over any proof data with the launch's arrays. -/
theorem frame_of_run (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(Pipeline.RDat.FramePost.arr_in h c 2 rfl).trans ((hA c 2).trans (V_main_arg0 m c)),
      ((h c).2 main_arg1 (Pipeline.mem_restRefs_of main_arg1 (by decide) (by decide))).trans (V_main_arg1 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 2).val) 0#32)) 0#32) = 1#1
/-- It holds at the points ≡ 0 (mod 4) — by arithmetic of the point. -/
theorem hcond0_0 : ∀ t : Fin cfg0.N, cond0_0 (grid0.coords t) ↔ t.val % 4 = 0 :=
  (fun t => by
    have ht : t.val < 64 := Nat.lt_of_lt_of_eq t.isLt N_0
    have e0 : (grid0.coords t 0).val = t.val / 8 % 8 := Pipeline.Grid.coords_val t 0 (by decide) rfl
    have e1 : (grid0.coords t 1).val = t.val / 4 % 2 := Pipeline.Grid.coords_val t 1 (by decide) rfl
    have e2 : (grid0.coords t 2).val = t.val / 1 % 4 := Pipeline.Grid.coords_val t 2 (by decide) rfl
    simp only [cond0_0, e0, e1, e2]
    word_cmp
   : ∀ t : Fin grid0.N, cond0_0 (grid0.coords t) ↔ t.val % 4 = 0)

/-! ## The kernel body on any staging memrefs: a subtype the run finds -/

/-- Each window's current staging memref at point `t`, spelled as the pipeline passes it (`bodyAt0`), and its wholeness. -/
abbrev ms0_0 (t : Fin cfg0.N) : Memref sig .tc .vmem S1x2048x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8192x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8192x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x1x128x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048x128 .bf16 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S8192x128 .bf16 := Memref.whole cc0_scratch0
abbrev scM0_1 : Memref sig .tc .vmem S8192x128 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Gen

end
-- ==== Proof.KRunA.lean ====
module

public import proofs.«01_k».proof.Proof.KBase

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The window rows' offset, its row component left as it stands: what a load at it needs for its geometry. -/
instance closedOff_kv (i : grid0.Coords) (w : BitVec 32) : ClosedOff (k0_off1 i w) :=
  ⟨![k0_off1 i w 0, 0], funext fun a => match a with | ⟨0, _⟩ => rfl | ⟨1, _⟩ => rfl⟩

set_option maxHeartbeats 2000000 in
/-- The body run at a head's first block of rows, where the keys and values are copied into the scratch buffers: the inputs
    stay as they were, the output and the scratch end at some contents. -/
theorem kernelRun0_A (c : Dev nD) (i : grid0.Coords) (arg3 : Memref sig .tc .vmem S1x2048x128 .f32) (harg3 : arg3.IsWhole) (arg4 : Memref sig .tc .vmem S1x8192x128 .f32) (harg4 : arg4.IsWhole) (arg5 : Memref sig .tc .vmem S1x8192x128 .f32) (harg5 : arg5.IsWhole) (arg6 : Memref sig .tc .vmem S8x1x128x512 .f32) (harg6 : arg6.IsWhole) (arg7 : Memref sig .tc .vmem S1x2048x128 .bf16) (harg7 : arg7.IsWhole) (arg8 : Memref sig .tc .vmem S8192x128 .bf16) (harg8 : arg8.IsWhole) (arg9 : Memref sig .tc .vmem S8192x128 .bf16) (harg9 : arg9.IsWhole) (hc0 : cond0_0 i)
    (x0 : Vec F S1x2048x128 .f32) (x1 : Vec F S1x8192x128 .f32) (x2 : Vec F S1x8192x128 .f32) (x3 : Vec F S8x1x128x512 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_neighborhood_attention i arg3 harg3 arg4 harg4 arg5 harg5 arg6 harg6 arg7 harg7 arg8 harg8 arg9 harg9) K := by
    intro E K
    simp only [cc0_neighborhood_attention_eq_skeleton]; unfold cc0_neighborhood_attention_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _, _; isplitr; swap; · iexact H4
      ipureintro; rfl
    isplitl [HS0]
    · iexists _, _; isplitr; swap; · iexact HS0
      ipureintro; rfl
    iexists _, _; isplitr; swap; · iexact HS1
    ipureintro; rfl

end Cert.Kernel.Gen

end
-- ==== Proof.KRunB.lean ====
module

public import proofs.«01_k».proof.Proof.KRunA

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 3312000 in
/-- The body run at a head's later blocks of rows, where the scratch buffers are only read. -/
theorem kernelRun0_B (c : Dev nD) (i : grid0.Coords) (arg3 : Memref sig .tc .vmem S1x2048x128 .f32) (harg3 : arg3.IsWhole) (arg4 : Memref sig .tc .vmem S1x8192x128 .f32) (harg4 : arg4.IsWhole) (arg5 : Memref sig .tc .vmem S1x8192x128 .f32) (harg5 : arg5.IsWhole) (arg6 : Memref sig .tc .vmem S8x1x128x512 .f32) (harg6 : arg6.IsWhole) (arg7 : Memref sig .tc .vmem S1x2048x128 .bf16) (harg7 : arg7.IsWhole) (arg8 : Memref sig .tc .vmem S8192x128 .bf16) (harg8 : arg8.IsWhole) (arg9 : Memref sig .tc .vmem S8192x128 .bf16) (harg9 : arg9.IsWhole) (hc0 : ¬cond0_0 i)
    (x0 : Vec F S1x2048x128 .f32) (x1 : Vec F S1x8192x128 .f32) (x2 : Vec F S1x8192x128 .f32) (x3 : Vec F S8x1x128x512 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_neighborhood_attention i arg3 harg3 arg4 harg4 arg5 harg5 arg6 harg6 arg7 harg7 arg8 harg8 arg9 harg9) K := by
    intro E K
    simp only [cc0_neighborhood_attention_eq_skeleton]; unfold cc0_neighborhood_attention_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _, _; isplitr; swap; · iexact H4
      ipureintro; rfl
    isplitl [HS0]
    · iexists _, _; isplitr; swap; · iexact HS0
      ipureintro; rfl
    iexists _, _; isplitr; swap; · iexact HS1
    ipureintro; rfl

end Cert.Kernel.Gen

end
-- ==== Proof.KFrame.lean ====
module

public import proofs.«01_k».proof.Proof.KRunB
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def forgets0 : Fin 5 → Bool := fun w => w.val == 4

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  have hN : t.val < 64 := lt_of_lt_of_eq t.isLt (show cfg0.N = 64 from N_0)
  by_cases h0 : t.val % 4 = 0
  · iintro ⟨⟨⟨HS0, HS1⟩, Hg⟩, Ho, ⟨%d0, H0⟩, ⟨%d1, H1⟩, ⟨%d2, H2⟩, ⟨%d3, H3⟩, ⟨%d4, H4⟩⟩
    iapply ((kernelRun0_A c (grid0.coords t) _ _ _ _ _ _ _ _ _ _ _ _ _ _ ((hcond0_0 t).mpr h0) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, H4, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    iexact H4
  · iintro ⟨⟨⟨HS0, HS1⟩, Hg⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ _ _ (fun h => h0 ((hcond0_0 t).mp h)) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, H4, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

-- `θ_run_frame_forget_shared`'s implicit arguments are found by unifying its conclusion with this one, which takes unfolding plain
-- definitions in a metavariable's type
set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of_run m ρ (fun c => (dats m 0 c).toRForget forgets0) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Kernel.Gen

end
-- ==== Proof.NaBody.lean ====
/- What one grid point of the neighbourhood attention leaves in its output block.

   The point's output block holds 32 image rows of 64 pixels, 128 lanes (two heads of 64) each. Row `j` is computed from
   the row's queries, the 8 rows of keys and values its window starts at, and one of the bias tables; the 32 rows are the
   same function (`rowOut`) of their own loads. `naOut` is the whole block as one function of the block's index. -/
module

public import proofs.«01_k».proof.Proof.Gen.KernelIdeal.Frame
public import proofs.«01_k».proof.Proof.Gen.KernelIdeal.Skeleton
public import Idealize.ShloMosaic.Lib.Pipeline.ValueKit

@[expose] public section

set_option maxRecDepth 16384

noncomputable section

namespace Cert.KernelIdeal.Gen

open Idealize.ShloMosaic Idealize.ShloMosaic.TcCoe

variable {F : FTy → Type} [FloatOps F]

/-- The body's one condition: the point is the first of its batch and head pair, where the keys and values are cast into scratch. -/
abbrev cond0_0 (i : grid0.Coords) : Prop := (Scalar.cmpi .ne (Scalar.extui (Scalar.cmpi .eq (BitVec.ofNat 32 (i 2).val) 0#32)) 0#32) = 1#1

/-- It holds at every fourth point. -/
theorem hcond0_0 (t : Fin cfg0.N) : cond0_0 (grid0.coords t) ↔ t.val % 4 = 0 := by
  have ht : t.val < 64 := Nat.lt_of_lt_of_eq t.isLt N_0
  have e2 : (grid0.coords t 2).val = t.val / 1 % 4 := Pipeline.Grid.coords_val t 2 (by decide) rfl
  simp only [cond0_0, e2]
  word_cmp

/-- The scores of one image row: 128 rows (two heads × 64 queries) against the window's 512 keys, plus the bias. -/
def rowScore (q : Vec F S1x64x128 .f32) (k : Vec F S512x128 .bf16) (b : Vec F S1x1x128x512 .f32) : FVec F S128x512 .f32 :=
  k0_pay5 k0_pay4 q k b

/-- One image row of the output: softmax of the scores over the 512 keys, applied to the values; each lane from its own head. -/
def rowOut (q : Vec F S1x64x128 .f32) (k : Vec F S512x128 .bf16) (b : Vec F S1x1x128x512 .f32) (v : Vec F S512x128 .bf16) :
    FVec F S1x64x128 .bf16 :=
  k0_pay122 k0_pay4 (k0_pay54 (rowScore q k b)) (k0_pay55 (rowScore q k b)) v

theorem rowRect_inb (j : Fin 32) : ∀ a, (![0, 64 * j.val, 0] : Fin 3 → ℕ) a + S1x64x128.size a ≤ S1x2048x128.size a := by
  have hj : j.val < 32 := j.isLt
  intro a
  match a with
  | ⟨0, _⟩ => exact Nat.le_refl 1
  | ⟨1, _⟩ => show 64 * j.val + 64 ≤ 2048; omega
  | ⟨2, _⟩ => exact Nat.le_refl 128

/-- The rectangle of image row `j` in a block of 32 rows. -/
abbrev rowRect (j : Fin 32) : Rect S1x2048x128 := Rect.unit (s := S1x2048x128) ![0, 64 * j.val, 0] S1x64x128.size (rowRect_inb j)

/-- The rectangle of the 8 rows of keys (or of values) of row `j` at the grid point's coordinates `i`. -/
abbrev kvRect (i : grid0.Coords) (j : Fin 32) : Rect S8192x128 :=
  Rect.unit (s := S8192x128) (k0_off1 i (BitVec.ofNat 32 j.val)) S512x128.size (k0_off1_inb i j)

/-- The rectangle of the bias table of row `j`. -/
abbrev biasRect (i : grid0.Coords) (j : Fin 32) : Rect S8x1x128x512 :=
  Rect.unit (s := S8x1x128x512) (k0_off2 i (BitVec.ofNat 32 j.val)) S1x1x128x512.size (k0_off2_inb i j)

/-- Row `j` of the output block, from the query block, the bias block and the cast keys and values. -/
def rowAt (i : grid0.Coords) (x0 : Vec F S1x2048x128 .f32) (x3 : Vec F S8x1x128x512 .f32) (kb vb : Vec F S8192x128 .bf16) (j : Fin 32) :
    FVec F S1x64x128 .bf16 :=
  rowOut (View.ld x0 (rowRect j)) (View.ld kb (kvRect i j)) (View.ld x3 (biasRect i j)) (View.ld vb (kvRect i j))

/-- The row of a block's index, -/
def rowIx (y : S1x2048x128.Idx) : Fin 32 :=
  ⟨(y (1 : Fin 3)).val / 64, Nat.div_lt_of_lt_mul (show (y (1 : Fin 3)).val < 64 * 32 from (y (1 : Fin 3)).isLt)⟩

/-- and its place inside the row. -/
def rowPx (y : S1x2048x128.Idx) : S1x64x128.Idx := fun a => match a with
  | ⟨0, _⟩ => (⟨0, Nat.zero_lt_one⟩ : Fin 1)
  | ⟨1, _⟩ => (⟨(y (1 : Fin 3)).val % 64, Nat.mod_lt _ (by decide)⟩ : Fin 64)
  | ⟨2, _⟩ => (y (2 : Fin 3) : Fin 128)

/-- The output block. -/
def naOut (i : grid0.Coords) (x0 : Vec F S1x2048x128 .f32) (x3 : Vec F S8x1x128x512 .f32) (kb vb : Vec F S8192x128 .bf16) :
    Vec F S1x2048x128 .bf16 :=
  fun y => rowAt i x0 x3 kb vb (rowIx y) (rowPx y)

theorem rowIx_emb (j : Fin 32) (x : (rowRect j).shape.Idx) : rowIx ((rowRect j).emb x) = j := by
  have e : (((rowRect j).emb x) (1 : Fin 3)).val = 64 * j.val + 1 * (x (1 : Fin 3)).val := rfl
  have hx : (x (1 : Fin 3)).val < 64 := (x (1 : Fin 3)).isLt
  exact Fin.ext (by unfold rowIx; show _ / 64 = _; rw [e]; omega)

theorem rowPx_emb (j : Fin 32) (x : (rowRect j).shape.Idx) : rowPx ((rowRect j).emb x) = x := by
  have e : (((rowRect j).emb x) (1 : Fin 3)).val = 64 * j.val + 1 * (x (1 : Fin 3)).val := rfl
  have e2 : (((rowRect j).emb x) (2 : Fin 3)).val = 0 + 1 * (x (2 : Fin 3)).val := rfl
  have hx : (x (1 : Fin 3)).val < 64 := (x (1 : Fin 3)).isLt
  have hx0 : (x (0 : Fin 3)).val < 1 := (x (0 : Fin 3)).isLt
  funext a
  match a with
  | ⟨0, _⟩ => exact Fin.ext (show 0 = (x (0 : Fin 3)).val by omega)
  | ⟨1, _⟩ => exact Fin.ext (show (((rowRect j).emb x) (1 : Fin 3)).val % 64 = (x (1 : Fin 3)).val by rw [e]; omega)
  | ⟨2, _⟩ => exact Fin.ext (show (((rowRect j).emb x) (2 : Fin 3)).val = (x (2 : Fin 3)).val by rw [e2]; omega)

theorem naOut_emb (i : grid0.Coords) (x0 : Vec F S1x2048x128 .f32) (x3 : Vec F S8x1x128x512 .f32) (kb vb : Vec F S8192x128 .bf16)
    (j : Fin 32) (x : (rowRect j).shape.Idx) :
    rowAt i x0 x3 kb vb j x = naOut i x0 x3 kb vb ((rowRect j).emb x) := by
  unfold naOut; rw [rowIx_emb, rowPx_emb]

/-- The rows' rectangles cover the block. -/
theorem rowRect_cover (y : S1x2048x128.Idx) : y ∈ (rowRect (rowIx y)).set := by
  have h1 : (y (1 : Fin 3)).val < 2048 := (y (1 : Fin 3)).isLt
  rw [Rect.mem_set_unit]
  intro a
  match a with
  | ⟨0, _⟩ => exact ⟨Nat.zero_le _, (y (0 : Fin 3)).isLt⟩
  | ⟨1, _⟩ => exact ⟨show 64 * ((y (1 : Fin 3)).val / 64) ≤ (y (1 : Fin 3)).val by omega, show (y (1 : Fin 3)).val < 64 * ((y (1 : Fin 3)).val / 64) + 64 by omega⟩
  | ⟨2, _⟩ => exact ⟨Nat.zero_le _, lt_of_lt_of_eq (y (2 : Fin 3)).isLt (Nat.zero_add _).symm⟩

/-- The rows, last first: the order the body stores them in, read back from the end. -/
abbrev rowsDown : List (Fin 32) :=
  [31, 30, 29, 28, 27, 26, 25, 24, 23, 22, 21, 20, 19, 18, 17, 16, 15, 14, 13, 12, 11, 10, 9, 8, 7, 6, 5, 4, 3, 2, 1, 0]

/-- 32 stores, one per row, each the row of ONE function of the block's index, leave that function. -/
theorem read_rows {sg : RefSig} {κ : Kind} {sp : Space} (v : View sg κ sp S1x2048x128 .bf16) (f : v.ty.Contents (Elt F))
    (P : Fin 32 → FVec F S1x64x128 .bf16) (G : Vec F S1x2048x128 .bf16)
    (h : ∀ (j : Fin 32) (x : (rowRect j).shape.Idx), P j x = G ((rowRect j).emb x)) :
    v.read (Elt F) (v.writes (Elt F) f (rowsDown.map fun j => (⟨rowRect j, P j⟩ : View.Piece (Elt F) S1x2048x128 .bf16))) = G := by
  have hc : ∀ y, ∃ p ∈ (rowsDown.map fun j => (⟨rowRect j, P j⟩ : View.Piece (Elt F) S1x2048x128 .bf16)), y ∈ p.1.set := fun y =>
    ⟨_, List.mem_map.mpr ⟨rowIx y, (by decide : ∀ j : Fin 32, j ∈ rowsDown) _, rfl⟩, rowRect_cover y⟩
  rw [View.read_writes_eq_canon v f _ hc]
  funext y
  refine View.canon_apply_of_pieces G _ (fun p hp x => ?_) y (hc y)
  obtain ⟨j, -, rfl⟩ := List.mem_map.mp hp
  exact h j x

end Cert.KernelIdeal.Gen

end
-- ==== Proof.NaTab.lean ====
/- The bias table of the neighbourhood attention kernel, as the operations before the kernel's call compute it: each group
   of operations as a function of what it reads, and the whole table as a function of the position biases. -/
module

public import proofs.«01_k».proof.Proof.NaBody
public import Idealize.ShloMosaic.Lib.Pointwise
public import Idealize.ShloMosaic.Lib.Claim

@[expose] public section

set_option maxRecDepth 16384

noncomputable section

namespace Cert.KernelIdeal.Gen

open Idealize.ShloMosaic Idealize.ShloMosaic.TcCoe

/-! ## The table -/

/-- The first column of each column's band. -/
def kStart : Vec Ideal S64 .i32 :=
  minsi (broadcastInDim S64 ![] bcast_S_S64 (constantI S_ 32 48#32))
    (maxsi (broadcastInDim S64 ![] bcast_S_S64 (constantI S_ 32 0#32))
      (subi (iotaInDim S64 32 0) (broadcastInDim S64 ![] bcast_S_S64 (constantI S_ 32 8#32))))

/-- Whether a key's column is in the band of a query's column. -/
def kBand (s : Vec Ideal S64 .i32) : Vec Ideal S64x64 .i1 :=
  andi
    (cmpi CmpIPredicate.sge
      (broadcastInDim S64x64 ![0, 1] bcast_S1x64_S64x64_0_1 (broadcastInDim S1x64 ![1] bcast_S64_S1x64_1 (iotaInDim S64 32 0)))
      (broadcastInDim S64x64 ![0, 1] bcast_S64x1_S64x64_0_1 (broadcastInDim S64x1 ![0] bcast_S64_S64x1_0 s)))
    (cmpi CmpIPredicate.slt
      (broadcastInDim S64x64 ![0, 1] bcast_S1x64_S64x64_0_1 (broadcastInDim S1x64 ![1] bcast_S64_S1x64_1 (iotaInDim S64 32 0)))
      (broadcastInDim S64x64 ![0, 1] bcast_S64x1_S64x64_0_1
        (addi (broadcastInDim S64x1 ![0] bcast_S64_S64x1_0 s)
          (broadcastInDim S64x1 ![] bcast_S_S64x1 (constantI S_ 32 16#32)))))

/-- The difference of the columns, -/
def kDiff : Vec Ideal S64x64 .i32 :=
  subi
    (broadcastInDim S64x64 ![0, 1] bcast_S1x64_S64x64_0_1 (broadcastInDim S1x64 ![1] bcast_S64_S1x64_1 (iotaInDim S64 32 0)))
    (broadcastInDim S64x64 ![0, 1] bcast_S64x1_S64x64_0_1 (broadcastInDim S64x1 ![0] bcast_S64_S64x1_0 (iotaInDim S64 32 0)))

/-- clipped, -/
def kClip : Vec Ideal S64x64 .i32 :=
  minsi (broadcastInDim S64x64 ![] bcast_S_S64x64 (constantI S_ 32 15#32))
    (maxsi (broadcastInDim S64x64 ![] bcast_S_S64x64 (constantI S_ 32 4294967281#32)) kDiff)

/-- and as a column of the position biases. -/
def kDist : Vec Ideal S64x64 .i32 := addi kClip (broadcastInDim S64x64 ![] bcast_S_S64x64 (constantI S_ 32 15#32))

variable (R : Vec Ideal S4x15x31 .f32)

/-- Eight rows of the position biases, from row `d` on, for each `d`. -/
def kWin : Vec Ideal S4x8x8x31 .f32 :=
  concatenate S4x8x8x31 1
    [⟨S4x1x8x31, broadcastInDim S4x1x8x31 ![0, 2, 3] bcast_S4x8x31_S4x1x8x31_0_2_3 (extractStridedSlice S4x8x31 ![0, 0, 0] R slices_S4x15x31_S4x8x31_0_0_0)⟩,
     ⟨S4x1x8x31, broadcastInDim S4x1x8x31 ![0, 2, 3] bcast_S4x8x31_S4x1x8x31_0_2_3 (extractStridedSlice S4x8x31 ![0, 1, 0] R slices_S4x15x31_S4x8x31_0_1_0)⟩,
     ⟨S4x1x8x31, broadcastInDim S4x1x8x31 ![0, 2, 3] bcast_S4x8x31_S4x1x8x31_0_2_3 (extractStridedSlice S4x8x31 ![0, 2, 0] R slices_S4x15x31_S4x8x31_0_2_0)⟩,
     ⟨S4x1x8x31, broadcastInDim S4x1x8x31 ![0, 2, 3] bcast_S4x8x31_S4x1x8x31_0_2_3 (extractStridedSlice S4x8x31 ![0, 3, 0] R slices_S4x15x31_S4x8x31_0_3_0)⟩,
     ⟨S4x1x8x31, broadcastInDim S4x1x8x31 ![0, 2, 3] bcast_S4x8x31_S4x1x8x31_0_2_3 (extractStridedSlice S4x8x31 ![0, 4, 0] R slices_S4x15x31_S4x8x31_0_4_0)⟩,
     ⟨S4x1x8x31, broadcastInDim S4x1x8x31 ![0, 2, 3] bcast_S4x8x31_S4x1x8x31_0_2_3 (extractStridedSlice S4x8x31 ![0, 5, 0] R slices_S4x15x31_S4x8x31_0_5_0)⟩,
     ⟨S4x1x8x31, broadcastInDim S4x1x8x31 ![0, 2, 3] bcast_S4x8x31_S4x1x8x31_0_2_3 (extractStridedSlice S4x8x31 ![0, 6, 0] R slices_S4x15x31_S4x8x31_0_6_0)⟩,
     ⟨S4x1x8x31, broadcastInDim S4x1x8x31 ![0, 2, 3] bcast_S4x8x31_S4x1x8x31_0_2_3 (extractStridedSlice S4x8x31 ![0, 7, 0] R slices_S4x15x31_S4x8x31_0_7_0)⟩]
    concatenates_S4x1x8x31_S4x1x8x31_S4x1x8x31_S4x1x8x31_S4x1x8x31_S4x1x8x31_S4x1x8x31_S4x1x8x31_S4x8x8x31_d1

/-- Whether a column of the position biases is the one of a query's and a key's column, as a number. -/
def kHot : Vec Ideal S64x64x31 .f32 :=
  uitofp (F := Ideal) FTy.f32
    (cmpi CmpIPredicate.eq
      (broadcastInDim S64x64x31 ![0, 1, 2] bcast_S64x64x1_S64x64x31_0_1_2
        (broadcastInDim S64x64x1 ![0, 1] bcast_S64x64_S64x64x1_0_1 kDist))
      (broadcastInDim S64x64x31 ![0, 1, 2] bcast_S1x1x31_S64x64x31_0_1_2
        (broadcastInDim S1x1x31 ![2] bcast_S31_S1x1x31_2 (iotaInDim S31 32 0))))

/-- The rows summed against it. -/
def kSum (w : Vec Ideal S4x8x8x31 .f32) : Vec Ideal S4x8x64x8x64 .f32 :=
  Host.reduceAdd
    (mulf
      (broadcastInDim S4x8x64x8x64x31 ![0, 1, 2, 3, 4, 5] bcast_S4x8x1x8x1x31_S4x8x64x8x64x31_0_1_2_3_4_5
        (broadcastInDim S4x8x1x8x1x31 ![0, 1, 3, 5] bcast_S4x8x8x31_S4x8x1x8x1x31_0_1_3_5 w))
      (broadcastInDim S4x8x64x8x64x31 ![0, 1, 2, 3, 4, 5] bcast_S1x1x64x1x64x31_S4x8x64x8x64x31_0_1_2_3_4_5
        (broadcastInDim S1x1x64x1x64x31 ![2, 4, 5] bcast_S64x64x31_S1x1x64x1x64x31_2_4_5 kHot)))
    (constant (F := Ideal) S_ FTy.f32 0x00000000#32) reducesTo_S4x8x64x8x64x31_S4x8x64x8x64_d5 h_S_

/-- Outside the band, the large negative number. -/
def kSel (t : Vec Ideal S4x8x64x8x64 .f32) : Vec Ideal S4x8x64x8x64 .f32 :=
  select
    (broadcastInDim S4x8x64x8x64 ![0, 1, 2, 3, 4] bcast_S1x1x64x1x64_S4x8x64x8x64_0_1_2_3_4
      (broadcastInDim S1x1x64x1x64 ![2, 4] bcast_S64x64_S1x1x64x1x64_2_4 (kBand kStart)))
    t
    (broadcastInDim S4x8x64x8x64 ![] bcast_S_S4x8x64x8x64 (constant (F := Ideal) S_ FTy.f32 0xF149F2CA#32))

/-- The order the kernel reads it in. -/
def kOrder (t : Vec Ideal S4x8x64x8x64 .f32) : Vec Ideal S8x2x128x512 .f32 :=
  shapeCast _ (transpose S8x2x2x64x512 [2, 0, 1, 3, 4] (shapeCast S2x2x8x64x512 t shapeCasts_S4x8x64x8x64_S2x2x8x64x512)
    transposes_S2x2x8x64x512_S8x2x2x64x512_2_0_1_3_4) shapeCasts_S8x2x2x64x512_S8x2x128x512

/-- The table. -/
def kTab : Vec Ideal S8x2x128x512 .f32 := kOrder (kSel (kSum (kWin R)))

/-! ## The operations, group by group -/

variable (σ : Valuation τ sig (Elt Ideal))

abbrev opsA : List (HloOp τ sig (Elt Ideal)) := (hostOps0_4 : List (HloOp τ sig (Elt Ideal))).take 11
abbrev opsS : List (HloOp τ sig (Elt Ideal)) := ((hostOps0_4 : List (HloOp τ sig (Elt Ideal))).drop 11).take 8
abbrev opsN : List (HloOp τ sig (Elt Ideal)) := ((hostOps0_4 : List (HloOp τ sig (Elt Ideal))).drop 19).take 1
abbrev opsB : List (HloOp τ sig (Elt Ideal)) := (hostOps0_4 : List (HloOp τ sig (Elt Ideal))).drop 20

theorem ops4_eq : (hostOps0_4 : List (HloOp τ sig (Elt Ideal))) = opsA ++ (opsS ++ (opsN ++ opsB)) := rfl

theorem seg6_v59 : StableHlo.after hostOps0_6 σ (Proc.tc.devRef main_v59) = kOrder (σ (Proc.tc.devRef main_v56)) := by
  entry_read
  rfl

theorem seg5_v56 : StableHlo.after hostOps0_5 σ (Proc.tc.devRef main_v56) = select (broadcastInDim S4x8x64x8x64 ![0, 1, 2, 3, 4] bcast_S1x1x64x1x64_S4x8x64x8x64_0_1_2_3_4 (σ (Proc.tc.devRef main_v55))) (σ (Proc.tc.devRef main_v54)) (broadcastInDim S4x8x64x8x64 ![] bcast_S_S4x8x64x8x64 (σ (Proc.tc.devRef main_cst_6))) := by
  entry_read
  rfl

theorem opsB_v54 : StableHlo.after opsB σ (Proc.tc.devRef main_v54) = Host.reduceAdd
    (mulf (F := Ideal)
      (broadcastInDim S4x8x64x8x64x31 ![0, 1, 2, 3, 4, 5] bcast_S4x8x1x8x1x31_S4x8x64x8x64x31_0_1_2_3_4_5
        (broadcastInDim S4x8x1x8x1x31 ![0, 1, 3, 5] bcast_S4x8x8x31_S4x8x1x8x1x31_0_1_3_5 (σ (Proc.tc.devRef main_v41))))
      (broadcastInDim S4x8x64x8x64x31 ![0, 1, 2, 3, 4, 5] bcast_S1x1x64x1x64x31_S4x8x64x8x64x31_0_1_2_3_4_5
        (broadcastInDim S1x1x64x1x64x31 ![2, 4, 5] bcast_S64x64x31_S1x1x64x1x64x31_2_4_5
          (uitofp FTy.f32
            (cmpi CmpIPredicate.eq
              (broadcastInDim S64x64x31 ![0, 1, 2] bcast_S64x64x1_S64x64x31_0_1_2
                (broadcastInDim S64x64x1 ![0, 1] bcast_S64x64_S64x64x1_0_1 (σ (Proc.tc.devRef main_v24))))
              (broadcastInDim S64x64x31 ![0, 1, 2] bcast_S1x1x31_S64x64x31_0_1_2
                (broadcastInDim S1x1x31 ![2] bcast_S31_S1x1x31_2 (iotaInDim S31 32 0))))))))
    (constant (F := Ideal) S_ FTy.f32 0x00000000#32) reducesTo_S4x8x64x8x64x31_S4x8x64x8x64_d5 h_S_ := by
  simp only [opsB, hostOps0_4, List.take_succ_cons, List.take_zero, List.drop_succ_cons, List.drop_zero]
  entry_read
  rfl

theorem opsB_v55 : StableHlo.after opsB σ (Proc.tc.devRef main_v55) = broadcastInDim S1x1x64x1x64 ![2, 4] bcast_S64x64_S1x1x64x1x64_2_4 (σ (Proc.tc.devRef main_v16)) := by
  simp only [opsB, hostOps0_4, List.take_succ_cons, List.take_zero, List.drop_succ_cons, List.drop_zero]
  entry_read
  rfl

theorem opsB_cst6 : StableHlo.after opsB σ (Proc.tc.devRef main_cst_6) = constant (F := Ideal) S_ FTy.f32 0xF149F2CA#32 := by
  simp only [opsB, hostOps0_4, List.take_succ_cons, List.take_zero, List.drop_succ_cons, List.drop_zero]
  entry_read
  rfl

theorem opsN_v41 : StableHlo.after opsN σ (Proc.tc.devRef main_v41) = concatenate S4x8x8x31 1
    [⟨S4x1x8x31, σ (Proc.tc.devRef main_v33)⟩, ⟨S4x1x8x31, σ (Proc.tc.devRef main_v34)⟩, ⟨S4x1x8x31, σ (Proc.tc.devRef main_v35)⟩, ⟨S4x1x8x31, σ (Proc.tc.devRef main_v36)⟩, ⟨S4x1x8x31, σ (Proc.tc.devRef main_v37)⟩, ⟨S4x1x8x31, σ (Proc.tc.devRef main_v38)⟩, ⟨S4x1x8x31, σ (Proc.tc.devRef main_v39)⟩, ⟨S4x1x8x31, σ (Proc.tc.devRef main_v40)⟩]
    concatenates_S4x1x8x31_S4x1x8x31_S4x1x8x31_S4x1x8x31_S4x1x8x31_S4x1x8x31_S4x1x8x31_S4x1x8x31_S4x8x8x31_d1 := by
  simp only [opsN, hostOps0_4, List.take_succ_cons, List.take_zero, List.drop_succ_cons, List.drop_zero]
  rw [StableHlo.after_cons, StableHlo.after_nil, StableHlo.nary_result]
  rfl

theorem opsN_v24 : StableHlo.after opsN σ (Proc.tc.devRef main_v24) = σ (Proc.tc.devRef main_v24) := by
  simp only [opsN, hostOps0_4, List.take_succ_cons, List.take_zero, List.drop_succ_cons, List.drop_zero]
  rw [StableHlo.after_cons, StableHlo.after_nil, StableHlo.nary_result_ne]
  decide

theorem opsN_v16 : StableHlo.after opsN σ (Proc.tc.devRef main_v16) = σ (Proc.tc.devRef main_v16) := by
  simp only [opsN, hostOps0_4, List.take_succ_cons, List.take_zero, List.drop_succ_cons, List.drop_zero]
  rw [StableHlo.after_cons, StableHlo.after_nil, StableHlo.nary_result_ne]
  decide

theorem opsS_v33 : StableHlo.after opsS σ (Proc.tc.devRef main_v33) = broadcastInDim S4x1x8x31 ![0, 2, 3] bcast_S4x8x31_S4x1x8x31_0_2_3 (σ (Proc.tc.devRef main_v25)) := by
  simp only [opsS, hostOps0_4, List.take_succ_cons, List.take_zero, List.drop_succ_cons, List.drop_zero]
  entry_read
  rfl

theorem opsS_v34 : StableHlo.after opsS σ (Proc.tc.devRef main_v34) = broadcastInDim S4x1x8x31 ![0, 2, 3] bcast_S4x8x31_S4x1x8x31_0_2_3 (σ (Proc.tc.devRef main_v26)) := by
  simp only [opsS, hostOps0_4, List.take_succ_cons, List.take_zero, List.drop_succ_cons, List.drop_zero]
  entry_read
  rfl

theorem opsS_v35 : StableHlo.after opsS σ (Proc.tc.devRef main_v35) = broadcastInDim S4x1x8x31 ![0, 2, 3] bcast_S4x8x31_S4x1x8x31_0_2_3 (σ (Proc.tc.devRef main_v27)) := by
  simp only [opsS, hostOps0_4, List.take_succ_cons, List.take_zero, List.drop_succ_cons, List.drop_zero]
  entry_read
  rfl

theorem opsS_v36 : StableHlo.after opsS σ (Proc.tc.devRef main_v36) = broadcastInDim S4x1x8x31 ![0, 2, 3] bcast_S4x8x31_S4x1x8x31_0_2_3 (σ (Proc.tc.devRef main_v28)) := by
  simp only [opsS, hostOps0_4, List.take_succ_cons, List.take_zero, List.drop_succ_cons, List.drop_zero]
  entry_read
  rfl

theorem opsS_v37 : StableHlo.after opsS σ (Proc.tc.devRef main_v37) = broadcastInDim S4x1x8x31 ![0, 2, 3] bcast_S4x8x31_S4x1x8x31_0_2_3 (σ (Proc.tc.devRef main_v29)) := by
  simp only [opsS, hostOps0_4, List.take_succ_cons, List.take_zero, List.drop_succ_cons, List.drop_zero]
  entry_read
  rfl

theorem opsS_v38 : StableHlo.after opsS σ (Proc.tc.devRef main_v38) = broadcastInDim S4x1x8x31 ![0, 2, 3] bcast_S4x8x31_S4x1x8x31_0_2_3 (σ (Proc.tc.devRef main_v30)) := by
  simp only [opsS, hostOps0_4, List.take_succ_cons, List.take_zero, List.drop_succ_cons, List.drop_zero]
  entry_read
  rfl

theorem opsS_v39 : StableHlo.after opsS σ (Proc.tc.devRef main_v39) = broadcastInDim S4x1x8x31 ![0, 2, 3] bcast_S4x8x31_S4x1x8x31_0_2_3 (σ (Proc.tc.devRef main_v31)) := by
  simp only [opsS, hostOps0_4, List.take_succ_cons, List.take_zero, List.drop_succ_cons, List.drop_zero]
  entry_read
  rfl

theorem opsS_v40 : StableHlo.after opsS σ (Proc.tc.devRef main_v40) = broadcastInDim S4x1x8x31 ![0, 2, 3] bcast_S4x8x31_S4x1x8x31_0_2_3 (σ (Proc.tc.devRef main_v32)) := by
  simp only [opsS, hostOps0_4, List.take_succ_cons, List.take_zero, List.drop_succ_cons, List.drop_zero]
  entry_read
  rfl

theorem opsS_v24 : StableHlo.after opsS σ (Proc.tc.devRef main_v24) = (σ (Proc.tc.devRef main_v24)) := by
  simp only [opsS, hostOps0_4, List.take_succ_cons, List.take_zero, List.drop_succ_cons, List.drop_zero]
  entry_read
  try rfl

theorem opsS_v16 : StableHlo.after opsS σ (Proc.tc.devRef main_v16) = (σ (Proc.tc.devRef main_v16)) := by
  simp only [opsS, hostOps0_4, List.take_succ_cons, List.take_zero, List.drop_succ_cons, List.drop_zero]
  entry_read
  try rfl

theorem opsA_v25 : StableHlo.after opsA σ (Proc.tc.devRef main_v25) = extractStridedSlice S4x8x31 ![0, 0, 0] (σ (Proc.tc.devRef main_arg1)) slices_S4x15x31_S4x8x31_0_0_0 := by
  simp only [opsA, hostOps0_4, List.take_succ_cons, List.take_zero, List.drop_succ_cons, List.drop_zero]
  entry_read
  rfl

theorem opsA_v26 : StableHlo.after opsA σ (Proc.tc.devRef main_v26) = extractStridedSlice S4x8x31 ![0, 1, 0] (σ (Proc.tc.devRef main_arg1)) slices_S4x15x31_S4x8x31_0_1_0 := by
  simp only [opsA, hostOps0_4, List.take_succ_cons, List.take_zero, List.drop_succ_cons, List.drop_zero]
  entry_read
  rfl

theorem opsA_v27 : StableHlo.after opsA σ (Proc.tc.devRef main_v27) = extractStridedSlice S4x8x31 ![0, 2, 0] (σ (Proc.tc.devRef main_arg1)) slices_S4x15x31_S4x8x31_0_2_0 := by
  simp only [opsA, hostOps0_4, List.take_succ_cons, List.take_zero, List.drop_succ_cons, List.drop_zero]
  entry_read
  rfl

theorem opsA_v28 : StableHlo.after opsA σ (Proc.tc.devRef main_v28) = extractStridedSlice S4x8x31 ![0, 3, 0] (σ (Proc.tc.devRef main_arg1)) slices_S4x15x31_S4x8x31_0_3_0 := by
  simp only [opsA, hostOps0_4, List.take_succ_cons, List.take_zero, List.drop_succ_cons, List.drop_zero]
  entry_read
  rfl

theorem opsA_v29 : StableHlo.after opsA σ (Proc.tc.devRef main_v29) = extractStridedSlice S4x8x31 ![0, 4, 0] (σ (Proc.tc.devRef main_arg1)) slices_S4x15x31_S4x8x31_0_4_0 := by
  simp only [opsA, hostOps0_4, List.take_succ_cons, List.take_zero, List.drop_succ_cons, List.drop_zero]
  entry_read
  rfl

theorem opsA_v30 : StableHlo.after opsA σ (Proc.tc.devRef main_v30) = extractStridedSlice S4x8x31 ![0, 5, 0] (σ (Proc.tc.devRef main_arg1)) slices_S4x15x31_S4x8x31_0_5_0 := by
  simp only [opsA, hostOps0_4, List.take_succ_cons, List.take_zero, List.drop_succ_cons, List.drop_zero]
  entry_read
  rfl

theorem opsA_v31 : StableHlo.after opsA σ (Proc.tc.devRef main_v31) = extractStridedSlice S4x8x31 ![0, 6, 0] (σ (Proc.tc.devRef main_arg1)) slices_S4x15x31_S4x8x31_0_6_0 := by
  simp only [opsA, hostOps0_4, List.take_succ_cons, List.take_zero, List.drop_succ_cons, List.drop_zero]
  entry_read
  rfl

theorem opsA_v32 : StableHlo.after opsA σ (Proc.tc.devRef main_v32) = extractStridedSlice S4x8x31 ![0, 7, 0] (σ (Proc.tc.devRef main_arg1)) slices_S4x15x31_S4x8x31_0_7_0 := by
  simp only [opsA, hostOps0_4, List.take_succ_cons, List.take_zero, List.drop_succ_cons, List.drop_zero]
  entry_read
  rfl

theorem opsA_v24 : StableHlo.after opsA σ (Proc.tc.devRef main_v24) = addi (σ (Proc.tc.devRef main_v22)) (broadcastInDim S64x64 ![] bcast_S_S64x64 (constantI S_ 32 15#32)) := by
  simp only [opsA, hostOps0_4, List.take_succ_cons, List.take_zero, List.drop_succ_cons, List.drop_zero]
  entry_read
  rfl

theorem opsA_v16 : StableHlo.after opsA σ (Proc.tc.devRef main_v16) = (σ (Proc.tc.devRef main_v16)) := by
  simp only [opsA, hostOps0_4, List.take_succ_cons, List.take_zero, List.drop_succ_cons, List.drop_zero]
  entry_read
  try rfl

theorem seg3_v22 : StableHlo.after hostOps0_3 σ (Proc.tc.devRef main_v22) = minsi (broadcastInDim S64x64 ![] bcast_S_S64x64 (σ (Proc.tc.devRef main_c_4))) (maxsi (broadcastInDim S64x64 ![] bcast_S_S64x64 (σ (Proc.tc.devRef main_c_3))) (σ (Proc.tc.devRef main_v21))) := by
  entry_read
  rfl

theorem seg_3_v16 : StableHlo.after hostOps0_3 σ (Proc.tc.devRef main_v16) = (σ (Proc.tc.devRef main_v16)) := by
  entry_read
  try rfl

theorem seg_3_arg1 : StableHlo.after hostOps0_3 σ (Proc.tc.devRef main_arg1) = (σ (Proc.tc.devRef main_arg1)) := by
  entry_read
  try rfl

theorem seg2_v21 : StableHlo.after hostOps0_2 σ (Proc.tc.devRef main_v21) = subi (broadcastInDim S64x64 ![0, 1] bcast_S1x64_S64x64_0_1 (broadcastInDim S1x64 ![1] bcast_S64_S1x64_1 (σ (Proc.tc.devRef main_v0)))) (broadcastInDim S64x64 ![0, 1] bcast_S64x1_S64x64_0_1 (broadcastInDim S64x1 ![0] bcast_S64_S64x1_0 (σ (Proc.tc.devRef main_v0)))) := by
  entry_read
  rfl

theorem seg2_v16 : StableHlo.after hostOps0_2 σ (Proc.tc.devRef main_v16) = andi
    (cmpi CmpIPredicate.sge (broadcastInDim S64x64 ![0, 1] bcast_S1x64_S64x64_0_1 (broadcastInDim S1x64 ![1] bcast_S64_S1x64_1 (σ (Proc.tc.devRef main_v0))))
      (broadcastInDim S64x64 ![0, 1] bcast_S64x1_S64x64_0_1 (broadcastInDim S64x1 ![0] bcast_S64_S64x1_0 (σ (Proc.tc.devRef main_v3)))))
    (cmpi CmpIPredicate.slt (broadcastInDim S64x64 ![0, 1] bcast_S1x64_S64x64_0_1 (broadcastInDim S1x64 ![1] bcast_S64_S1x64_1 (σ (Proc.tc.devRef main_v0))))
      (broadcastInDim S64x64 ![0, 1] bcast_S64x1_S64x64_0_1
        (addi (broadcastInDim S64x1 ![0] bcast_S64_S64x1_0 (σ (Proc.tc.devRef main_v3)))
          (broadcastInDim S64x1 ![] bcast_S_S64x1 (constantI S_ 32 16#32))))) := by
  entry_read
  rfl

theorem seg2_c3 : StableHlo.after hostOps0_2 σ (Proc.tc.devRef main_c_3) = constantI S_ 32 4294967281#32 := by
  entry_read
  rfl

theorem seg2_c4 : StableHlo.after hostOps0_2 σ (Proc.tc.devRef main_c_4) = constantI S_ 32 15#32 := by
  entry_read
  rfl

theorem seg_2_arg1 : StableHlo.after hostOps0_2 σ (Proc.tc.devRef main_arg1) = (σ (Proc.tc.devRef main_arg1)) := by
  entry_read
  try rfl

theorem seg1_v3 : StableHlo.after hostOps0_1 σ (Proc.tc.devRef main_v3) = minsi (broadcastInDim S64 ![] bcast_S_S64 (σ (Proc.tc.devRef main_c_1))) (maxsi (broadcastInDim S64 ![] bcast_S_S64 (σ (Proc.tc.devRef main_c_0))) (σ (Proc.tc.devRef main_v2))) := by
  entry_read
  rfl

theorem seg_1_v0 : StableHlo.after hostOps0_1 σ (Proc.tc.devRef main_v0) = (σ (Proc.tc.devRef main_v0)) := by
  entry_read
  try rfl

theorem seg_1_arg1 : StableHlo.after hostOps0_1 σ (Proc.tc.devRef main_arg1) = (σ (Proc.tc.devRef main_arg1)) := by
  entry_read
  try rfl

theorem seg0_v2 : StableHlo.after hostOps0 σ (Proc.tc.devRef main_v2) = subi (iotaInDim S64 32 0) (broadcastInDim S64 ![] bcast_S_S64 (constantI S_ 32 8#32)) := by
  entry_read
  rfl

theorem seg0_v0 : StableHlo.after hostOps0 σ (Proc.tc.devRef main_v0) = iotaInDim S64 32 0 := by
  entry_read
  rfl

theorem seg0_c0 : StableHlo.after hostOps0 σ (Proc.tc.devRef main_c_0) = constantI S_ 32 0#32 := by
  entry_read
  rfl

theorem seg0_c1 : StableHlo.after hostOps0 σ (Proc.tc.devRef main_c_1) = constantI S_ 32 48#32 := by
  entry_read
  rfl

theorem seg_arg1 : StableHlo.after hostOps0 σ (Proc.tc.devRef main_arg1) = (σ (Proc.tc.devRef main_arg1)) := by
  entry_read
  try rfl

variable (m : (ℓ : Loc nD τ sig) → Buf (Elt Ideal) ℓ)

/-- What the kernel's call finds in the table's buffer. -/
theorem V59 (c : Dev nD) : V m c main_v59 = kTab (m ((c : Thread nD τ).loc main_arg1)) := by
  show StableHlo.after (List.flatten [hostOps0, hostOps0_1, hostOps0_2, hostOps0_3, hostOps0_4, hostOps0_5, hostOps0_6])
    (fun b => m (c, b)) (Proc.tc.devRef main_v59) = _
  simp only [List.flatten_cons, List.flatten_nil, List.append_nil, ops4_eq, StableHlo.after_append]
  rw [seg6_v59, seg5_v56, opsB_v54, opsB_v55, opsB_cst6, opsN_v41, opsN_v24, opsN_v16, opsS_v33, opsS_v34, opsS_v35, opsS_v36, opsS_v37, opsS_v38, opsS_v39, opsS_v40, opsS_v24, opsS_v16,
    opsA_v25, opsA_v26, opsA_v27, opsA_v28, opsA_v29, opsA_v30, opsA_v31, opsA_v32, opsA_v24, opsA_v16, seg3_v22, seg_3_v16, seg_3_arg1, seg2_v21, seg2_v16, seg2_c3, seg2_c4, seg_2_arg1,
    seg1_v3, seg_1_v0, seg_1_arg1, seg0_v2, seg0_v0, seg0_c0, seg0_c1, seg_arg1]
  unfold kTab kSel kSum kHot kWin kBand kDist kClip kDiff kStart
  rfl

end Cert.KernelIdeal.Gen
-- ==== Proof.NaSpec.lean ====
/- The 2-D neighbourhood attention as plain mathematics on the extended reals.

   The image has 128 rows of 64 pixels. Pixel `(r, c)` of head `h` attends to the 8 rows from `rowStart r` on: in each, all 64
   pixels take part, the ones outside the 16 columns from `colStart c` on with the bias −1e30, the others with the
   bias of their row and column distance. `out` is the softmax of the scores over the 8 × 64 keys, applied to the values. -/
module

public import Idealize.ShloMosaic.Lib.Pointwise

@[expose] public section

set_option maxRecDepth 16384

noncomputable section

namespace Cert.Na

open Idealize.ShloMosaic

/-- The first row of the window of row `r`. -/
def rowStart (r : ℕ) : ℕ := min (r - 4) 120

/-- The first column of the band of column `c`. -/
def colStart (c : ℕ) : ℕ := min (c - 8) 48

theorem rowStart_le (r : ℕ) : rowStart r ≤ 120 := Nat.min_le_right _ _

/-- Key `(j, k)` of the window of row `r`, as a position in the sequence. -/
def key (r : Fin 128) (j : Fin 8) (k : Fin 64) : Fin 8192 :=
  ⟨64 * (rowStart r.val + j.val) + k.val, by have := rowStart_le r.val; omega⟩

/-- Pixel `(r, c)` as a position in the sequence. -/
def pix (r : Fin 128) (c : Fin 64) : Fin 8192 := ⟨64 * r.val + c.val, by omega⟩

/-- The lane of the projections that holds query (`g = 0`), key (`g = 1`) or value (`g = 2`) element `d` of head `h`. -/
def lane (g : Fin 3) (h : Fin 4) (d : Fin 64) : Fin 3456 := ⟨2688 + 256 * g.val + (64 * h.val + d.val), by omega⟩

/-- The row of the bias table for row `j` of the window of row `r`, -/
def biasRow (r : Fin 128) (j : Fin 8) : Fin 15 :=
  ⟨rowStart r.val + j.val + 7 - r.val, by unfold rowStart; omega⟩

/-- and its column for column `k` seen from column `c`. -/
def biasCol (c k : Fin 64) : Fin 31 := ⟨min (k.val + 15 - c.val) 30, by omega⟩

variable (P : (⟨3, ![8, 8192, 3456]⟩ : Shape).Idx → EReal) (R : (⟨3, ![4, 15, 31]⟩ : Shape).Idx → EReal)

/-- The bias of a key. -/
def bias (h : Fin 4) (r : Fin 128) (c : Fin 64) (j : Fin 8) (k : Fin 64) : EReal :=
  if colStart c.val ≤ k.val ∧ k.val < colStart c.val + 16 then R (ix3 h (biasRow r j) (biasCol c k))
  else Ideal.ofBits .f32 0xF149F2CA#32

/-- The score of a key. -/
def score (b : Fin 8) (h : Fin 4) (r : Fin 128) (c : Fin 64) (j : Fin 8) (k : Fin 64) : EReal :=
  (∑ d : Fin 64, P (ix3 b (pix r c) (lane 0 h d)) * P (ix3 b (key r j k) (lane 1 h d))) * Ideal.ofBits .f32 0x3E000000#32
    + bias R h r c j k

/-- The largest score. -/
def top (b : Fin 8) (h : Fin 4) (r : Fin 128) (c : Fin 64) : EReal :=
  Finset.univ.sup fun x : Fin 8 × Fin 64 => score P R b h r c x.1 x.2

/-- A key's weight before it is divided by the sum of the weights, -/
def weight (b : Fin 8) (h : Fin 4) (r : Fin 128) (c : Fin 64) (j : Fin 8) (k : Fin 64) : EReal :=
  Ideal.exp (score P R b h r c j k - top P R b h r c)

/-- their sum, -/
def total (b : Fin 8) (h : Fin 4) (r : Fin 128) (c : Fin 64) : EReal := ∑ j : Fin 8, ∑ k : Fin 64, weight P R b h r c j k

/-- and the attention. -/
def out (b : Fin 8) (h : Fin 4) (r : Fin 128) (c : Fin 64) (d : Fin 64) : EReal :=
  ∑ j : Fin 8, ∑ k : Fin 64, Ideal.div (weight P R b h r c j k) (total P R b h r c) * P (ix3 b (key r j k) (lane 2 h d))

/-! ## The two orders of the division -/

/-- An extended real that is a real number. -/
def Real' (x : EReal) : Prop := ∃ r : ℝ, x = (r : EReal)

theorem Real'.add {x y : EReal} : Real' x → Real' y → Real' (x + y)
  | ⟨a, ha⟩, ⟨b, hb⟩ => ⟨a + b, by rw [ha, hb, EReal.coe_add]⟩

theorem Real'.mul {x y : EReal} : Real' x → Real' y → Real' (x * y)
  | ⟨a, ha⟩, ⟨b, hb⟩ => ⟨a * b, by rw [ha, hb, EReal.coe_mul]⟩

theorem real'_sum {ι : Type*} (S : Finset ι) (f : ι → EReal) (h : ∀ i, Real' (f i)) : Real' (∑ i ∈ S, f i) := by
  classical
  induction S using Finset.induction_on with
  | empty => exact ⟨0, by simp⟩
  | insert a S ha ih => rw [Finset.sum_insert ha]; exact (h a).add ih

theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A nonnegative real factor moves into a sum of extended reals. -/
theorem sum_mul_coe {ι : Type*} (S : Finset ι) (f : ι → EReal) (a : ℝ) (ha : 0 ≤ a) :
    (∑ i ∈ S, f i) * (a : EReal) = ∑ i ∈ S, f i * (a : EReal) := by
  classical
  induction S using Finset.induction_on with
  | empty => simp
  | insert i S hi ih =>
    rw [Finset.sum_insert hi, Finset.sum_insert hi, ← ih]
    exact EReal.right_distrib_of_nonneg_of_ne_top (EReal.coe_nonneg.mpr ha) (EReal.coe_ne_top a) _ _

/-- The largest of finitely many real scores is one of them. -/
theorem sup_real {ι : Type*} [Fintype ι] [Nonempty ι] (s : ι → EReal) (hs : ∀ i, Real' (s i)) : Real' (Finset.univ.sup s) := by
  obtain ⟨i, -, hi⟩ := Finset.exists_mem_eq_sup (Finset.univ : Finset ι) Finset.univ_nonempty s
  rw [hi]; exact hs i

/-- Dividing the weighted values by the sum of the weights is weighting them by the divided weights. -/
theorem softmax_div {ι : Type*} [Fintype ι] [Nonempty ι] (s v : ι → EReal) (hs : ∀ i, Real' (s i)) :
    Ideal.div (∑ i, Ideal.exp (s i - Finset.univ.sup s) * v i) (∑ i, Ideal.exp (s i - Finset.univ.sup s))
      = ∑ i, Ideal.div (Ideal.exp (s i - Finset.univ.sup s)) (∑ i, Ideal.exp (s i - Finset.univ.sup s)) * v i := by
  obtain ⟨μ, hμ⟩ := sup_real s hs
  choose σ hσ using hs
  have he : ∀ i, Ideal.exp (s i - Finset.univ.sup s) = ((Real.exp (σ i - μ) : ℝ) : EReal) := fun i => by
    rw [hμ, hσ i, ← EReal.coe_sub, Ideal.exp_coe]
  have hl : ∑ i, Ideal.exp (s i - Finset.univ.sup s) = ((∑ i, Real.exp (σ i - μ) : ℝ) : EReal) := by
    rw [coe_sum]; exact Finset.sum_congr rfl fun i _ => he i
  have hpos : 0 < ∑ i, Real.exp (σ i - μ) := Finset.sum_pos (fun i _ => Real.exp_pos _) Finset.univ_nonempty
  rw [hl, Ideal.div_coe hpos.ne', sum_mul_coe _ _ _ (one_div_nonneg.mpr hpos.le)]
  refine Finset.sum_congr rfl fun i _ => ?_
  rw [Ideal.div_coe hpos.ne', mul_assoc, mul_assoc, mul_comm (v i)]

end Cert.Na

end
-- ==== Proof.NaRow.lean ====
/- One image row of the neighbourhood attention kernel, read at a head, a pixel and a lane: the softmax of the row's scores
   against the 512 keys of its window, applied to the values. The two heads of a block sit in the two halves of the 128
   lanes; a query row of one head is zero on the other head's lanes, so the product over 128 lanes is that head's own. -/
module

public import proofs.«01_k».proof.Proof.NaBody
public import proofs.«01_k».proof.Proof.NaSpec
public import Idealize.ShloMosaic.Lib.Pointwise
public import Idealize.ShloMosaic.Lib.WordCmp

@[expose] public section

set_option maxRecDepth 16384

noncomputable section

namespace Cert.KernelIdeal.Gen

open Idealize.ShloMosaic Idealize.ShloMosaic.TcCoe

/-- Lane `d` of the half `e`. -/
def half (e : Fin 2) (d : Fin 64) : Fin 128 := ⟨64 * e.val + d.val, by omega⟩

/-- The low lanes' mask. -/
theorem lo_lane (l : Fin 128) : IntOp.cmpi .slt (BitVec.ofNat 32 l.val) 64#32 = 1#1 ↔ l.val < 64 := by
  have := l.isLt
  word_cmp

/-- A select by the low lanes' mask. -/
theorem select_lo {α : Type} (l : Fin 128) (x y : α) :
    Scalar.select (IntOp.cmpi .slt (BitVec.ofNat 32 l.val) 64#32) x y = if l.val < 64 then x else y := by
  unfold Scalar.select
  exact if_congr (lo_lane l) rfl rfl

/-- A sum over the 128 lanes, by halves. -/
theorem sum_lanes (f : Fin 128 → EReal) : ∑ l, f l = (∑ d, f (half 0 d)) + ∑ d, f (half 1 d) := by
  rw [Fin.sum_univ_tiles 2 64 rfl f, Fin.sum_univ_two]
  refine congrArg₂ (· + ·) (Finset.sum_congr rfl fun d _ => ?_) (Finset.sum_congr rfl fun d _ => ?_) <;>
    exact congrArg f (Fin.ext (by simp [half]))

/-- The score of pixel `c` of the head in half `e` against key `κ`. -/
def headScore (q : FVec Ideal S1x64x128 .f32) (k : FVec Ideal S512x128 .bf16) (b : FVec Ideal S1x1x128x512 .f32)
    (e : Fin 2) (c : Fin 64) (κ : Fin 512) : EReal :=
  (∑ d : Fin 64, q (ix3 0 c (half e d)) * Ideal.ofBits .f32 0x3E000000#32 * k (ix2 κ (half e d))) + b (ix4 0 0 (half e c) κ)

/-- The other head's lanes drop out of the product. -/
theorem rowScore_apply (q : FVec Ideal S1x64x128 .f32) (k : FVec Ideal S512x128 .bf16) (b : FVec Ideal S1x1x128x512 .f32)
    (e : Fin 2) (c : Fin 64) (κ : Fin 512) :
    rowScore (F := Ideal) q k b (ix2 (half e c) κ) = headScore q k b e c κ := by
  unfold headScore
  pointwise [rowScore, k0_pay5, k0_pay4]
  simp only [select_lo]
  refine congrArg (· + _) ?_
  rw [sum_lanes]
  have hc : c.val < 64 := c.isLt
  match e with
  | 0 =>
    have h : (half 0 c).val = c.val := by simp [half]
    have hd : ∀ d : Fin 64, (half 0 d).val < 64 := fun d => by simp [half]
    have hd' : ∀ d : Fin 64, ¬ (half 1 d).val < 64 := fun d => by simp [half]
    have hq : (⟨(half 0 c).val, by rw [h]; exact hc⟩ : Fin 64) = c := Fin.ext h
    simp only [h, hc, hd, hd', dif_pos, if_true, if_false, zero_mul, Finset.sum_const_zero, add_zero, Fin.eta]
  | 1 =>
    have h : (half 1 c).val = 64 + c.val := by simp [half]
    have hd : ∀ d : Fin 64, (half 0 d).val < 64 := fun d => by simp [half]
    have hd' : ∀ d : Fin 64, ¬ (half 1 d).val < 64 := fun d => by simp [half]
    have hn : ¬ 64 + c.val < 64 := by omega
    simp only [h, hn, hd, hd', dif_neg, not_false_eq_true, if_true, if_false, zero_mul, Finset.sum_const_zero, zero_add,
      Nat.add_sub_cancel_left, Fin.eta]

/-- The kernel's initial value of a maximum is the least extended real. -/
theorem ofBits_negInf : Ideal.ofBits .f32 0xFF800000#32 = ⊥ := by
  simp [Ideal.ofBits, Ideal.ieee]

/-- The output at pixel `c`, lane `d` of the half `e`. -/
theorem rowOut_apply (q : FVec Ideal S1x64x128 .f32) (k : FVec Ideal S512x128 .bf16) (b : FVec Ideal S1x1x128x512 .f32)
    (v : FVec Ideal S512x128 .bf16) (e : Fin 2) (c d : Fin 64) :
    rowOut (F := Ideal) q k b v (ix3 0 c (half e d))
      = Ideal.div (∑ κ, Ideal.exp (headScore q k b e c κ - Finset.univ.sup (headScore q k b e c)) * v (ix2 κ (half e d)))
          (∑ κ, Ideal.exp (headScore q k b e c κ - Finset.univ.sup (headScore q k b e c))) := by
  pointwise [rowOut, k0_pay122, k0_pay4, k0_pay54, k0_pay55]
  rw [select_lo, ofBits_negInf]
  match e with
  | 0 =>
    rw [if_pos (show (half 0 d).val < 64 by simp [half])]
    have h : ∀ p, (⟨c.val, p⟩ : Fin 128) = half 0 c := fun p => Fin.ext (by simp [half])
    simp only [h, rowScore_apply]
    rfl
  | 1 =>
    rw [if_neg (show ¬ (half 1 d).val < 64 by simp [half])]
    have h : ∀ p, (⟨64 + c.val, p⟩ : Fin 128) = half 1 c := fun p => Fin.ext (by simp [half])
    simp only [h, rowScore_apply]
    rfl

end Cert.KernelIdeal.Gen

end
-- ==== Proof.Axes.lean ====
/- Sums and folds of a six-axis array along its last axis, and along its last two. -/
module

public import Idealize.ShloMosaic.Lib.Pointwise

@[expose] public section

namespace Cert.Axes

open Idealize.ShloMosaic

variable {n0 n1 n2 n3 n4 n5 : Nat}

/-- The indices that lose their last coordinate to become `(a, b, c, d, e)`. -/
theorem fiber5 (h : (⟨6, ![n0, n1, n2, n3, n4, n5]⟩ : Shape).ReducesTo [5] ⟨5, ![n0, n1, n2, n3, n4]⟩)
    (a : Fin n0) (b : Fin n1) (c : Fin n2) (d : Fin n3) (e : Fin n4) (i : (⟨6, ![n0, n1, n2, n3, n4, n5]⟩ : Shape).Idx) :
    h.drop i = ix5 a b c d e ↔ ∃ k : Fin n5, ix6 a b c d e k = i := by
  constructor
  · intro q
    refine ⟨i 5, ?_⟩
    funext x; apply Fin.ext
    match x with
    | ⟨0, _⟩ => exact (congrArg Fin.val (congrFun q 0)).symm
    | ⟨1, _⟩ => exact (congrArg Fin.val (congrFun q 1)).symm
    | ⟨2, _⟩ => exact (congrArg Fin.val (congrFun q 2)).symm
    | ⟨3, _⟩ => exact (congrArg Fin.val (congrFun q 3)).symm
    | ⟨4, _⟩ => exact (congrArg Fin.val (congrFun q 4)).symm
    | ⟨5, _⟩ => rfl
  · rintro ⟨k, rfl⟩
    funext x
    apply Fin.ext
    match x with
    | ⟨0, _⟩ => rfl
    | ⟨1, _⟩ => rfl
    | ⟨2, _⟩ => rfl
    | ⟨3, _⟩ => rfl
    | ⟨4, _⟩ => rfl

/-- The sum along the last axis. -/
theorem sum5 (h : (⟨6, ![n0, n1, n2, n3, n4, n5]⟩ : Shape).ReducesTo [5] ⟨5, ![n0, n1, n2, n3, n4]⟩)
    (v : (⟨6, ![n0, n1, n2, n3, n4, n5]⟩ : Shape).Idx → EReal) (z : EReal)
    (a : Fin n0) (b : Fin n1) (c : Fin n2) (d : Fin n3) (e : Fin n4) :
    Ideal.hostReduceAdd h v z (ix5 a b c d e) = z + ∑ k : Fin n5, v (ix6 a b c d e k) :=
  congrArg (z + ·) (Finset.sum_filter_eq_sum_of_fiber _ (fun k : Fin n5 => ix6 a b c d e k)
    (fun _ _ q => congrFun q 5) (fiber5 h a b c d e) v)

/-- The indices that lose their last two coordinates to become `(a, b, c, d)`. -/
theorem fiber45 (h : (⟨6, ![n0, n1, n2, n3, n4, n5]⟩ : Shape).ReducesTo [4, 5] ⟨4, ![n0, n1, n2, n3]⟩)
    (a : Fin n0) (b : Fin n1) (c : Fin n2) (d : Fin n3) (i : (⟨6, ![n0, n1, n2, n3, n4, n5]⟩ : Shape).Idx) :
    h.drop i = ix4 a b c d ↔ ∃ k : Fin n4 × Fin n5, ix6 a b c d k.1 k.2 = i := by
  constructor
  · intro q
    refine ⟨(i 4, i 5), ?_⟩
    funext x; apply Fin.ext
    match x with
    | ⟨0, _⟩ => exact (congrArg Fin.val (congrFun q 0)).symm
    | ⟨1, _⟩ => exact (congrArg Fin.val (congrFun q 1)).symm
    | ⟨2, _⟩ => exact (congrArg Fin.val (congrFun q 2)).symm
    | ⟨3, _⟩ => exact (congrArg Fin.val (congrFun q 3)).symm
    | ⟨4, _⟩ => rfl
    | ⟨5, _⟩ => rfl
  · rintro ⟨k, rfl⟩
    funext x
    apply Fin.ext
    match x with
    | ⟨0, _⟩ => rfl
    | ⟨1, _⟩ => rfl
    | ⟨2, _⟩ => rfl
    | ⟨3, _⟩ => rfl

/-- Two last coordinates are read off an index. -/
theorem inj45 (a : Fin n0) (b : Fin n1) (c : Fin n2) (d : Fin n3) :
    Function.Injective (fun k : Fin n4 × Fin n5 => ix6 a b c d k.1 k.2) :=
  fun x y q => Prod.ext (congrFun q 4) (congrFun q 5)

/-- The sum along the last two axes. -/
theorem sum45 (h : (⟨6, ![n0, n1, n2, n3, n4, n5]⟩ : Shape).ReducesTo [4, 5] ⟨4, ![n0, n1, n2, n3]⟩)
    (v : (⟨6, ![n0, n1, n2, n3, n4, n5]⟩ : Shape).Idx → EReal) (z : EReal)
    (a : Fin n0) (b : Fin n1) (c : Fin n2) (d : Fin n3) :
    Ideal.hostReduceAdd h v z (ix4 a b c d) = z + ∑ j : Fin n4, ∑ k : Fin n5, v (ix6 a b c d j k) :=
  congrArg (z + ·) ((Finset.sum_filter_eq_sum_of_fiber _ (fun k : Fin n4 × Fin n5 => ix6 a b c d k.1 k.2)
    (inj45 a b c d) (fiber45 h a b c d) v).trans (Fintype.sum_prod_type _))

/-- The largest element along the last two axes. -/
theorem sup45 {u : Shape} (h : (⟨6, ![n0, n1, n2, n3, n4, n5]⟩ : Shape).ReducesTo [4, 5] ⟨4, ![n0, n1, n2, n3]⟩)
    (v : (⟨6, ![n0, n1, n2, n3, n4, n5]⟩ : Shape).Idx → EReal) (z : u.Idx → EReal) (hu : 0 < u.numel)
    (hz : z (Shape.Idx.first hu) = ⊥) (a : Fin n0) (b : Fin n1) (c : Fin n2) (d : Fin n3) :
    Host.reduce max v z h hu (ix4 a b c d)
      = Finset.univ.sup fun k : Fin n4 × Fin n5 => v (ix6 a b c d k.1 k.2) := by
  rw [Host.reduce_eq_fold, hz]
  exact Finset.fold_filter_eq_fold_of_fiber max _ (fun k : Fin n4 × Fin n5 => ix6 a b c d k.1 k.2)
    (inj45 a b c d) (fiber45 h a b c d) ⊥ v

end Cert.Axes
-- ==== Proof.NaBias.lean ====
/- The bias table of the neighbourhood attention kernel, read at a head, a row distance, a column and a key. -/
module

public import proofs.«01_k».proof.Proof.NaTab
public import proofs.«01_k».proof.Proof.NaRow
public import proofs.«01_k».proof.Proof.Axes

@[expose] public section

set_option maxRecDepth 16384

noncomputable section

namespace Cert.KernelIdeal.Gen

open Idealize.ShloMosaic Idealize.ShloMosaic.TcCoe

/-- The pair of a head, and its place in it. -/
def pairOf (h : Fin 4) : Fin 2 := ⟨h.val / 2, by omega⟩
def inPair (h : Fin 4) : Fin 2 := ⟨h.val % 2, by omega⟩
/-- The key of a row and a column of the window. -/
def flat (j : Fin 8) (k : Fin 64) : Fin 512 := ⟨64 * j.val + k.val, by omega⟩

theorem kOrder_apply (t : Vec Ideal S4x8x64x8x64 .f32) (d : Fin 8) (h : Fin 4) (c : Fin 64) (j : Fin 8) (k : Fin 64) :
    kOrder t (ix4 d (pairOf h) (half (inPair h) c) (flat j k)) = t (ix5 h d c j k) := by
  pointwise [kOrder]
  have := h.isLt; have := c.isLt; have := j.isLt; have := k.isLt
  congr 1
  refine congr (congr (congr (congr (congr rfl ?_) rfl) ?_) ?_) ?_
  all_goals
    apply Fin.ext
    simp only [pairOf, half, inPair, flat]
    omega

/-- The band test. -/
theorem band_word (c k : Fin 64) :
    IntOp.andi
        (IntOp.cmpi CmpIPredicate.sge (BitVec.ofNat 32 k.val)
          (IntOp.minsi (48#32) (IntOp.maxsi (0#32) (IntOp.subi (BitVec.ofNat 32 c.val) 8#32))))
        (IntOp.cmpi CmpIPredicate.slt (BitVec.ofNat 32 k.val)
          (IntOp.addi (IntOp.minsi (48#32) (IntOp.maxsi (0#32) (IntOp.subi (BitVec.ofNat 32 c.val) 8#32))) 16#32))
      = if Cert.Na.colStart c.val ≤ k.val ∧ k.val < Cert.Na.colStart c.val + 16 then 1#1 else 0#1 := by
  revert c k
  decide +kernel

theorem kSel_apply (t : Vec Ideal S4x8x64x8x64 .f32) (d : Fin 8) (h : Fin 4) (c : Fin 64) (j : Fin 8) (k : Fin 64) :
    kSel t (ix5 h d c j k) = if Cert.Na.colStart c.val ≤ k.val ∧ k.val < Cert.Na.colStart c.val + 16 then t (ix5 h d c j k)
      else Ideal.ofBits .f32 0xF149F2CA#32 := by
  pointwise [kSel, kBand, kStart]
  rw [band_word]
  split <;> rfl

/-- The column of the position biases. -/
theorem dist_val (c k : Fin 64) :
    IntOp.addi
          (IntOp.minsi (15#32) (IntOp.maxsi (4294967281#32) (IntOp.subi (BitVec.ofNat 32 k.val) (BitVec.ofNat 32 c.val))))
          15#32
      = BitVec.ofNat 32 (Cert.Na.biasCol c k).val := by
  revert c k
  decide +kernel

/-- Two columns' words are equal when they are. -/
theorem col_word (a x : Fin 31) :
    IntOp.cmpi CmpIPredicate.eq (BitVec.ofNat 32 a.val) (BitVec.ofNat 32 x.val) = if a = x then 1#1 else 0#1 := by
  revert a x
  decide +kernel

theorem kHot_apply (c k : Fin 64) (x : Fin 31) :
    kHot (ix3 c k x) = if Cert.Na.biasCol c k = x then 1 else (0 : EReal) := by
  pointwise [kHot, kDist, kClip, kDiff]
  rw [dist_val, col_word]
  split
  · show (((1#1 : BitVec 1).toNat : ℝ) : EReal) = 1
    simp
  · show (((0#1 : BitVec 1).toNat : ℝ) : EReal) = 0
    simp

theorem kSum_apply (w : Vec Ideal S4x8x8x31 .f32) (d : Fin 8) (h : Fin 4) (c : Fin 64) (j : Fin 8) (k : Fin 64) :
    kSum w (ix5 h d c j k) = w (ix4 h d j (Cert.Na.biasCol c k)) := by
  pointwise [kSum]
  rw [Cert.Axes.sum5]
  pointwise []
  simp only [kHot_apply]
  simp

theorem kWin_apply (R : Vec Ideal S4x15x31 .f32) (h : Fin 4) (d : Fin 8) (j : Fin 8) (x : Fin 31) :
    kWin R (ix4 h d j x) = R (ix3 h ⟨d.val + j.val, by omega⟩ x) := by
  pointwise [kWin]
  have := d.isLt
  repeat' split
  all_goals
    congr 1
    refine congr (congr rfl ?_) rfl
    apply Fin.ext
    simp only
    omega

/-- The table at a head, a row, a column and a key. -/
theorem kTab_apply (R : Vec Ideal S4x15x31 .f32) (d : Fin 8) (h : Fin 4) (c : Fin 64) (j : Fin 8) (k : Fin 64) :
    kTab R (ix4 d (pairOf h) (half (inPair h) c) (flat j k))
      = if Cert.Na.colStart c.val ≤ k.val ∧ k.val < Cert.Na.colStart c.val + 16
        then R (ix3 h ⟨d.val + j.val, by omega⟩ (Cert.Na.biasCol c k)) else Ideal.ofBits .f32 0xF149F2CA#32 := by
  unfold kTab
  rw [kOrder_apply, kSel_apply, kSum_apply, kWin_apply]

end Cert.KernelIdeal.Gen
-- ==== Proof.NaRunA.lean ====
module

public import proofs.«01_k».proof.Proof.NaBody

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

instance closedOff_kv (i : grid0.Coords) (w : BitVec 32) : ClosedOff (k0_off1 i w) :=
  ⟨![k0_off1 i w 0, 0], funext fun a => match a with | ⟨0, _⟩ => rfl | ⟨1, _⟩ => rfl⟩

theorem zeros2 : (![0, 0] : Fin 2 → Nat) = fun _ => 0 := funext fun a => match a with | ⟨0, _⟩ => rfl | ⟨1, _⟩ => rfl

theorem zeros3 : (![0, 0, 0] : Fin 3 → Nat) = fun _ => 0 :=
  funext fun a => match a with | ⟨0, _⟩ => rfl | ⟨1, _⟩ => rfl | ⟨2, _⟩ => rfl

/-- What a scratch buffer holds after its one whole store. -/
theorem read_stored {κ : Kind} {sp : Space} (v : View sig κ sp S8192x128 .bf16) (f : v.ty.Contents (Elt F))
    (inb : ∀ a, (![0, 0] : Fin S8192x128.rank → Nat) a + S8192x128.size a ≤ S8192x128.size a) (w : S8192x128.Idx → Elt F .bf16) :
    v.read (Elt F) (v.writes (Elt F) f [⟨Rect.unit ![0, 0] S8192x128.size inb, w⟩]) = w := by
  rw [View.read_writes_eq_canon _ _ _ fun y => ⟨_, List.mem_singleton.mpr rfl, View.mem_set_unit_zero zeros2 inb y⟩]
  exact View.canon_unit_zero zeros2 inb w

set_option maxHeartbeats 2000000 in
theorem naRun_A (c : Dev nD) (i : grid0.Coords) (arg3 : Memref sig .tc .vmem S1x2048x128 .f32) (harg3 : arg3.IsWhole)
    (arg4 : Memref sig .tc .vmem S1x8192x128 .f32) (harg4 : arg4.IsWhole) (arg5 : Memref sig .tc .vmem S1x8192x128 .f32) (harg5 : arg5.IsWhole)
    (arg6 : Memref sig .tc .vmem S8x1x128x512 .f32) (harg6 : arg6.IsWhole) (arg7 : Memref sig .tc .vmem S1x2048x128 .bf16) (harg7 : arg7.IsWhole)
    (arg8 : Memref sig .tc .vmem S8192x128 .bf16) (harg8 : arg8.IsWhole) (arg9 : Memref sig .tc .vmem S8192x128 .bf16) (harg9 : arg9.IsWhole) (hc0 : cond0_0 i)
    (x0 : Vec F S1x2048x128 .f32) (x1 : Vec F S1x8192x128 .f32) (x2 : Vec F S1x8192x128 .f32) (x3 : Vec F S8x1x128x512 .f32) :
    ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ (∃ d, owns (c : Thread nD τ) arg7 fullShare d)
            ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2
            ∗ owns (c : Thread nD τ) arg6 fullShare x3
            ∗ owns (c : Thread nD τ) arg7 fullShare (naOut i x0 x3 (k0_pay2 x1) (k0_pay3 x2))
            ∗ owns (c : Thread nD τ) arg8 fullShare (k0_pay2 x1) ∗ owns (c : Thread nD τ) arg9 fullShare (k0_pay3 x2)) -∗ K ⟨⟩))
          ⊢ wp frame (wpE (defs₀ (F := F)) Variants.none c none) E (cc0_neighborhood_attention i arg3 harg3 arg4 harg4 arg5 harg5 arg6 harg6 arg7 harg7 arg8 harg8 arg9 harg9) K := by
    intro E K
    simp only [cc0_neighborhood_attention_eq_skeleton]; unfold cc0_neighborhood_attention_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; swap; · iexact H4
      ipureintro
      exact read_rows arg7.view _ (fun j => rowOut (arg3.view.readAt (Elt F) (rowRect j).toLoadRect (harg3.unread x0))
        (arg8.view.readAt (Elt F) (kvRect i j).toLoadRect (arg8.view.writes (Elt F) arg8.view.junk (naRun_A.sl.HS0_1 c arg4 harg4 x1)))
        (arg6.view.readAt (Elt F) (biasRect i j).toLoadRect (harg6.unread x3))
        (arg9.view.readAt (Elt F) (kvRect i j).toLoadRect (arg9.view.writes (Elt F) arg9.view.junk (naRun_A.sl.HS1_1 c arg5 harg5 x2)))) _
        (fun j x => by
          rw [← naOut_emb]; unfold rowAt
          rw [View.readAt_eq_ld, View.readAt_eq_ld, View.readAt_eq_ld, View.readAt_eq_ld, harg3.read_unread, harg6.read_unread]
          unfold naRun_A.sl.HS0_1 naRun_A.sl.HS1_1
          rw [read_stored, read_stored, View.readAt_eq_ld, View.readAt_eq_ld, View.ld_unit_zero zeros3, View.ld_unit_zero zeros3,
            harg4.read_unread, harg5.read_unread])
    isplitl [HS0]
    · iexists _; isplitr; swap; · iexact HS0
      ipureintro
      unfold naRun_A.sl.HS0_1
      rw [read_stored, View.readAt_eq_ld, View.ld_unit_zero zeros3, harg4.read_unread]
    iexists _; isplitr; swap; · iexact HS1
    ipureintro
    unfold naRun_A.sl.HS1_1
    rw [read_stored, View.readAt_eq_ld, View.ld_unit_zero zeros3, harg5.read_unread]

end Cert.KernelIdeal.Gen

end
-- ==== Proof.NaRunB.lean ====
module

public import proofs.«01_k».proof.Proof.NaBody

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
theorem naRun_B (c : Dev nD) (i : grid0.Coords) (arg3 : Memref sig .tc .vmem S1x2048x128 .f32) (harg3 : arg3.IsWhole)
    (arg4 : Memref sig .tc .vmem S1x8192x128 .f32) (harg4 : arg4.IsWhole) (arg5 : Memref sig .tc .vmem S1x8192x128 .f32) (harg5 : arg5.IsWhole)
    (arg6 : Memref sig .tc .vmem S8x1x128x512 .f32) (harg6 : arg6.IsWhole) (arg7 : Memref sig .tc .vmem S1x2048x128 .bf16) (harg7 : arg7.IsWhole)
    (arg8 : Memref sig .tc .vmem S8192x128 .bf16) (harg8 : arg8.IsWhole) (arg9 : Memref sig .tc .vmem S8192x128 .bf16) (harg9 : arg9.IsWhole) (hc0 : ¬ cond0_0 i)
    (x0 : Vec F S1x2048x128 .f32) (x1 : Vec F S1x8192x128 .f32) (x2 : Vec F S1x8192x128 .f32) (x3 : Vec F S8x1x128x512 .f32)
    (kb vb : Vec F S8192x128 .bf16) :
    ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ (∃ d, owns (c : Thread nD τ) arg7 fullShare d)
            ∗ owns (c : Thread nD τ) arg8 fullShare kb ∗ owns (c : Thread nD τ) arg9 fullShare vb
            ∗ (iprop(owns (c : Thread nD τ) arg3 fullShare x0 ∗ owns (c : Thread nD τ) arg4 fullShare x1 ∗ owns (c : Thread nD τ) arg5 fullShare x2
            ∗ owns (c : Thread nD τ) arg6 fullShare x3
            ∗ owns (c : Thread nD τ) arg7 fullShare (naOut i x0 x3 kb vb)
            ∗ owns (c : Thread nD τ) arg8 fullShare kb ∗ owns (c : Thread nD τ) arg9 fullShare vb) -∗ K ⟨⟩))
          ⊢ wp frame (wpE (defs₀ (F := F)) Variants.none c none) E (cc0_neighborhood_attention i arg3 harg3 arg4 harg4 arg5 harg5 arg6 harg6 arg7 harg7 arg8 harg8 arg9 harg9) K := by
    intro E K
    simp only [cc0_neighborhood_attention_eq_skeleton]; unfold cc0_neighborhood_attention_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hs0, HS0⟩, ⟨%fs1, %hs1, HS1⟩, Hk⟩
    obtain rfl := harg3.eq_unread hf0; obtain rfl := harg4.eq_unread hf1; obtain rfl := harg5.eq_unread hf2; obtain rfl := harg6.eq_unread hf3
    obtain rfl := harg8.eq_unread hs0; obtain rfl := harg9.eq_unread hs1
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; swap; · iexact H4
      ipureintro
      exact read_rows arg7.view _
        (fun j => rowOut (arg3.view.readAt (Elt F) (rowRect j).toLoadRect (harg3.unread x0))
          (arg8.view.readAt (Elt F) (kvRect i j).toLoadRect (harg8.unread kb))
          (arg6.view.readAt (Elt F) (biasRect i j).toLoadRect (harg6.unread x3))
          (arg9.view.readAt (Elt F) (kvRect i j).toLoadRect (harg9.unread vb))) _
        (fun j x => by
          rw [← naOut_emb]; unfold rowAt
          rw [View.readAt_eq_ld, View.readAt_eq_ld, View.readAt_eq_ld, View.readAt_eq_ld, harg3.read_unread, harg8.read_unread, harg6.read_unread, harg9.read_unread])
    isplitl [HS0]
    · iexists _; isplitr; · ipureintro; exact harg8.read_unread _
      iexact HS0
    iexists _; isplitr; · ipureintro; exact harg9.read_unread _
    iexact HS1

end Cert.KernelIdeal.Gen

end
-- ==== Proof.NaLaunch.lean ====
module

public import proofs.«01_k».proof.Proof.NaRunA
public import proofs.«01_k».proof.Proof.NaRunB
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows at a point -/

/-- The block each window is at, from the point's number. -/
theorem idx : ∀ t : Fin cfg0.N, win0_0.index t = ![t.val / 8, t.val % 4, 21 + t.val / 4 % 2] ∧ win0_1.index t = ![t.val / 8, 0, 23 + t.val / 4 % 2]
    ∧ win0_2.index t = ![t.val / 8, 0, 25 + t.val / 4 % 2] ∧ win0_3.index t = ![0, t.val / 4 % 2, 0, 0]
    ∧ win0_4.index t = ![t.val / 8, t.val % 4, t.val / 4 % 2] := (by decide +kernel : ∀ t : Fin grid0.N, _)

/-- The blocks of queries, keys, values and bias at a point. -/
abbrev qBlk (c : Dev nD) (t : Fin cfg0.N) : Vec F S1x2048x128 .f32 := iblk m c 0 t
abbrev kBlk (c : Dev nD) (t : Fin cfg0.N) : Vec F S1x8192x128 .f32 := iblk m c 1 t
abbrev vBlk (c : Dev nD) (t : Fin cfg0.N) : Vec F S1x8192x128 .f32 := iblk m c 2 t
abbrev bBlk (c : Dev nD) (t : Fin cfg0.N) : Vec F S8x1x128x512 .f32 := iblk m c 3 t

/-- The keys are the same at the four row blocks of one image and head pair. -/
theorem kBlk_same (c : Dev nD) (t t' : Fin cfg0.N) (h : t.val / 4 = t'.val / 4) : kBlk m c t = kBlk m c t' := by
  funext y
  blk_ext [kBlk, iblk, idx t, idx t']

/-- The values likewise. -/
theorem vBlk_same (c : Dev nD) (t t' : Fin cfg0.N) (h : t.val / 4 = t'.val / 4) : vBlk m c t = vBlk m c t' := by
  funext y
  blk_ext [vBlk, iblk, idx t, idx t']

/-! ## The pipeline's proof data -/

/-- What the two scratch buffers hold before point `k`: except at a first row block, the keys and the values of the point's image and
    head pair. -/
def Kept (c : Dev nD) (k : ℕ) (d0 d1 : S8192x128.Idx → Elt F .bf16) : Prop :=
  ∀ t : Fin cfg0.N, t.val = k → t.val % 4 ≠ 0 → d0 = k0_pay2 (kBlk m c t) ∧ d1 = k0_pay3 (vBlk m c t)

abbrev scM0_0 : Memref sig .tc .vmem S8192x128 .bf16 := Memref.whole cc0_scratch0
abbrev scM0_1 : Memref sig .tc .vmem S8192x128 .bf16 := Memref.whole cc0_scratch1

/-- The invariant between points: the scratch as `Kept` says, and the generator register. -/
def inv (c : Dev nD) (k : ℕ) : sProp 𝕄 :=
  iprop((∃ d0, ∃ d1, ⌜Kept m c k d0 d1⌝ ∗ owns (c : Thread nD τ) scM0_0 fullShare d0 ∗ owns (c : Thread nD τ) scM0_1 fullShare d1)
    ∗ (∃ r, prngReg c r))

/-- What the body leaves in the output's buffer at a point. -/
def outBlk (c : Dev nD) (t : Fin cfg0.N) : Vec F S1x2048x128 .bf16 :=
  naOut (grid0.coords t) (qBlk m c t) (bBlk m c t) (k0_pay2 (kBlk m c t)) (k0_pay3 (vBlk m c t))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk m c t
  Φ k := inv m c k.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

theorem after0_4 (c : Dev nD) (t : Fin cfg0.N) : (dats m 0 c).after 4 t = outBlk m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body at a point -/

/-- Each window's current staging memref, and the scratch operands. -/
abbrev ms0_0 (t : Fin cfg0.N) : Memref sig .tc .vmem S1x2048x128 .f32 := win0_0.stage (cfg0.slots t 0)
abbrev ms0_1 (t : Fin cfg0.N) : Memref sig .tc .vmem S1x8192x128 .f32 := win0_1.stage (cfg0.slots t 1)
abbrev ms0_2 (t : Fin cfg0.N) : Memref sig .tc .vmem S1x8192x128 .f32 := win0_2.stage (cfg0.slots t 2)
abbrev ms0_3 (t : Fin cfg0.N) : Memref sig .tc .vmem S8x1x128x512 .f32 := win0_3.stage (cfg0.slots t 3)
abbrev ms0_4 (t : Fin cfg0.N) : Memref sig .tc .vmem S1x2048x128 .bf16 := win0_4.stage (cfg0.slots t 4)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4]
  rw [show (dats m 0 c).Φ t.castSucc = inv m c t.val from rfl, show (dats m 0 c).Φ t.succ = inv m c (t.val + 1) from rfl]
  unfold inv outBlk
  by_cases h0 : t.val % 4 = 0
  · iintro ⟨⟨⟨%ds0, %ds1, %hk, HS0, HS1⟩, Hg⟩, Ho, ⟨%d0, H0⟩, ⟨%d1, H1⟩, ⟨%d2, H2⟩, ⟨%d3, H3⟩, ⟨%d4, H4⟩⟩
    iapply ((naRun_A c (grid0.coords t) _ _ _ _ _ _ _ _ _ _ _ _ _ _ ((hcond0_0 t).mpr h0) (qBlk m c t) (kBlk m c t) (vBlk m c t) (bBlk m c t)) Set.univ _)
    isplitl [H0]; · iexact H0
    isplitl [H1]; · iexact H1
    isplitl [H2]; · iexact H2
    isplitl [H3]; · iexact H3
    isplitl [H4]; · iexists _; iexact H4
    isplitl [HS0]; · iexists _; iexact HS0
    isplitl [HS1]; · iexists _; iexact HS1
    iintro ⟨H0, H1, H2, H3, H4, HS0, HS1⟩
    isplitl [HS0 HS1 Hg]
    · isplitl [HS0 HS1]
      · iexists _, _
        isplitr
        · ipureintro; exact fun t' e _ => ⟨by rw [kBlk_same m c t' t (by omega)], by rw [vBlk_same m c t' t (by omega)]⟩
        isplitl [HS0]
        · iexact HS0
        iexact HS1
      iexact Hg
    isplitl [Ho]; · iexact Ho
    isplitl [H0]; · iexact H0
    isplitl [H1]; · iexact H1
    isplitl [H2]; · iexact H2
    isplitl [H3]; · iexact H3
    iexact H4
  · iintro ⟨⟨⟨%ds0, %ds1, %hk, HS0, HS1⟩, Hg⟩, Ho, ⟨%d0, H0⟩, ⟨%d1, H1⟩, ⟨%d2, H2⟩, ⟨%d3, H3⟩, ⟨%d4, H4⟩⟩
    obtain ⟨rfl, rfl⟩ := hk t rfl h0
    iapply ((naRun_B c (grid0.coords t) _ _ _ _ _ _ _ _ _ _ _ _ _ _ (fun h => h0 ((hcond0_0 t).mp h)) (qBlk m c t) (kBlk m c t) (vBlk m c t) (bBlk m c t) (k0_pay2 (kBlk m c t)) (k0_pay3 (vBlk m c t))) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, H4, HS0, HS1⟩
    isplitl [HS0 HS1 Hg]
    · isplitl [HS0 HS1]
      · iexists _, _
        isplitr
        · ipureintro; exact fun t' e _ => ⟨by rw [kBlk_same m c t' t (by omega)], by rw [vBlk_same m c t' t (by omega)]⟩
        isplitl [HS0]
        · iexact HS0
        iexact HS1
      iexact Hg
    isplitl [Ho]; · iexact Ho
    isplitl [H0]; · iexact H0
    isplitl [H1]; · iexact H1
    isplitl [H2]; · iexact H2
    isplitl [H3]; · iexact H3
    iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- The kit's invariant with the scratch operands owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- At the first point nothing is asked of the scratch. -/
theorem inv_in (c : Dev nD) : (Pipeline.ΦA spec0 c : sProp 𝕄) ⊢ (dats m 0 c).Φ 0 := by
  rw [PhiA0_eq, show (dats m 0 c).Φ 0 = inv m c 0 from rfl]
  unfold inv
  iintro ⟨⟨⟨%d0, HS0⟩, ⟨%d1, HS1⟩⟩, Hg⟩
  isplitl [HS0 HS1]
  · iexists d0, d1
    isplitr
    · ipureintro; exact fun t e h => absurd (by rw [e]) h
    isplitl [HS0]; · iexact HS0
    iexact HS1
  iexact Hg

/-- After the last point its contents are forgotten. -/
theorem inv_out (c : Dev nD) : (dats m 0 c).Φ (Fin.last cfg0.N) ⊢ (Pipeline.ΦA spec0 c : sProp 𝕄) := by
  rw [PhiA0_eq, show (dats m 0 c).Φ (Fin.last cfg0.N) = inv m c cfg0.N from rfl]
  unfold inv
  iintro ⟨⟨%d0, %d1, -, HS0, HS1⟩, Hg⟩
  isplitl [HS0 HS1]
  · isplitl [HS0]
    · iexists d0; iexact HS0
    iexists d1; iexact HS1
  iexact Hg

set_option backward.isDefEq.respectTransparency.types false in
theorem run_main_quiescent : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := inv_in m) (hout := inv_out m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.KernelIdeal.Gen

end
-- ==== Proof.NaTile.lean ====
/- What a grid point of the neighbourhood attention kernel reads, at a head, a row, a column and a key of its window. -/
module

public import proofs.«01_k».proof.Proof.NaBias
public import proofs.«01_k».proof.Proof.NaLaunch
public import Idealize.ShloMosaic.Lib.Claim

@[expose] public section

set_option maxRecDepth 16384

noncomputable section

namespace Cert.KernelIdeal.Gen

open Idealize.ShloMosaic Idealize.ShloMosaic.TcCoe Idealize.ShloMosaic.Tactic

variable (m : (ℓ : Loc nD τ sig) → Buf (Elt Ideal) ℓ)

/-- The row of the block that holds an image row, -/
def rowIn (r : Fin 128) : Fin 32 := ⟨r.val % 32, by omega⟩
/-- and a pixel of it in the block. -/
def pixIn (r : Fin 128) (c : Fin 64) : Fin 2048 := ⟨64 * (r.val % 32) + c.val, by omega⟩

/-- The window's first key, in words. -/
theorem off1_val : ∀ (t : Fin cfg0.N) (j : Fin 32),
    k0_off1 (grid0.coords t) (BitVec.ofNat 32 j.val) = ![64 * Cert.Na.rowStart (32 * (t.val % 4) + j.val), 0] :=
  (by decide +kernel : ∀ (t : Fin grid0.N) (j : Fin 32),
    k0_off1 (grid0.coords t) (BitVec.ofNat 32 j.val) = ![64 * Cert.Na.rowStart (32 * (t.val % 4) + j.val), 0])

/-- The bias table's first coordinate, in words. -/
theorem off2_val : ∀ (t : Fin cfg0.N) (j : Fin 32),
    k0_off2 (grid0.coords t) (BitVec.ofNat 32 j.val)
      = ![Cert.Na.rowStart (32 * (t.val % 4) + j.val) + 7 - (32 * (t.val % 4) + j.val), 0, 0, 0] :=
  (by decide +kernel : ∀ (t : Fin grid0.N) (j : Fin 32),
    k0_off2 (grid0.coords t) (BitVec.ofNat 32 j.val)
      = ![Cert.Na.rowStart (32 * (t.val % 4) + j.val) + 7 - (32 * (t.val % 4) + j.val), 0, 0, 0])

/-! ## Reads of the blocks -/

theorem row_ld (x : Vec Ideal S1x2048x128 .f32) (r : Fin 128) (c : Fin 64) (l : Fin 128) :
    View.ld x (rowRect (rowIn r)) (ix3 0 c l) = x (ix3 0 (pixIn r c) l) :=
  View.ld_unit_apply_of _ _ _ _ _ _ (fun a => match a with
    | ⟨0, _⟩ => rfl
    | ⟨1, _⟩ => rfl
    | ⟨2, _⟩ => (Nat.zero_add _).symm)

theorem kv_ld (x : Vec Ideal S8192x128 .bf16) (t : Fin cfg0.N) (r : Fin 128) (hr : t.val % 4 = r.val / 32) (j : Fin 8) (k : Fin 64) (l : Fin 128) :
    View.ld x (kvRect (grid0.coords t) (rowIn r)) (ix2 (flat j k) l) = x (ix2 (Cert.Na.key r j k) l) := by
  have e : 32 * (t.val % 4) + (rowIn r).val = r.val := by simp only [rowIn]; omega
  have o := off1_val t (rowIn r)
  rw [e] at o
  refine View.ld_unit_apply_of _ _ _ _ _ _ (fun a => Eq.trans ?_ (congrArg (· + _) (congrFun o a).symm))
  match a with
  | ⟨0, _⟩ => show 64 * (Cert.Na.rowStart r.val + j.val) + k.val = 64 * Cert.Na.rowStart r.val + (64 * j.val + k.val); omega
  | ⟨1, _⟩ => exact (Nat.zero_add _).symm

/-- The bias table's first coordinate of a row. -/
def rowOff (r : Fin 128) : Fin 8 := ⟨Cert.Na.rowStart r.val + 7 - r.val, by unfold Cert.Na.rowStart; omega⟩

theorem bias_ld (x : Vec Ideal S8x1x128x512 .f32) (t : Fin cfg0.N) (r : Fin 128) (hr : t.val % 4 = r.val / 32) (a : Fin 128) (κ : Fin 512) :
    View.ld x (biasRect (grid0.coords t) (rowIn r)) (ix4 0 0 a κ) = x (ix4 (rowOff r) 0 a κ) := by
  have e : 32 * (t.val % 4) + (rowIn r).val = r.val := by simp only [rowIn]; omega
  have o := off2_val t (rowIn r)
  rw [e] at o
  refine View.ld_unit_apply_of _ _ _ _ _ _ (fun a => Eq.trans ?_ (congrArg (· + _) (congrFun o a).symm))
  match a with
  | ⟨0, _⟩ => rfl
  | ⟨1, _⟩ => rfl
  | ⟨2, _⟩ => exact (Nat.zero_add _).symm
  | ⟨3, _⟩ => exact (Nat.zero_add _).symm

variable (dev : Dev nD) (t : Fin cfg0.N) (b : Fin 8) (h : Fin 4) (r : Fin 128) (hb : t.val / 8 = b.val)
  (hh : t.val / 4 % 2 = h.val / 2) (hr : t.val % 4 = r.val / 32)

/-- The projections, and the position biases. -/
abbrev projOf (dev : Dev nD) : Vec Ideal S8x8192x3456 .f32 := m ((dev : Thread nD τ).loc main_arg0)
abbrev rpbOf (dev : Dev nD) : Vec Ideal S4x15x31 .f32 := m ((dev : Thread nD τ).loc main_arg1)

include hb hh hr

/-- A query. -/
theorem q_read (c d : Fin 64) :
    qBlk m dev t (ix3 0 (pixIn r c) (half (inPair h) d)) = projOf m dev (ix3 b (Cert.Na.pix r c) (Cert.Na.lane 0 h d)) := by
  have := h.isLt
  rw [projOf, ← V_main_arg0 m dev]
  blk_ext [qBlk, iblk, idx t, pixIn, half, inPair, Cert.Na.pix, Cert.Na.lane]

/-- A key, -/
theorem k_read (j : Fin 8) (k d : Fin 64) :
    k0_pay2 (kBlk m dev t) (ix2 (Cert.Na.key r j k) (half (inPair h) d))
      = projOf m dev (ix3 b (Cert.Na.key r j k) (Cert.Na.lane 1 h d)) := by
  have := h.isLt
  generalize Cert.Na.key r j k = n
  pointwise [k0_pay2]
  rw [projOf, ← V_main_arg0 m dev]
  blk_ext [kBlk, iblk, idx t, half, inPair, Cert.Na.lane]

/-- a value, -/
theorem v_read (j : Fin 8) (k d : Fin 64) :
    k0_pay3 (vBlk m dev t) (ix2 (Cert.Na.key r j k) (half (inPair h) d))
      = projOf m dev (ix3 b (Cert.Na.key r j k) (Cert.Na.lane 2 h d)) := by
  have := h.isLt
  generalize Cert.Na.key r j k = n
  pointwise [k0_pay3]
  rw [projOf, ← V_main_arg0 m dev]
  blk_ext [vBlk, iblk, idx t, half, inPair, Cert.Na.lane]

/-- and a bias. -/
theorem b_read (c : Fin 64) (j : Fin 8) (k : Fin 64) :
    bBlk m dev t (ix4 (rowOff r) 0 (half (inPair h) c) (flat j k)) = Cert.Na.bias (rpbOf m dev) h r c j k := by
  have := h.isLt
  have e : bBlk m dev t (ix4 (rowOff r) 0 (half (inPair h) c) (flat j k))
      = V m dev main_v59 (ix4 (rowOff r) (pairOf h) (half (inPair h) c) (flat j k)) := by
    generalize half (inPair h) c = a
    generalize flat j k = κ
    generalize rowOff r = o
    blk_ext [bBlk, iblk, idx t, pairOf]
  rw [e, V59, kTab_apply]
  unfold Cert.Na.bias
  have q : (⟨(rowOff r).val + j.val, by omega⟩ : Fin 15) = Cert.Na.biasRow r j := by
    apply Fin.ext
    simp only [rowOff, Cert.Na.biasRow, Cert.Na.rowStart]
    omega
  rw [q]

end Cert.KernelIdeal.Gen
-- ==== Proof.NaFinal.lean ====
/- The neighbourhood attention kernel's output block is the attention of the pixels and heads it holds. -/
module

public import proofs.«01_k».proof.Proof.NaTile

@[expose] public section

set_option maxRecDepth 16384

noncomputable section

namespace Cert.KernelIdeal.Gen

open Idealize.ShloMosaic Idealize.ShloMosaic.TcCoe Idealize.ShloMosaic.Tactic
open Cert.Na (Real' pix lane key score out)

/-! ## The 512 keys as rows and columns -/

/-- Rows and columns of the window against its keys. -/
def flatEquiv : Fin 8 × Fin 64 ≃ Fin 512 where
  toFun x := flat x.1 x.2
  invFun κ := (⟨κ.val / 64, by omega⟩, ⟨κ.val % 64, by omega⟩)
  left_inv x := by
    refine Prod.ext (Fin.ext ?_) (Fin.ext ?_)
    · show (64 * x.1.val + x.2.val) / 64 = x.1.val; omega
    · show (64 * x.1.val + x.2.val) % 64 = x.2.val; omega
  right_inv κ := Fin.ext (by show 64 * (κ.val / 64) + κ.val % 64 = κ.val; omega)

theorem sum_flat (f : Fin 512 → EReal) : ∑ κ, f κ = ∑ x : Fin 8 × Fin 64, f (flat x.1 x.2) :=
  (Equiv.sum_comp flatEquiv f).symm

theorem sup_flat (f : Fin 512 → EReal) : Finset.univ.sup f = Finset.univ.sup fun x : Fin 8 × Fin 64 => f (flat x.1 x.2) := by
  apply le_antisymm
  · refine Finset.sup_le fun κ _ => ?_
    have e : f κ = f (flat (flatEquiv.symm κ).1 (flatEquiv.symm κ).2) := congrArg f (flatEquiv.apply_symm_apply κ).symm
    rw [e]
    exact Finset.le_sup (f := fun x : Fin 8 × Fin 64 => f (flat x.1 x.2)) (Finset.mem_univ _)
  · exact Finset.sup_le fun x _ => Finset.le_sup (Finset.mem_univ _)

/-! ## The constants -/

theorem eighth : Ideal.ofBits .f32 0x3E000000#32 = (((1 : ℝ) / 8 : ℝ) : EReal) := by
  simp [Ideal.ofBits, Ideal.ieee, -EReal.coe_mul]
  norm_num

theorem real'_far : Real' (Ideal.ofBits .f32 0xF149F2CA#32) := by
  simp only [Real', Ideal.ofBits, Ideal.ieee]
  norm_num
  exact ⟨_, rfl⟩

/-! ## Scores of finite inputs are finite -/

theorem real'_score (P : Vec Ideal S8x8192x3456 .f32) (R : Vec Ideal S4x15x31 .f32) (hP : ∀ i, Real' (P i)) (hR : ∀ i, Real' (R i))
    (b : Fin 8) (h : Fin 4) (r : Fin 128) (c : Fin 64) (j : Fin 8) (k : Fin 64) : Real' (score P R b h r c j k) := by
  unfold score Cert.Na.bias
  refine Real'.add (Real'.mul (Cert.Na.real'_sum _ _ fun d => (hP _).mul (hP _)) ⟨_, eighth⟩) ?_
  split
  · exact hR _
  · exact real'_far

variable (m : (ℓ : Loc nD τ sig) → Buf (Elt Ideal) ℓ)
variable (dev : Dev nD) (t : Fin cfg0.N) (b : Fin 8) (h : Fin 4) (r : Fin 128) (hb : t.val / 8 = b.val)
  (hh : t.val / 4 % 2 = h.val / 2) (hr : t.val % 4 = r.val / 32)

include hb hh hr

/-- The row's score against a key. -/
theorem score_eq (c : Fin 64) (j : Fin 8) (k : Fin 64) :
    headScore (View.ld (Val := Elt Ideal) (e' := .f32) (qBlk m dev t) (rowRect (rowIn r)))
        (View.ld (Val := Elt Ideal) (e' := .bf16) (k0_pay2 (F := Ideal) (kBlk m dev t)) (kvRect (grid0.coords t) (rowIn r)))
        (View.ld (Val := Elt Ideal) (e' := .f32) (bBlk m dev t) (biasRect (grid0.coords t) (rowIn r))) (inPair h) c (flat j k)
      = score (projOf m dev) (rpbOf m dev) b h r c j k := by
  unfold headScore score
  rw [bias_ld _ t r hr, b_read m dev t b h r hb hh hr, eighth, Cert.Na.sum_mul_coe _ _ _ (by norm_num)]
  refine congrArg (· + _) (Finset.sum_congr rfl fun d _ => ?_)
  rw [row_ld, kv_ld _ t r hr, q_read m dev t b h r hb hh hr, k_read m dev t b h r hb hh hr, mul_right_comm]

/-- The output block at a pixel and a lane. -/
theorem outBlk_apply (hP : ∀ i, Real' (projOf m dev i)) (hR : ∀ i, Real' (rpbOf m dev i)) (c d : Fin 64) :
    outBlk m dev t (ix3 0 (pixIn r c) (half (inPair h) d)) = out (projOf m dev) (rpbOf m dev) b h r c d := by
  have e1 : rowIx (ix3 0 (pixIn r c) (half (inPair h) d)) = rowIn r := Fin.ext (by
    show (64 * (r.val % 32) + c.val) / 64 = r.val % 32
    omega)
  have e2 : rowPx (ix3 0 (pixIn r c) (half (inPair h) d)) = ix3 0 c (half (inPair h) d) := by
    funext a
    match a with
    | ⟨0, _⟩ => rfl
    | ⟨1, _⟩ => exact Fin.ext (show (64 * (r.val % 32) + c.val) % 64 = c.val by omega)
    | ⟨2, _⟩ => rfl
  have hv : ∀ x : Fin 8 × Fin 64,
      View.ld (Val := Elt Ideal) (e' := .bf16) (k0_pay3 (F := Ideal) (vBlk m dev t)) (kvRect (grid0.coords t) (rowIn r))
        (ix2 (flat x.1 x.2) (half (inPair h) d)) = projOf m dev (ix3 b (key r x.1 x.2) (lane 2 h d)) := fun x =>
    (kv_ld _ t r hr x.1 x.2 _).trans (v_read m dev t b h r hb hh hr x.1 x.2 d)
  unfold outBlk naOut
  rw [e1, e2]
  unfold rowAt
  rw [rowOut_apply, sup_flat, sum_flat, sum_flat]
  simp only [score_eq m dev t b h r hb hh hr, hv]
  rw [Cert.Na.softmax_div (fun x : Fin 8 × Fin 64 => score (projOf m dev) (rpbOf m dev) b h r c x.1 x.2)
    (fun x => projOf m dev (ix3 b (key r x.1 x.2) (lane 2 h d))) (fun x => real'_score _ _ hP hR b h r c x.1 x.2)]
  simp only [out, Cert.Na.total, Cert.Na.weight, Cert.Na.top, Fintype.sum_prod_type]

end Cert.KernelIdeal.Gen
-- ==== Proof.NaArr.lean ====
/- The neighbourhood attention as one array over the positions of the sequence and the lanes of the heads. -/
module

public import proofs.«01_k».proof.Proof.NaSpec

@[expose] public section

set_option maxRecDepth 16384

noncomputable section

namespace Cert.Na

open Idealize.ShloMosaic

variable (P : (⟨3, ![8, 8192, 3456]⟩ : Shape).Idx → EReal) (R : (⟨3, ![4, 15, 31]⟩ : Shape).Idx → EReal)

/-- The lane of element `d` of head `h` in the result. -/
def outLane (h : Fin 4) (d : Fin 64) : Fin 256 := ⟨64 * h.val + d.val, by omega⟩

/-- The head and the element of a lane of the result, -/
def headOf (l : Fin 256) : Fin 4 := ⟨l.val / 64, by omega⟩
def elemOf (l : Fin 256) : Fin 64 := ⟨l.val % 64, by omega⟩
/-- and the row and the column of a position. -/
def rowOf (n : Fin 8192) : Fin 128 := ⟨n.val / 64, by omega⟩
def colOf (n : Fin 8192) : Fin 64 := ⟨n.val % 64, by omega⟩

theorem outLane_of (l : Fin 256) : outLane (headOf l) (elemOf l) = l := Fin.ext (by
  show 64 * (l.val / 64) + l.val % 64 = l.val; omega)
theorem pix_of (n : Fin 8192) : pix (rowOf n) (colOf n) = n := Fin.ext (by
  show 64 * (n.val / 64) + n.val % 64 = n.val; omega)

/-- The array. -/
def arr : (⟨3, ![8, 8192, 256]⟩ : Shape).Idx → EReal := fun i =>
  out P R (i 0) (headOf (i 2)) (rowOf (i 1)) (colOf (i 1)) (elemOf (i 2))

theorem arr_apply (b : Fin 8) (h : Fin 4) (r : Fin 128) (c d : Fin 64) : arr P R (ix3 b (pix r c) (outLane h d)) = out P R b h r c d := by
  have e1 : headOf (outLane h d) = h := Fin.ext (by show (64 * h.val + d.val) / 64 = h.val; omega)
  have e2 : elemOf (outLane h d) = d := Fin.ext (by show (64 * h.val + d.val) % 64 = d.val; omega)
  have e3 : rowOf (pix r c) = r := Fin.ext (by show (64 * r.val + c.val) / 64 = r.val; omega)
  have e4 : colOf (pix r c) = c := Fin.ext (by show (64 * r.val + c.val) % 64 = c.val; omega)
  show out P R b (headOf (outLane h d)) (rowOf (pix r c)) (colOf (pix r c)) (elemOf (outLane h d)) = _
  rw [e1, e2, e3, e4]

end Cert.Na
-- ==== Proof.NaOut.lean ====
/- The neighbourhood attention kernel's result array. -/
module

public import proofs.«01_k».proof.Proof.NaFinal
public import proofs.«01_k».proof.Proof.NaArr

@[expose] public section

set_option maxRecDepth 16384

noncomputable section

namespace Cert.KernelIdeal.Gen

open Idealize.ShloMosaic Idealize.ShloMosaic.TcCoe Idealize.ShloMosaic.Tactic
open Idealize.ShloMosaic.Pipeline (Dat)
open Cert.Na (Real')

variable (m : (ℓ : Loc nD τ sig) → Buf (Elt Ideal) ℓ)

/-- The block of a point at any index, and the place of the index in the array. -/
theorem outBlk_arr (dev : Dev nD) (t : Fin cfg0.N) (y : S1x2048x128.Idx)
    (hP : ∀ i, Real' (projOf m dev i)) (hR : ∀ i, Real' (rpbOf m dev i)) (i : S8x8192x256.Idx)
    (h0 : (i 0).val = t.val / 8) (h1 : (i 1).val = 2048 * (t.val % 4) + (y 1).val)
    (h2 : (i 2).val = 128 * (t.val / 4 % 2) + (y 2).val) :
    outBlk m dev t y = Cert.Na.arr (projOf m dev) (rpbOf m dev) i := by
  have y0 : (y 0).val < 1 := (y 0).isLt
  have y1 : (y 1).val < 2048 := (y 1).isLt
  have y2 : (y 2).val < 128 := (y 2).isLt
  have i0 : (i 0).val < 8 := (i 0).isLt
  have i1 : (i 1).val < 8192 := (i 1).isLt
  have i2 : (i 2).val < 256 := (i 2).isLt
  have ey : y = ix3 0 (pixIn (Cert.Na.rowOf (i 1)) (Cert.Na.colOf (i 1)))
      (half (inPair (Cert.Na.headOf (i 2))) (Cert.Na.elemOf (i 2))) := by
    funext a
    match a with
    | ⟨0, _⟩ => exact Fin.ext (show (y 0).val = 0 by omega)
    | ⟨1, _⟩ => exact Fin.ext (show (y 1).val = 64 * ((i 1).val / 64 % 32) + (i 1).val % 64 by omega)
    | ⟨2, _⟩ => exact Fin.ext (show (y 2).val = 64 * ((i 2).val / 64 % 2) + (i 2).val % 64 by omega)
  rw [ey]
  exact outBlk_apply m dev t (i 0) (Cert.Na.headOf (i 2)) (Cert.Na.rowOf (i 1)) h0.symm
    (by show _ = (i 2).val / 64 / 2; omega) (by show _ = (i 1).val / 64 / 32; omega) hP hR _ _

/-- The result array after the run. -/
theorem final (dev : Dev nD) (hP : ∀ i, Real' (projOf m dev i)) (hR : ∀ i, Real' (rpbOf m dev i)) :
    (dats m 0 dev).arrAt 4 (cfgs 0).N = Cert.Na.arr (projOf m dev) (rpbOf m dev) := by
  refine (dats m 0 dev).arrAt_eq_of_covers 4 _ (by decide +kernel) fun t _ y => ?_
  blk_simp
  rw [after0_4]
  refine outBlk_arr m dev t y hP hR _ ?_ ?_ ?_
  all_goals
    blk_simp [idx t]
    try (idx_bounds y; omega)

end Cert.KernelIdeal.Gen
-- ==== Proof.NaRefIdx.lean ====
/- The reference's index arrays and the elements its gathers take. -/
module

public import proofs.«01_k».proof.Proof.Gen.ReferenceIdeal.Read
public import proofs.«01_k».proof.Proof.NaArr

@[expose] public section

set_option maxRecDepth 16384

noncomputable section

namespace Cert.ReferenceIdeal.Read

open Idealize.ShloMosaic Idealize.ShloMosaic.TcCoe Idealize.ShloMosaic.Tactic

/-! ## The words -/

theorem row_word (r : Fin 128) (j : Fin 8) :
    IntOp.addi (IntOp.minsi (120#32) (IntOp.maxsi (0#32) (IntOp.subi (BitVec.ofNat 32 r.val) 4#32))) (BitVec.ofNat 32 j.val)
      = BitVec.ofNat 32 (Cert.Na.rowStart r.val + j.val) := by
  revert r j
  decide +kernel

theorem rowDist_word (r : Fin 128) (j : Fin 8) :
    IntOp.addi (IntOp.subi (BitVec.ofNat 32 (Cert.Na.rowStart r.val + j.val)) (BitVec.ofNat 32 r.val)) 7#32
      = BitVec.ofNat 32 (Cert.Na.biasRow r j).val := by
  revert r j
  decide +kernel

theorem band_word (c k : Fin 64) :
    IntOp.andi
        (IntOp.cmpi CmpIPredicate.sge (BitVec.ofNat 32 k.val)
          (IntOp.minsi (48#32) (IntOp.maxsi (0#32) (IntOp.subi (BitVec.ofNat 32 c.val) 8#32))))
        (IntOp.cmpi CmpIPredicate.slt (BitVec.ofNat 32 k.val)
          (IntOp.addi (IntOp.minsi (48#32) (IntOp.maxsi (0#32) (IntOp.subi (BitVec.ofNat 32 c.val) 8#32))) 16#32))
      = if Cert.Na.colStart c.val ≤ k.val ∧ k.val < Cert.Na.colStart c.val + 16 then 1#1 else 0#1 := by
  revert c k
  decide +kernel

theorem dist_word (c k : Fin 64) :
    IntOp.addi
          (IntOp.minsi (15#32) (IntOp.maxsi (4294967281#32) (IntOp.subi (BitVec.ofNat 32 k.val) (BitVec.ofNat 32 c.val))))
          15#32
      = BitVec.ofNat 32 (Cert.Na.biasCol c k).val := by
  revert c k
  decide +kernel

/-- A small index is not negative: the reference's wrap of negative indices leaves it. -/
theorem wrap_word (n : Fin 128) (x : BitVec 32) :
    Scalar.select (IntOp.cmpi CmpIPredicate.slt (BitVec.ofNat 32 n.val) 0#32) x (BitVec.ofNat 32 n.val)
      = BitVec.ofNat 32 n.val := by
  have h : IntOp.cmpi CmpIPredicate.slt (BitVec.ofNat 32 n.val) 0#32 = 0#1 := by revert n; decide +kernel
  rw [h]; rfl

theorem toInt_word (n : Fin 128) : (BitVec.ofNat 32 n.val).toInt.toNat = n.val := by
  revert n; decide +kernel

/-! ## The index arrays -/

theorem v16_ix (r : Fin 128) (j : Fin 8) :
    val_main_v16 (F := Ideal) (ix2 r j) = BitVec.ofNat 32 (Cert.Na.rowStart r.val + j.val) := by
  refine Eq.trans ?_ (row_word r j)
  simp only [val_main_v16_apply, val_main_v15_apply, val_main_v14_apply, val_main_v13_apply, val_main_v12_apply,
    val_main_v11_apply, val_main_v10_apply, val_main_call0_v4_apply, val_main_call0_v3_apply, val_main_call0_v2_apply,
    val_main_call0_v1_apply, val_main_call0_v0_apply, val_main_c_0_apply, val_main_c_1_apply, val_main_v9_apply,
    val_main_v8_apply, val_main_c_apply, val_main_v7_apply]
  rfl

theorem rowStart_add (r : Fin 128) (j : Fin 8) : Cert.Na.rowStart r.val + j.val < 128 := by
  have := Cert.Na.rowStart_le r.val; omega

theorem v23_ix (r : Fin 128) (j : Fin 8) :
    val_main_v23 (F := Ideal) (ix3 r j 0) = BitVec.ofNat 32 (Cert.Na.rowStart r.val + j.val) := by
  have e : idx_main_v23 (ix3 r j 0) = ix2 r j := funext fun a => match a with | ⟨0, _⟩ => rfl | ⟨1, _⟩ => rfl
  simp only [val_main_v23_apply, e, val_main_v22_apply, val_main_v21_apply, val_main_v20_apply, val_main_v19_apply,
    val_main_v18_apply, val_main_c_2_apply, v16_ix]
  exact wrap_word ⟨_, rowStart_add r j⟩ _

theorem v31_ix (r : Fin 128) (j : Fin 8) :
    val_main_v31 (F := Ideal) (ix3 r j 0) = BitVec.ofNat 32 (Cert.Na.rowStart r.val + j.val) := by
  have e : idx_main_v31 (ix3 r j 0) = ix2 r j := funext fun a => match a with | ⟨0, _⟩ => rfl | ⟨1, _⟩ => rfl
  simp only [val_main_v31_apply, e, val_main_v30_apply, val_main_v29_apply, val_main_v28_apply, val_main_v27_apply,
    val_main_v26_apply, val_main_c_4_apply, v16_ix]
  exact wrap_word ⟨_, rowStart_add r j⟩ _

theorem v49_ix (c k : Fin 64) : val_main_v49 (F := Ideal) (ix2 c k)
    = if Cert.Na.colStart c.val ≤ k.val ∧ k.val < Cert.Na.colStart c.val + 16 then 1#1 else 0#1 := by
  refine Eq.trans ?_ (band_word c k)
  simp only [val_main_v49_apply, val_main_v48_apply, val_main_v47_apply, val_main_v46_apply, val_main_v45_apply,
    val_main_v44_apply, val_main_c_9_apply, val_main_v43_apply, val_main_v42_apply, val_main_v41_apply, val_main_v40_apply,
    val_main_v39_apply, val_main_v38_apply, val_main_v37_apply, val_main_v36_apply, val_main_call1_v4_apply,
    val_main_call1_v3_apply, val_main_call1_v2_apply, val_main_call1_v1_apply, val_main_call1_v0_apply, val_main_c_7_apply,
    val_main_c_8_apply, val_main_v35_apply, val_main_v34_apply, val_main_c_6_apply, val_main_v33_apply]
  rfl

theorem v54_ix (r : Fin 128) (j : Fin 8) :
    val_main_v54 (F := Ideal) (ix2 r j) = BitVec.ofNat 32 (Cert.Na.biasRow r j).val := by
  refine Eq.trans ?_ (rowDist_word r j)
  simp only [val_main_v54_apply, val_main_v53_apply, val_main_c_10_apply, val_main_v52_apply, val_main_v51_apply,
    val_main_v50_apply, val_main_v7_apply, v16_ix]
  rfl

theorem v62_ix (c k : Fin 64) :
    val_main_v62 (F := Ideal) (ix2 c k) = BitVec.ofNat 32 (Cert.Na.biasCol c k).val := by
  refine Eq.trans ?_ (dist_word c k)
  simp only [val_main_v62_apply, val_main_v61_apply, val_main_c_13_apply, val_main_v60_apply, val_main_call2_v4_apply,
    val_main_call2_v3_apply, val_main_call2_v2_apply, val_main_call2_v1_apply, val_main_call2_v0_apply, val_main_c_11_apply,
    val_main_c_12_apply, val_main_v59_apply, val_main_v58_apply, val_main_v57_apply, val_main_v56_apply, val_main_v55_apply,
    val_main_v33_apply]
  rfl

theorem v77_ix (r : Fin 128) (c : Fin 64) (j : Fin 8) (k : Fin 64) :
    val_main_v77 (F := Ideal) (ix5 r c j k 0) = BitVec.ofNat 32 (Cert.Na.biasRow r j).val := by
  have e : idx_main_v63 (idx_main_v75 (idx_main_v77 (ix5 r c j k 0))) = ix2 r j :=
    funext fun a => match a with | ⟨0, _⟩ => rfl | ⟨1, _⟩ => rfl
  simp only [val_main_v77_apply, val_main_v75_apply, val_main_v69_apply, val_main_v68_apply, val_main_v66_apply,
    val_main_v65_apply, val_main_c_14_apply, val_main_v63_apply, e, v54_ix]
  exact wrap_word ⟨(Cert.Na.biasRow r j).val, by omega⟩ _

theorem v78_ix (r : Fin 128) (c : Fin 64) (j : Fin 8) (k : Fin 64) :
    val_main_v78 (F := Ideal) (ix5 r c j k 0) = BitVec.ofNat 32 (Cert.Na.biasCol c k).val := by
  have e : idx_main_v64 (idx_main_v76 (idx_main_v78 (ix5 r c j k 0))) = ix2 c k :=
    funext fun a => match a with | ⟨0, _⟩ => rfl | ⟨1, _⟩ => rfl
  simp only [val_main_v78_apply, val_main_v76_apply, val_main_v74_apply, val_main_v73_apply, val_main_v71_apply,
    val_main_v70_apply, val_main_c_16_apply, val_main_v64_apply, e, v62_ix]
  exact wrap_word ⟨(Cert.Na.biasCol c k).val, by omega⟩ _

theorem v79_ix0 (r : Fin 128) (c : Fin 64) (j : Fin 8) (k : Fin 64) :
    val_main_v79 (F := Ideal) (ix5 r c j k 0) = BitVec.ofNat 32 (Cert.Na.biasRow r j).val := by
  rw [← v77_ix r c j k]
  pointwise [val_main_v79]

theorem v79_ix1 (r : Fin 128) (c : Fin 64) (j : Fin 8) (k : Fin 64) :
    val_main_v79 (F := Ideal) (ix5 r c j k 1) = BitVec.ofNat 32 (Cert.Na.biasCol c k).val := by
  rw [← v78_ix r c j k]
  pointwise [val_main_v79]

/-! ## The gathers -/

/-- The gather of whole rows: axis 1 of the operand is read at the start index of `(r, j)`. -/
theorem gather_rows (x : S8x128x64x4x64.Idx → EReal) (s : IVec S128x8x1 32) (b : Fin 8) (r : Fin 128) (j : Fin 8)
    (k : Fin 64) (h : Fin 4) (d : Fin 64) :
    Host.gather gather_S8x128x64x4x64_S128x8x1_S8x128x8x64x4x64_0345_1_n_n_1_2_8164464 x s (ix6 b r j k h d)
      = x (ix5 b ⟨min (s (ix3 r j 0)).toInt.toNat 127, by omega⟩ k h d) := by
  generalize hD : gather_S8x128x64x4x64_S128x8x1_S8x128x8x64x4x64_0345_1_n_n_1_2_8164464 = D
  unfold Host.gather
  congr 1
  funext a
  refine Fin.ext ?_
  show D.start (ix6 b r j k h d) s a + D.batchCoord (ix6 b r j k h d) a + D.offCoord (ix6 b r j k h d) a = _
  subst hD
  rw [GatherDims.batchCoord_eq_zero _ _ _ List.not_mem_nil]
  match a with
  | ⟨0, _⟩ => exact (Nat.zero_add _).trans rfl
  | ⟨1, _⟩ =>
    have hsi : gather_S8x128x64x4x64_S128x8x1_S8x128x8x64x4x64_0345_1_n_n_1_2_8164464.siIdx (ix6 b r j k h d)
        ⟨0, by decide⟩ = ix3 r j 0 := by
      funext b; refine Fin.ext ?_
      match b with
      | ⟨0, _⟩ => rfl
      | ⟨1, _⟩ => rfl
      | ⟨2, _⟩ => rfl
    exact Eq.trans rfl (congrArg (fun i => min (s i).toInt.toNat 127) hsi)
  | ⟨2, _⟩ => exact (Nat.zero_add _).trans rfl
  | ⟨3, _⟩ => exact (Nat.zero_add _).trans rfl
  | ⟨4, _⟩ => exact (Nat.zero_add _).trans rfl

/-- The gather of the bias: axes 1 and 2 of the operand are read at the two start indices of `(r, c, j, k)`. -/
theorem gather_bias (x : S4x15x31.Idx → EReal) (s : IVec S128x64x8x64x2 32) (h : Fin 4) (r : Fin 128) (c : Fin 64)
    (j : Fin 8) (k : Fin 64) :
    Host.gather gather_S4x15x31_S128x64x8x64x2_S4x128x64x8x64_0_12_n_n_12_4_411 x s (ix5 h r c j k)
      = x (ix3 h ⟨min (s (ix5 r c j k 0)).toInt.toNat 14, by omega⟩ ⟨min (s (ix5 r c j k 1)).toInt.toNat 30, by omega⟩) := by
  generalize hD : gather_S4x15x31_S128x64x8x64x2_S4x128x64x8x64_0_12_n_n_12_4_411 = D
  unfold Host.gather
  congr 1
  funext a
  refine Fin.ext ?_
  show D.start (ix5 h r c j k) s a + D.batchCoord (ix5 h r c j k) a + D.offCoord (ix5 h r c j k) a = _
  subst hD
  rw [GatherDims.batchCoord_eq_zero _ _ _ List.not_mem_nil]
  match a with
  | ⟨0, _⟩ => exact (Nat.zero_add _).trans rfl
  | ⟨1, _⟩ =>
    have hsi : gather_S4x15x31_S128x64x8x64x2_S4x128x64x8x64_0_12_n_n_12_4_411.siIdx (ix5 h r c j k)
        ⟨0, by decide⟩ = ix5 r c j k 0 := by
      funext b; refine Fin.ext ?_
      match b with
      | ⟨0, _⟩ => rfl
      | ⟨1, _⟩ => rfl
      | ⟨2, _⟩ => rfl
      | ⟨3, _⟩ => rfl
      | ⟨4, _⟩ => rfl
    exact Eq.trans rfl (congrArg (fun i => min (s i).toInt.toNat 14) hsi)
  | ⟨2, _⟩ =>
    have hsi : gather_S4x15x31_S128x64x8x64x2_S4x128x64x8x64_0_12_n_n_12_4_411.siIdx (ix5 h r c j k)
        ⟨1, by decide⟩ = ix5 r c j k 1 := by
      funext b; refine Fin.ext ?_
      match b with
      | ⟨0, _⟩ => rfl
      | ⟨1, _⟩ => rfl
      | ⟨2, _⟩ => rfl
      | ⟨3, _⟩ => rfl
      | ⟨4, _⟩ => rfl
    exact Eq.trans rfl (congrArg (fun i => min (s i).toInt.toNat 30) hsi)

end Cert.ReferenceIdeal.Read
-- ==== Proof.NaRef.lean ====
/- The reference's result is the neighbourhood attention. -/
module

public import proofs.«01_k».proof.Proof.NaRefIdx
public import proofs.«01_k».proof.Proof.Axes
public import Idealize.ShloMosaic.Lib.TwoAxisContraction

@[expose] public section

set_option maxRecDepth 16384

noncomputable section

namespace Cert.ReferenceIdeal.Read

open Idealize.ShloMosaic Idealize.ShloMosaic.TcCoe Idealize.ShloMosaic.Tactic

variable (P : S8x8192x3456.Idx → EReal) (R : S4x15x31.Idx → EReal)

/-! ## Queries, keys and values -/

theorem v83_ix (b : Fin 8) (r : Fin 128) (c : Fin 64) (h : Fin 4) (d : Fin 64) :
    val_main_v83 (F := Ideal) P (ix5 b r c h d) = P (ix3 b (Cert.Na.pix r c) (Cert.Na.lane 0 h d)) := by
  simp only [val_main_v83_apply, val_main_v4_apply, val_main_v1_apply, val_main_v0_apply]
  refine congrArg P (funext fun a => Fin.ext ?_)
  match a with
  | ⟨0, _⟩ => simp [Cert.Na.pix, Cert.Na.lane]; omega
  | ⟨1, _⟩ => simp [Cert.Na.pix, Cert.Na.lane]; omega
  | ⟨2, _⟩ => simp [Cert.Na.pix, Cert.Na.lane]; omega

theorem v17_ix (b : Fin 8) (r : Fin 128) (c : Fin 64) (h : Fin 4) (d : Fin 64) :
    val_main_v17 (F := Ideal) P (ix5 b r c h d) = P (ix3 b (Cert.Na.pix r c) (Cert.Na.lane 1 h d)) := by
  simp only [val_main_v17_apply, val_main_v5_apply, val_main_v2_apply, val_main_v0_apply]
  refine congrArg P (funext fun a => Fin.ext ?_)
  match a with
  | ⟨0, _⟩ => simp [Cert.Na.pix, Cert.Na.lane]; omega
  | ⟨1, _⟩ => simp [Cert.Na.pix, Cert.Na.lane]; omega
  | ⟨2, _⟩ => simp [Cert.Na.pix, Cert.Na.lane]; omega

theorem v25_ix (b : Fin 8) (r : Fin 128) (c : Fin 64) (h : Fin 4) (d : Fin 64) :
    val_main_v25 (F := Ideal) P (ix5 b r c h d) = P (ix3 b (Cert.Na.pix r c) (Cert.Na.lane 2 h d)) := by
  simp only [val_main_v25_apply, val_main_v6_apply, val_main_v3_apply, val_main_v0_apply]
  refine congrArg P (funext fun a => Fin.ext ?_)
  match a with
  | ⟨0, _⟩ => simp [Cert.Na.pix, Cert.Na.lane]; omega
  | ⟨1, _⟩ => simp [Cert.Na.pix, Cert.Na.lane]; omega
  | ⟨2, _⟩ => simp [Cert.Na.pix, Cert.Na.lane]; omega

/-- The row a gather reads, -/
theorem row_clamp (r : Fin 128) (j : Fin 8) {w : BitVec 32} (hw : w = BitVec.ofNat 32 (Cert.Na.rowStart r.val + j.val)) :
    (⟨min w.toInt.toNat 127, by omega⟩ : Fin 128) = ⟨Cert.Na.rowStart r.val + j.val, rowStart_add r j⟩ := by
  refine Fin.ext ?_
  show min w.toInt.toNat 127 = _
  rw [hw, toInt_word ⟨_, rowStart_add r j⟩]
  have := rowStart_add r j
  show min (Cert.Na.rowStart r.val + j.val) 127 = Cert.Na.rowStart r.val + j.val
  omega

theorem pix_row (r : Fin 128) (j : Fin 8) (k : Fin 64) :
    Cert.Na.pix ⟨Cert.Na.rowStart r.val + j.val, rowStart_add r j⟩ k = Cert.Na.key r j k := rfl

theorem v24_ix (b : Fin 8) (r : Fin 128) (j : Fin 8) (k : Fin 64) (h : Fin 4) (d : Fin 64) :
    val_main_v24 (F := Ideal) P (ix6 b r j k h d) = P (ix3 b (Cert.Na.key r j k) (Cert.Na.lane 1 h d)) := by
  unfold val_main_v24
  rw [gather_rows, row_clamp r j (v23_ix r j), v17_ix, pix_row]

theorem v32_ix (b : Fin 8) (r : Fin 128) (j : Fin 8) (k : Fin 64) (h : Fin 4) (d : Fin 64) :
    val_main_v32 (F := Ideal) P (ix6 b r j k h d) = P (ix3 b (Cert.Na.key r j k) (Cert.Na.lane 2 h d)) := by
  unfold val_main_v32
  rw [gather_rows, row_clamp r j (v31_ix r j), v25_ix, pix_row]

/-! ## The bias -/

theorem word_clamp {n : ℕ} (x : Fin (n + 1)) (hn : n < 128) {w : BitVec 32} (hw : w = BitVec.ofNat 32 x.val) :
    (⟨min w.toInt.toNat n, by omega⟩ : Fin (n + 1)) = x := by
  refine Fin.ext ?_
  show min w.toInt.toNat n = _
  rw [hw, toInt_word ⟨x.val, by omega⟩]
  show min x.val n = _
  omega

theorem v80_ix (h : Fin 4) (r : Fin 128) (c : Fin 64) (j : Fin 8) (k : Fin 64) :
    val_main_v80 (F := Ideal) R (ix5 h r c j k) = R (ix3 h (Cert.Na.biasRow r j) (Cert.Na.biasCol c k)) := by
  unfold val_main_v80
  rw [gather_bias, word_clamp (n := 14) (Cert.Na.biasRow r j) (by omega) (v79_ix0 r c j k),
    word_clamp (n := 30) (Cert.Na.biasCol c k) (by omega) (v79_ix1 r c j k)]

theorem v82_ix (h : Fin 4) (r : Fin 128) (c : Fin 64) (j : Fin 8) (k : Fin 64) :
    val_main_v82 (F := Ideal) R (ix5 h r c j k) = Cert.Na.bias R h r c j k := by
  have e : idx_main_v81 (idx_main_call3_v1 (ix5 h r c j k)) = ix2 c k :=
    funext fun a => match a with | ⟨0, _⟩ => rfl | ⟨1, _⟩ => rfl
  simp only [val_main_v82_apply, val_main_call3_v1_apply, val_main_v81_apply, e, v49_ix, v80_ix, val_main_call3_v2_apply,
    val_main_call3_v0_apply, val_main_cst_apply]
  unfold Cert.Na.bias
  split
  · rfl
  · rfl

/-! ## The scores -/

theorem v89_ix (b : Fin 8) (h : Fin 4) (r : Fin 128) (c : Fin 64) (j : Fin 8) (k : Fin 64) :
    val_main_v89 (F := Ideal) P R (ix6 b h r c j k) = Cert.Na.score P R b h r c j k := by
  have e : idx_main_v87 (idx_main_v88 (ix6 b h r c j k)) = ix5 h r c j k :=
    funext fun a => match a with | ⟨0, _⟩ => rfl | ⟨1, _⟩ => rfl | ⟨2, _⟩ => rfl | ⟨3, _⟩ => rfl | ⟨4, _⟩ => rfl
  have el (d : Fin 64) : lidx_main_v84 (ix6 b h r c j k) d = ix5 b r c h d :=
    funext fun a => match a with | ⟨0, _⟩ => rfl | ⟨1, _⟩ => rfl | ⟨2, _⟩ => rfl | ⟨3, _⟩ => rfl | ⟨4, _⟩ => rfl
  have er (d : Fin 64) : ridx_main_v84 (ix6 b h r c j k) d = ix6 b r j k h d :=
    funext fun a => match a with
      | ⟨0, _⟩ => rfl | ⟨1, _⟩ => rfl | ⟨2, _⟩ => rfl | ⟨3, _⟩ => rfl | ⟨4, _⟩ => rfl | ⟨5, _⟩ => rfl
  simp only [val_main_v89_apply, val_main_v88_apply, val_main_v87_apply, e, v82_ix, val_main_v86_apply, val_main_v84_apply,
    el, er, v83_ix, v24_ix, val_main_v85_apply, val_main_cst_18_apply]
  rfl

theorem ofBits_bot : Ideal.ofBits .f32 0xFF800000#32 = ⊥ := by simp [Ideal.ofBits, Ideal.ieee]

theorem v92_ix (b : Fin 8) (h : Fin 4) (r : Fin 128) (c : Fin 64) :
    val_main_v92 (F := Ideal) P R (ix4 b h r c) = Cert.Na.top P R b h r c := by
  have e : val_main_v90 (F := Ideal) P R (ix4 b h r c) = Cert.Na.top P R b h r c := by
    unfold val_main_v90
    refine (Cert.Axes.sup45 _ _ _ _ ofBits_bot b h r c).trans ?_
    unfold Cert.Na.top
    exact Finset.sup_congr rfl fun x _ => v89_ix P R b h r c x.1 x.2
  rw [val_main_v92_apply, e, val_main_v91_apply, val_main_cst_20_apply]
  show max (Ideal.ofBits .f32 0xFF800000#32) _ = _
  rw [ofBits_bot]
  exact max_eq_right bot_le

theorem v96_ix (b : Fin 8) (h : Fin 4) (r : Fin 128) (c : Fin 64) (j : Fin 8) (k : Fin 64) :
    val_main_v96 (F := Ideal) P R (ix6 b h r c j k) = Cert.Na.weight P R b h r c j k := by
  have e : idx_main_v93 (idx_main_v94 (ix6 b h r c j k)) = ix4 b h r c :=
    funext fun a => match a with | ⟨0, _⟩ => rfl | ⟨1, _⟩ => rfl | ⟨2, _⟩ => rfl | ⟨3, _⟩ => rfl
  simp only [val_main_v96_apply, val_main_v95_apply, val_main_v94_apply, val_main_v93_apply, e, v92_ix, v89_ix]
  rfl

theorem v97_ix (b : Fin 8) (h : Fin 4) (r : Fin 128) (c : Fin 64) :
    val_main_v97 (F := Ideal) P R (ix4 b h r c) = Cert.Na.total P R b h r c := by
  unfold val_main_v97
  refine (Cert.Axes.sum45 _ _ _ b h r c).trans ?_
  rw [val_main_cst_21_apply]
  show Ideal.ofBits .f32 0#32 + _ = _
  rw [show Ideal.ofBits .f32 0#32 = 0 by simp [Ideal.ofBits, Ideal.ieee], zero_add]
  unfold Cert.Na.total
  exact Finset.sum_congr rfl fun j _ => Finset.sum_congr rfl fun k _ => v96_ix P R b h r c j k

theorem v100_ix (b : Fin 8) (h : Fin 4) (r : Fin 128) (c : Fin 64) (j : Fin 8) (k : Fin 64) :
    val_main_v100 (F := Ideal) P R (ix6 b h r c j k)
      = Ideal.div (Cert.Na.weight P R b h r c j k) (Cert.Na.total P R b h r c) := by
  have e : idx_main_v98 (idx_main_v99 (ix6 b h r c j k)) = ix4 b h r c :=
    funext fun a => match a with | ⟨0, _⟩ => rfl | ⟨1, _⟩ => rfl | ⟨2, _⟩ => rfl | ⟨3, _⟩ => rfl
  simp only [val_main_v100_apply, val_main_v99_apply, val_main_v98_apply, e, v96_ix, v97_ix]
  rfl

/-! ## The weighted sum of the values -/

theorem v101_ix (b : Fin 8) (r : Fin 128) (h : Fin 4) (d : Fin 64) (c : Fin 64) :
    val_main_v101 (F := Ideal) P R (ix5 b r h d c) = Cert.Na.out P R b h r c d := by
  have key : val_main_v101 (F := Ideal) P R (ix5 b r h d c)
      = ∑ j : Fin 8, ∑ k : Fin 64, val_main_v32 (F := Ideal) P (ix6 b r j k h d) * val_main_v100 (F := Ideal) P R (ix6 b h r c j k) := by
    unfold val_main_v101
    generalize val_main_v32 (F := Ideal) P = L
    generalize val_main_v100 (F := Ideal) P R = Q
    simp only [Host.dotGeneral]
    have hr : dot_S8x128x8x64x4x64_S8x4x128x64x8x64_S8x128x4x64x64_23_45_5_3_014_021.contr.rank = 2 := rfl
    have c0 : dot_S8x128x8x64x4x64_S8x4x128x64x8x64_S8x128x4x64x64_23_45_5_3_014_021.contr.size ⟨0, by rw [hr]; omega⟩ = 8 := rfl
    have c1 : dot_S8x128x8x64x4x64_S8x4x128x64x8x64_S8x128x4x64x64_23_45_5_3_014_021.contr.size ⟨1, by rw [hr]; omega⟩ = 64 := rfl
    rw [Ideal.dotGeneral_apply,
      ← Equiv.sum_comp (ValueIdx.contrEquiv2 dot_S8x128x8x64x4x64_S8x4x128x64x8x64_S8x128x4x64x64_23_45_5_3_014_021 8 64 hr c0 c1).symm,
      Fintype.sum_prod_type]
    refine Finset.sum_congr rfl fun jj _ => Finset.sum_congr rfl fun kk _ => ?_
    have h0 := ValueIdx.contrEquiv2_symm_val0 dot_S8x128x8x64x4x64_S8x4x128x64x8x64_S8x128x4x64x64_23_45_5_3_014_021 8 64 hr c0 c1 (jj, kk)
    have h1 := ValueIdx.contrEquiv2_symm_val1 dot_S8x128x8x64x4x64_S8x4x128x64x8x64_S8x128x4x64x64_23_45_5_3_014_021 8 64 hr c0 c1 (jj, kk)
    congr 1
    · refine congrArg L (funext fun a => Fin.ext ?_)
      match a with
      | ⟨0, _⟩ => rfl
      | ⟨1, _⟩ => rfl
      | ⟨2, _⟩ => exact h0
      | ⟨3, _⟩ => exact h1
      | ⟨4, _⟩ => rfl
      | ⟨5, _⟩ => rfl
    · refine congrArg Q (funext fun a => Fin.ext ?_)
      match a with
      | ⟨0, _⟩ => rfl
      | ⟨1, _⟩ => rfl
      | ⟨2, _⟩ => rfl
      | ⟨3, _⟩ => rfl
      | ⟨4, _⟩ => exact h0
      | ⟨5, _⟩ => exact h1
  rw [key]
  unfold Cert.Na.out
  refine Finset.sum_congr rfl fun j _ => Finset.sum_congr rfl fun k _ => ?_
  rw [v32_ix, v100_ix, mul_comm]

/-- The reference's result. -/
theorem v104_arr : val_main_v104 (F := Ideal) P R = Cert.Na.arr P R := by
  funext i
  rw [val_main_v104_apply]
  show val_main_v103 (F := Ideal) P R i = _
  have i0 : (i 0).val < 8 := (i 0).isLt
  have i1 : (i 1).val < 8192 := (i 1).isLt
  have i2 : (i 2).val < 256 := (i 2).isLt
  have e : idx_main_v102 (idx_main_v103 i)
      = ix5 (i 0) (Cert.Na.rowOf (i 1)) (Cert.Na.headOf (i 2)) (Cert.Na.elemOf (i 2)) (Cert.Na.colOf (i 1)) := by
    refine funext fun a => Fin.ext ?_
    match a with
    | ⟨0, _⟩ => simp [Cert.Na.rowOf, Cert.Na.headOf, Cert.Na.elemOf, Cert.Na.colOf]; omega
    | ⟨1, _⟩ => simp [Cert.Na.rowOf, Cert.Na.headOf, Cert.Na.elemOf, Cert.Na.colOf]; omega
    | ⟨2, _⟩ => simp [Cert.Na.rowOf, Cert.Na.headOf, Cert.Na.elemOf, Cert.Na.colOf]; omega
    | ⟨3, _⟩ => simp [Cert.Na.rowOf, Cert.Na.headOf, Cert.Na.elemOf, Cert.Na.colOf]; omega
    | ⟨4, _⟩ => simp [Cert.Na.rowOf, Cert.Na.headOf, Cert.Na.elemOf, Cert.Na.colOf]; omega
  rw [val_main_v103_apply, val_main_v102_apply]
  exact (congrArg (val_main_v101 (F := Ideal) P R) e).trans (v101_ix P R _ _ _ _ _)

end Cert.ReferenceIdeal.Read
-- ==== Proof.NaPre.lean ====
/- What the precondition says: every projection and every bias is a real number. -/
module

public import proofs.«01_k».proof.Pre_finite
public import Idealize.ShloMosaic.Lib.ReduceAll
public import Idealize.ShloMosaic.PureOps.Ideal.Laws
public import proofs.«01_k».proof.Proof.NaSpec

@[expose] public section

set_option maxRecDepth 16384

noncomputable section

namespace Cert.Pre_finite

open Idealize.ShloMosaic

/-- The predicate's shape facts. -/
theorem facts : Facts where
  bcast_S_S8x8192x3456 := by decide
  reducesTo_S8x8192x3456_S_d0_1_2 := by decide
  h_S_ := by decide
  bcast_S_S4x15x31 := by decide
  reducesTo_S4x15x31_S_d0_1_2 := by decide

theorem ofBits_inf : Ideal.ofBits .f32 0x7F800000#32 = ⊤ := by simp [Ideal.ofBits, Ideal.ieee]

/-- An element whose absolute value is below `⊤` is a real number. -/
theorem real_of_abs {x : EReal} (h : Ideal.cmp .olt (max x (-x)) (Ideal.ofBits .f32 0x7F800000#32) = 1#1) : Cert.Na.Real' x := by
  rw [ofBits_inf] at h
  induction x with
  | bot => exact absurd h (by simp [Ideal.cmp])
  | coe r => exact ⟨r, rfl⟩
  | top => exact absurd h (by simp [Ideal.cmp])

variable [Facts]

theorem real_of_fn (P : FVec Ideal S8x8192x3456 .f32) (R : FVec Ideal S4x15x31 .f32)
    (h : fn (F := Ideal) P R = fun _ => 1#1) : (∀ i, Cert.Na.Real' (P i)) ∧ ∀ i, Cert.Na.Real' (R i) := by
  have h0 := congrFun h (Shape.Idx.first Facts.h_S_)
  dsimp only [fn] at h0
  obtain ⟨hP, hR⟩ := IntOp.andi_eq_one.1 h0
  have : Subsingleton S_.Idx := ⟨fun a b => funext fun i => i.elim0⟩
  exact ⟨fun i => real_of_abs (Host.reduce_andi_all _ _ _ _ _ hP i), fun i => real_of_abs (Host.reduce_andi_all _ _ _ _ _ hR i)⟩

end Cert.Pre_finite
-- ==== Proof.NormSpec.lean ====
/- The root mean square norm of a row and its products with a matrix, as sums over the row. -/
module

public import Idealize.ShloMosaic.Lib.Pointwise

@[expose] public section

noncomputable section

namespace Cert.Norm

open Idealize.ShloMosaic

/-- An entry of a row of 1024 after its norm: divided by the root of the mean square of the row, times a gain. -/
def normed (x g : Fin 1024 → EReal) (k : Fin 1024) : EReal :=
  x k * Ideal.rsqrt (Ideal.div (∑ j, x j * x j) (Ideal.ofBits FTy.f32 0x44800000#32) + Ideal.ofBits FTy.f32 0x358637BD#32) * g k

/-- The product of a row with a column. -/
def prod (h w : Fin 1024 → EReal) : EReal := ∑ k, h k * w k

/-- A row plus the outputs of its two experts, each times its gate. -/
def gated (x y0 y1 : Fin 1024 → EReal) (g0 g1 : EReal) (k : Fin 1024) : EReal :=
  x k + (g0 * y0 k + g1 * y1 k)

end Cert.Norm
-- ==== Proof.Proj.lean ====
/- The plain normed projection: what its kernel and its reference leave. -/
module

public import proofs.«01_k».proof.Proof.NormSpec
public import proofs.«01_k».proof.Proof.Gen.Kernel2Ideal.Value
public import proofs.«01_k».proof.Proof.Gen.Reference2Ideal.Read
public import Idealize.ShloMosaic.Lib.Pointwise
public import Idealize.ShloMosaic.Lib.Pipeline.ValueKit
public import Idealize.ShloMosaic.Lib.Claim

@[expose] public section

set_option maxRecDepth 16384

noncomputable section

namespace Cert.Reference2Ideal.Read

open Idealize.ShloMosaic Idealize.ShloMosaic.TcCoe Idealize.ShloMosaic.Tactic
open Cert.Norm

/-- The reference's projection of a row. -/
theorem ref_apply (x0 : Vec Ideal S65536x1024 .f32) (x1 : Vec Ideal S1024 .f32) (x2 : Vec Ideal S1024x3456 .f32) (r : Fin 65536) (c : Fin 3456) :
    val_main_v13 (F := Ideal) x0 x1 x2 (ix2 r c)
      = prod (normed (fun k => x0 (ix2 r k)) (fun k => x1 (ix1 k))) (fun k => x2 (ix2 k c)) := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

end Cert.Reference2Ideal.Read

namespace Cert.Kernel2Ideal.Gen

open Idealize.ShloMosaic Idealize.ShloMosaic.TcCoe Idealize.ShloMosaic.Tactic
open Idealize.ShloMosaic.Pipeline (Dat)
open Cert.Norm

/-- A block's product. -/
theorem pay1_apply (x : Vec Ideal S1024x1024 .f32) (g : Vec Ideal S1x1024 .f32) (w : Vec Ideal S1024x3456 .bf16) (r : Fin 1024) (c : Fin 3456) :
    k0_pay1 (F := Ideal) x g w (ix2 r c)
      = prod (normed (fun k => x (ix2 r k)) (fun k => g (ix2 0 k))) (fun k => w (ix2 k c)) := by
  pointwise [k0_pay1]
  rfl

variable (m : (ℓ : Loc nD τ sig) → Buf (Elt Ideal) ℓ)

/-- The arguments. -/
abbrev xOf (dev : Dev nD) : Vec Ideal S65536x1024 .f32 := m ((dev : Thread nD τ).loc main_arg0)
abbrev gOf (dev : Dev nD) : Vec Ideal S1024 .f32 := m ((dev : Thread nD τ).loc main_arg1)
abbrev wOf (dev : Dev nD) : Vec Ideal S1024x3456 .f32 := m ((dev : Thread nD τ).loc main_arg2)

/-- The host lays the gains out as a row, -/
theorem gain_entry (dev : Dev nD) : V m dev main_v0 = shapeCast S1x1024 (gOf m dev) shapeCasts_S1024_S1x1024 := by
  unfold V
  entry_read
  rfl

/-- and casts the weights. -/
theorem weight_entry (dev : Dev nD) : V m dev main_v1 = truncf (F := Ideal) .bf16 (wOf m dev) bitsLt_bf16_f32 := by
  unfold V
  entry_read
  rfl

/-- The block each window is at. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, win0_0.index t = ![t.val, 0] ∧ win0_1.index t = ![0, 0] ∧ win0_2.index t = ![0, 0] ∧ win0_3.index t = ![t.val, 0])

abbrev xBlk (dev : Dev nD) (t : Fin cfg0.N) : Vec Ideal S1024x1024 .f32 := iblk m dev 0 t
abbrev gBlk (dev : Dev nD) (t : Fin cfg0.N) : Vec Ideal S1x1024 .f32 := iblk m dev 1 t
abbrev wBlk (dev : Dev nD) (t : Fin cfg0.N) : Vec Ideal S1024x3456 .bf16 := iblk m dev 2 t

/-- A row of a block, -/
theorem x_read (dev : Dev nD) (t : Fin cfg0.N) (r : Fin 1024) (k : Fin 1024) (R : Fin 65536) (h : R.val = 1024 * t.val + r.val) :
    xBlk m dev t (ix2 r k) = xOf m dev (ix2 R k) := by
  rw [xOf, ← V_main_arg0 m dev]
  blk_ext [xBlk, iblk, idx t]

/-- the gains -/
theorem g_read (dev : Dev nD) (t : Fin cfg0.N) (k : Fin 1024) : gBlk m dev t (ix2 0 k) = gOf m dev (ix1 k) := by
  have e : gBlk m dev t (ix2 0 k) = V m dev main_v0 (ix2 0 k) := by
    blk_ext [gBlk, iblk, idx t]
  rw [e, gain_entry]
  pointwise

/-- and the weights. -/
theorem w_read (dev : Dev nD) (t : Fin cfg0.N) (k : Fin 1024) (c : Fin 3456) : wBlk m dev t (ix2 k c) = wOf m dev (ix2 k c) := by
  have e : wBlk m dev t (ix2 k c) = V m dev main_v1 (ix2 k c) := by
    blk_ext [wBlk, iblk, idx t]
  rw [e, weight_entry]
  pointwise

/-- What a point leaves at a place of its block. -/
theorem out_apply (dev : Dev nD) (t : Fin cfg0.N) (y : S1024x3456.Idx) (i : S65536x3456.Idx) (h0 : (i 0).val = 1024 * t.val + (y 0).val) (h1 : (i 1).val = (y 1).val) :
    out0_3 (xBlk m dev t) (gBlk m dev t) (wBlk m dev t) y
      = Cert.Reference2Ideal.Read.val_main_v13 (F := Ideal) (xOf m dev) (gOf m dev) (wOf m dev) i := by
  have hz0 : (![0, 0] : Fin S1024x1024.rank → Nat) = fun _ => 0 := funext fun a => by fin_cases a <;> rfl
  have hz1 : (![0, 0] : Fin S1x1024.rank → Nat) = fun _ => 0 := funext fun a => by fin_cases a <;> rfl
  have hz2 : (![0, 0] : Fin S1024x3456.rank → Nat) = fun _ => 0 := funext fun a => by fin_cases a <;> rfl
  have ey : y = ix2 (y 0) (y 1) := funext fun a => by fin_cases a <;> rfl
  have ei : i = ix2 (i 0) (y 1) := funext fun a => by
    match a with
    | ⟨0, _⟩ => rfl
    | ⟨1, _⟩ => exact Fin.ext h1
  rw [ey, ei]
  refine Eq.trans ?_ (Cert.Reference2Ideal.Read.ref_apply _ _ _ (i 0) (y 1)).symm
  unfold out0_3
  rw [View.canon_unit_zero hz2, View.ld_unit_zero hz0, View.ld_unit_zero hz1, View.ld_unit_zero hz2]
  refine (pay1_apply _ _ _ (y 0) (y 1)).trans ?_
  simp only [x_read m dev t (y 0) _ (i 0) h0, g_read]
  exact congrArg (prod _) (funext fun k => w_read m dev t k (y 1))

/-- The result array after the run is the reference's. -/
theorem final (dev : Dev nD) : (dats m 0 dev).arrAt 3 (cfgs 0).N
    = Cert.Reference2Ideal.Read.val_main_v13 (F := Ideal) (xOf m dev) (gOf m dev) (wOf m dev) := by
  refine (dats m 0 dev).arrAt_eq_of_covers 3 _ (by decide +kernel) fun t _ y => ?_
  blk_simp
  rw [after0_3]
  refine out_apply m dev t y _ ?_ ?_
  all_goals
    blk_simp [idx t]
    try (idx_bounds y; omega)

end Cert.Kernel2Ideal.Gen
-- ==== Proof.ProjMoe.lean ====
/- The normed projection of a row with its experts' outputs: what its kernel and its reference leave. -/
module

public import proofs.«01_k».proof.Proof.NormSpec
public import proofs.«01_k».proof.Proof.Gen.Kernel3Ideal.Value
public import proofs.«01_k».proof.Proof.Gen.Reference3Ideal.Read
public import Idealize.ShloMosaic.Lib.Pointwise
public import Idealize.ShloMosaic.Lib.Pipeline.ValueKit
public import Idealize.ShloMosaic.Lib.Claim

@[expose] public section

set_option maxRecDepth 16384

noncomputable section

namespace Cert.Reference3Ideal.Read

open Idealize.ShloMosaic Idealize.ShloMosaic.TcCoe Idealize.ShloMosaic.Tactic
open Cert.Norm

/-- The reference's row with its experts' outputs, -/
theorem sum_apply (x0 : Vec Ideal S65536x1024 .f32) (x1 x2 : Vec Ideal S65536x1024 .bf16) (x3 x4 : Vec Ideal S65536x1 .f32) (r : Fin 65536) (k : Fin 1024) :
    val_main_v7 (F := Ideal) x0 x1 x2 x3 x4 (ix2 r k) = gated (fun k => x0 (ix2 r k)) (fun k => x1 (ix2 r k)) (fun k => x2 (ix2 r k)) (x3 (ix2 r 0)) (x4 (ix2 r 0)) k := by
  pointwise [val_main_v7, val_main_v6, val_main_v5, val_main_v4, val_main_v3, val_main_v2, val_main_v1, val_main_v0]
  simp only [gated, mul_comm]

/-- and its projection. -/
theorem ref_apply (x0 : Vec Ideal S65536x1024 .f32) (x1 x2 : Vec Ideal S65536x1024 .bf16) (x3 x4 : Vec Ideal S65536x1 .f32) (x5 : Vec Ideal S1024 .f32) (x6 : Vec Ideal S1024x3456 .f32) (r : Fin 65536) (c : Fin 3456) :
    val_main_v21 (F := Ideal) x0 x1 x2 x3 x4 x5 x6 (ix2 r c)
      = prod (normed (gated (fun k => x0 (ix2 r k)) (fun k => x1 (ix2 r k)) (fun k => x2 (ix2 r k)) (x3 (ix2 r 0)) (x4 (ix2 r 0))) (fun k => x5 (ix1 k))) (fun k => x6 (ix2 k c)) := by
  have e := sum_apply x0 x1 x2 x3 x4 r
  pointwise [val_main_v21, val_main_v20, val_main_v19, val_main_v18, val_main_v17, val_main_v16, val_main_v15, val_main_v14, val_main_v13, val_main_v12, val_main_v11, val_main_v10, val_main_v9, val_main_v8, val_main_cst, val_main_cst_0, val_main_cst_1]
  simp only [e]
  rfl

end Cert.Reference3Ideal.Read

namespace Cert.Kernel3Ideal.Gen

open Idealize.ShloMosaic Idealize.ShloMosaic.TcCoe Idealize.ShloMosaic.Tactic
open Idealize.ShloMosaic.Pipeline (Dat)
open Cert.Norm

/-- A block's sum, -/
theorem pay1_apply (x : Vec Ideal S512x1024 .f32) (a : Vec Ideal S512x1 .f32) (y : Vec Ideal S512x1024 .bf16) (b : Vec Ideal S512x1 .f32) (z : Vec Ideal S512x1024 .bf16) (r : Fin 512) (k : Fin 1024) :
    k0_pay1 (F := Ideal) x a y b z (ix2 r k) = gated (fun k => x (ix2 r k)) (fun k => y (ix2 r k)) (fun k => z (ix2 r k)) (a (ix2 r 0)) (b (ix2 r 0)) k := by
  pointwise [k0_pay1]
  rfl

/-- and its product. -/
theorem pay2_apply (x : Vec Ideal S512x1024 .f32) (a : Vec Ideal S512x1 .f32) (y : Vec Ideal S512x1024 .bf16) (b : Vec Ideal S512x1 .f32) (z : Vec Ideal S512x1024 .bf16) (g : Vec Ideal S1x1024 .f32) (w : Vec Ideal S1024x3456 .bf16) (r : Fin 512) (c : Fin 3456) :
    k0_pay2 (F := Ideal) x a y b z g w (ix2 r c) = prod (normed (gated (fun k => x (ix2 r k)) (fun k => y (ix2 r k)) (fun k => z (ix2 r k)) (a (ix2 r 0)) (b (ix2 r 0))) (fun k => g (ix2 0 k))) (fun k => w (ix2 k c)) := by
  have e := pay1_apply x a y b z r
  pointwise [k0_pay2]
  simp only [e]
  rfl

variable (m : (ℓ : Loc nD τ sig) → Buf (Elt Ideal) ℓ)

/-- The arguments: the rows, the two experts' outputs, their gates, the gains and the weights. -/
abbrev xOf (dev : Dev nD) : Vec Ideal S65536x1024 .f32 := m ((dev : Thread nD τ).loc main_arg0)
abbrev y0Of (dev : Dev nD) : Vec Ideal S65536x1024 .bf16 := m ((dev : Thread nD τ).loc main_arg1)
abbrev y1Of (dev : Dev nD) : Vec Ideal S65536x1024 .bf16 := m ((dev : Thread nD τ).loc main_arg2)
abbrev g0Of (dev : Dev nD) : Vec Ideal S65536x1 .f32 := m ((dev : Thread nD τ).loc main_arg3)
abbrev g1Of (dev : Dev nD) : Vec Ideal S65536x1 .f32 := m ((dev : Thread nD τ).loc main_arg4)
abbrev gOf (dev : Dev nD) : Vec Ideal S1024 .f32 := m ((dev : Thread nD τ).loc main_arg5)
abbrev wOf (dev : Dev nD) : Vec Ideal S1024x3456 .f32 := m ((dev : Thread nD τ).loc main_arg6)

/-- The host lays the gains out as a row. -/
theorem gain_entry (dev : Dev nD) : V m dev main_v0 = shapeCast S1x1024 (gOf m dev) shapeCasts_S1024_S1x1024 := by
  unfold V
  entry_read
  rfl

/-- It casts the weights. -/
theorem weight_entry (dev : Dev nD) : V m dev main_v1 = truncf (F := Ideal) .bf16 (wOf m dev) bitsLt_bf16_f32 := by
  unfold V
  entry_read
  rfl

/-- The block each window is at. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![0, 0] ∧ win0_6.index t = ![0, 0] ∧ win0_7.index t = ![t.val, 0] ∧ win0_8.index t = ![t.val, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![0, 0] ∧ win0_6.index t = ![0, 0] ∧ win0_7.index t = ![t.val, 0] ∧ win0_8.index t = ![t.val, 0])

/-- The blocks of a point. -/
abbrev xBlk (dev : Dev nD) (t : Fin cfg0.N) : Vec Ideal S512x1024 .f32 := iblk m dev 0 t
abbrev y0Blk (dev : Dev nD) (t : Fin cfg0.N) : Vec Ideal S512x1024 .bf16 := iblk m dev 1 t
abbrev y1Blk (dev : Dev nD) (t : Fin cfg0.N) : Vec Ideal S512x1024 .bf16 := iblk m dev 2 t
abbrev g0Blk (dev : Dev nD) (t : Fin cfg0.N) : Vec Ideal S512x1 .f32 := iblk m dev 3 t
abbrev g1Blk (dev : Dev nD) (t : Fin cfg0.N) : Vec Ideal S512x1 .f32 := iblk m dev 4 t
abbrev gBlk (dev : Dev nD) (t : Fin cfg0.N) : Vec Ideal S1x1024 .f32 := iblk m dev 5 t
abbrev wBlk (dev : Dev nD) (t : Fin cfg0.N) : Vec Ideal S1024x3456 .bf16 := iblk m dev 6 t

section
variable (dev : Dev nD) (t : Fin cfg0.N) (r : Fin 512) (R : Fin 65536) (h : R.val = 512 * t.val + r.val)
include h

/-- A row of a block is a row of the array: -/
theorem x_read (k : Fin 1024) : xBlk m dev t (ix2 r k) = xOf m dev (ix2 R k) := by
  rw [xOf, ← V_main_arg0 m dev]
  blk_ext [xBlk, iblk, idx t]

theorem y0_read (k : Fin 1024) : y0Blk m dev t (ix2 r k) = y0Of m dev (ix2 R k) := by
  rw [y0Of, ← V_main_arg1 m dev]
  blk_ext [y0Blk, iblk, idx t]

theorem y1_read (k : Fin 1024) : y1Blk m dev t (ix2 r k) = y1Of m dev (ix2 R k) := by
  rw [y1Of, ← V_main_arg2 m dev]
  blk_ext [y1Blk, iblk, idx t]

theorem g0_read : g0Blk m dev t (ix2 r 0) = g0Of m dev (ix2 R 0) := by
  rw [g0Of, ← V_main_arg3 m dev]
  blk_ext [g0Blk, iblk, idx t]

theorem g1_read : g1Blk m dev t (ix2 r 0) = g1Of m dev (ix2 R 0) := by
  rw [g1Of, ← V_main_arg4 m dev]
  blk_ext [g1Blk, iblk, idx t]

/-- the sum of a row with its experts' outputs too. -/
theorem gated_read : gated (fun k => xBlk m dev t (ix2 r k)) (fun k => y0Blk m dev t (ix2 r k)) (fun k => y1Blk m dev t (ix2 r k))
      (g0Blk m dev t (ix2 r 0)) (g1Blk m dev t (ix2 r 0))
    = gated (fun k => xOf m dev (ix2 R k)) (fun k => y0Of m dev (ix2 R k)) (fun k => y1Of m dev (ix2 R k))
        (g0Of m dev (ix2 R 0)) (g1Of m dev (ix2 R 0)) := by
  simp only [x_read m dev t r R h, y0_read m dev t r R h, y1_read m dev t r R h, g0_read m dev t r R h, g1_read m dev t r R h]

end

/-- The gains' block is the gains. -/
theorem g_read (dev : Dev nD) (t : Fin cfg0.N) (k : Fin 1024) : gBlk m dev t (ix2 0 k) = gOf m dev (ix1 k) := by
  have e : gBlk m dev t (ix2 0 k) = V m dev main_v0 (ix2 0 k) := by
    blk_ext [gBlk, iblk, idx t]
  rw [e, gain_entry]
  pointwise

/-- The weights' block is the weights. -/
theorem w_read (dev : Dev nD) (t : Fin cfg0.N) (k : Fin 1024) (c : Fin 3456) : wBlk m dev t (ix2 k c) = wOf m dev (ix2 k c) := by
  have e : wBlk m dev t (ix2 k c) = V m dev main_v1 (ix2 k c) := by
    blk_ext [wBlk, iblk, idx t]
  rw [e, weight_entry]
  pointwise

/-- What a point leaves at a place of its block of sums, -/
theorem sum_apply (dev : Dev nD) (t : Fin cfg0.N) (y : S512x1024.Idx) (i : S65536x1024.Idx) (h0 : (i 0).val = 512 * t.val + (y 0).val) (h1 : (i 1).val = (y 1).val) :
    out0_8 (xBlk m dev t) (y0Blk m dev t) (y1Blk m dev t) (g0Blk m dev t) (g1Blk m dev t) (gBlk m dev t) (wBlk m dev t) y
      = Cert.Reference3Ideal.Read.val_main_v7 (F := Ideal) (xOf m dev) (y0Of m dev) (y1Of m dev) (g0Of m dev) (g1Of m dev) i := by
  have hz0 : (![0, 0] : Fin S512x1024.rank → Nat) = fun _ => 0 := funext fun a => by fin_cases a <;> rfl
  have hz1 : (![0, 0] : Fin S512x1.rank → Nat) = fun _ => 0 := funext fun a => by fin_cases a <;> rfl
  have hz2 : (![0, 0] : Fin S1x1024.rank → Nat) = fun _ => 0 := funext fun a => by fin_cases a <;> rfl
  have ey : y = ix2 (y 0) (y 1) := funext fun a => by fin_cases a <;> rfl
  have ei : i = ix2 (i 0) (y 1) := funext fun a => by
    match a with
    | ⟨0, _⟩ => rfl
    | ⟨1, _⟩ => exact Fin.ext h1
  rw [ey, ei]
  refine Eq.trans ?_ (Cert.Reference3Ideal.Read.sum_apply _ _ _ _ _ (i 0) (y 1)).symm
  unfold out0_8
  rw [View.canon_unit_zero hz0, View.ld_unit_zero hz0, View.ld_unit_zero hz0, View.ld_unit_zero hz0, View.ld_unit_zero hz1, View.ld_unit_zero hz1]
  refine (pay1_apply _ _ _ _ _ (y 0) (y 1)).trans ?_
  exact congrFun (gated_read m dev t (y 0) (i 0) h0) (y 1)

/-- and of its block of products. -/
theorem out_apply (dev : Dev nD) (t : Fin cfg0.N) (y : S512x3456.Idx) (i : S65536x3456.Idx) (h0 : (i 0).val = 512 * t.val + (y 0).val) (h1 : (i 1).val = (y 1).val) :
    out0_7 (xBlk m dev t) (y0Blk m dev t) (y1Blk m dev t) (g0Blk m dev t) (g1Blk m dev t) (gBlk m dev t) (wBlk m dev t) y
      = Cert.Reference3Ideal.Read.val_main_v21 (F := Ideal) (xOf m dev) (y0Of m dev) (y1Of m dev) (g0Of m dev) (g1Of m dev) (gOf m dev) (wOf m dev) i := by
  have hz0 : (![0, 0] : Fin S512x1024.rank → Nat) = fun _ => 0 := funext fun a => by fin_cases a <;> rfl
  have hz1 : (![0, 0] : Fin S512x1.rank → Nat) = fun _ => 0 := funext fun a => by fin_cases a <;> rfl
  have hz2 : (![0, 0] : Fin S1x1024.rank → Nat) = fun _ => 0 := funext fun a => by fin_cases a <;> rfl
  have hz3 : (![0, 0] : Fin S1024x3456.rank → Nat) = fun _ => 0 := funext fun a => by fin_cases a <;> rfl
  have hz4 : (![0, 0] : Fin S512x3456.rank → Nat) = fun _ => 0 := funext fun a => by fin_cases a <;> rfl
  have ey : y = ix2 (y 0) (y 1) := funext fun a => by fin_cases a <;> rfl
  have ei : i = ix2 (i 0) (y 1) := funext fun a => by
    match a with
    | ⟨0, _⟩ => rfl
    | ⟨1, _⟩ => exact Fin.ext h1
  rw [ey, ei]
  refine Eq.trans ?_ (Cert.Reference3Ideal.Read.ref_apply _ _ _ _ _ _ _ (i 0) (y 1)).symm
  unfold out0_7
  rw [View.canon_unit_zero hz4, View.ld_unit_zero hz0, View.ld_unit_zero hz0, View.ld_unit_zero hz0, View.ld_unit_zero hz1, View.ld_unit_zero hz1, View.ld_unit_zero hz2, View.ld_unit_zero hz3]
  refine (pay2_apply _ _ _ _ _ _ _ (y 0) (y 1)).trans ?_
  rw [gated_read m dev t (y 0) (i 0) h0]
  simp only [g_read]
  exact congrArg (prod _) (funext fun k => w_read m dev t k (y 1))

/-- The sums after the run are the reference's, -/
theorem final_sum (dev : Dev nD) : (dats m 0 dev).arrAt 8 cfg0.N
    = Cert.Reference3Ideal.Read.val_main_v7 (F := Ideal) (xOf m dev) (y0Of m dev) (y1Of m dev) (g0Of m dev) (g1Of m dev) := by
  refine (dats m 0 dev).arrAt_eq_of_covers 8 _ (by decide +kernel) fun t _ y => ?_
  blk_simp
  rw [after0_8]
  refine sum_apply m dev t y _ ?_ ?_
  all_goals
    blk_simp [idx t]
    try (idx_bounds y; omega)

/-- and the projections. -/
theorem final (dev : Dev nD) : (dats m 0 dev).arrAt 7 cfg0.N
    = Cert.Reference3Ideal.Read.val_main_v21 (F := Ideal) (xOf m dev) (y0Of m dev) (y1Of m dev) (g0Of m dev) (g1Of m dev) (gOf m dev) (wOf m dev) := by
  refine (dats m 0 dev).arrAt_eq_of_covers 7 _ (by decide +kernel) fun t _ y => ?_
  blk_simp
  rw [after0_7]
  refine out_apply m dev t y _ ?_ ?_
  all_goals
    blk_simp [idx t]
    try (idx_bounds y; omega)

end Cert.Kernel3Ideal.Gen
-- ==== Proof.OutProj.lean ====
/- The output projection, the norm after it and the router's product: what their kernel and their reference leave. -/
module

public import proofs.«01_k».proof.Proof.NormSpec
public import proofs.«01_k».proof.Proof.Gen.Kernel4Ideal.Value
public import proofs.«01_k».proof.Proof.Gen.Reference4Ideal.Read
public import Idealize.ShloMosaic.Lib.Pointwise
public import Idealize.ShloMosaic.Lib.Pipeline.ValueKit
public import Idealize.ShloMosaic.Lib.KernelVsHost
public import Idealize.ShloMosaic.Lib.Claim

@[expose] public section

set_option maxRecDepth 16384

noncomputable section

namespace Cert.Norm

/-- Three mixers' outputs for a row, side by side. -/
def joined (a : Fin 256 → EReal) (b : Fin 512 → EReal) (c : Fin 256 → EReal) (k : Fin 1024) : EReal :=
  if h : k.val < 256 then a ⟨k.val, h⟩ else if h' : k.val - 256 < 512 then b ⟨k.val - 256, h'⟩ else c ⟨k.val - 256 - 512, by omega⟩

/-- A row with the projection of the three added, -/
def row (x : Fin 1024 → EReal) (a : Fin 256 → EReal) (b : Fin 512 → EReal) (c : Fin 256 → EReal) (w : Fin 1024 → Fin 1024 → EReal) (j : Fin 1024) : EReal :=
  x j + ∑ k : Fin 1024, joined a b c k * w k j

/-- and with the three projected apart by the rows of weights that are theirs. -/
def split (x : Fin 1024 → EReal) (a : Fin 256 → EReal) (b : Fin 512 → EReal) (c : Fin 256 → EReal)
    (wa : Fin 256 → Fin 1024 → EReal) (wb : Fin 512 → Fin 1024 → EReal) (wc : Fin 256 → Fin 1024 → EReal) (j : Fin 1024) : EReal :=
  x j + (((∑ k : Fin 256, a k * wa k j) + ∑ k : Fin 512, b k * wb k j) + ∑ k : Fin 256, c k * wc k j)

/-- The two are one. -/
theorem row_eq_split (x : Fin 1024 → EReal) (a : Fin 256 → EReal) (b : Fin 512 → EReal) (c : Fin 256 → EReal) (w : Fin 1024 → Fin 1024 → EReal) :
    row x a b c w = split x a b c (fun k => w ⟨k.val, by omega⟩) (fun k => w ⟨256 + k.val, by omega⟩) (fun k => w ⟨768 + k.val, by omega⟩) := by
  funext j
  unfold row split
  refine congrArg (x j + ·) ?_
  refine (Fin.sum_univ_add (a := 256 + 512) (b := 256) (fun k : Fin 1024 => joined a b c k * w k j)).trans ?_
  refine congrArg₂ (· + ·) ?_ ?_
  · refine (Fin.sum_univ_add (a := 256) (b := 512) (fun k : Fin 768 => joined a b c (Fin.castAdd 256 k) * w (Fin.castAdd 256 k) j)).trans ?_
    refine congrArg₂ (· + ·) (Finset.sum_congr rfl fun k _ => ?_) (Finset.sum_congr rfl fun k _ => ?_)
    · refine congrArg (· * _) ?_
      exact dif_pos (show k.val < 256 from k.isLt)
    · refine congrArg (· * _) ?_
      refine (dif_neg (show ¬ 256 + k.val < 256 by omega)).trans ((dif_pos (show 256 + k.val - 256 < 512 by omega)).trans ?_)
      exact congrArg b (Fin.ext (show 256 + k.val - 256 = k.val by omega))
  · refine Finset.sum_congr rfl fun k _ => ?_
    refine congrArg (· * _) ?_
    refine (dif_neg (show ¬ 256 + 512 + k.val < 256 by omega)).trans ((dif_neg (show ¬ 256 + 512 + k.val - 256 < 512 by omega)).trans ?_)
    exact congrArg c (Fin.ext (show 256 + 512 + k.val - 256 - 512 = k.val by omega))

end Cert.Norm

namespace Cert.Reference4Ideal.Read

open Idealize.ShloMosaic Idealize.ShloMosaic.TcCoe Idealize.ShloMosaic.Tactic
open Cert.Norm

/-- The reference's mixers side by side, -/
theorem joined_apply (x1 : Vec Ideal S65536x256 .bf16) (x2 : Vec Ideal S65536x512 .bf16) (x3 : Vec Ideal S65536x256 .bf16) (r : Fin 65536) (k : Fin 1024) :
    val_main_v3 (F := Ideal) x1 x2 x3 (ix2 r k) = joined (fun k => x1 (ix2 r k)) (fun k => x2 (ix2 r k)) (fun k => x3 (ix2 r k)) k := by
  pointwise [val_main_v3, val_main_v2, val_main_v1, val_main_v0]
  rfl

/-- its row with their projection, -/
theorem row_apply (x0 : Vec Ideal S65536x1024 .f32) (x1 : Vec Ideal S65536x256 .bf16) (x2 : Vec Ideal S65536x512 .bf16) (x3 : Vec Ideal S65536x256 .bf16) (x4 : Vec Ideal S1024x1024 .f32) (r : Fin 65536) (k : Fin 1024) :
    val_main_v5 (F := Ideal) x0 x1 x2 x3 x4 (ix2 r k) = (row (fun k => x0 (ix2 r k)) (fun k => x1 (ix2 r k)) (fun k => x2 (ix2 r k)) (fun k => x3 (ix2 r k)) (fun k c => x4 (ix2 k c))) k := by
  have e := joined_apply x1 x2 x3 r
  pointwise [val_main_v5, val_main_v4]
  simp only [e]
  rfl

/-- the norm of that, -/
theorem norm_apply (x0 : Vec Ideal S65536x1024 .f32) (x1 : Vec Ideal S65536x256 .bf16) (x2 : Vec Ideal S65536x512 .bf16) (x3 : Vec Ideal S65536x256 .bf16) (x4 : Vec Ideal S1024x1024 .f32) (x5 : Vec Ideal S1024 .f32) (r : Fin 65536) (k : Fin 1024) :
    val_main_v18 (F := Ideal) x0 x1 x2 x3 x4 x5 (ix2 r k) = normed (row (fun k => x0 (ix2 r k)) (fun k => x1 (ix2 r k)) (fun k => x2 (ix2 r k)) (fun k => x3 (ix2 r k)) (fun k c => x4 (ix2 k c))) (fun k => x5 (ix1 k)) k := by
  have e := row_apply x0 x1 x2 x3 x4 r
  pointwise [val_main_v18, val_main_v17, val_main_v16, val_main_v15, val_main_v14, val_main_v13, val_main_v12, val_main_v11, val_main_v10, val_main_v9, val_main_v8, val_main_v7, val_main_v6, val_main_cst, val_main_cst_0, val_main_cst_1]
  simp only [e]
  rfl

/-- which it gives too, -/
theorem out_apply (x0 : Vec Ideal S65536x1024 .f32) (x1 : Vec Ideal S65536x256 .bf16) (x2 : Vec Ideal S65536x512 .bf16) (x3 : Vec Ideal S65536x256 .bf16) (x4 : Vec Ideal S1024x1024 .f32) (x5 : Vec Ideal S1024 .f32) (r : Fin 65536) (k : Fin 1024) :
    val_main_v21 (F := Ideal) x0 x1 x2 x3 x4 x5 (ix2 r k) = normed (row (fun k => x0 (ix2 r k)) (fun k => x1 (ix2 r k)) (fun k => x2 (ix2 r k)) (fun k => x3 (ix2 r k)) (fun k c => x4 (ix2 k c))) (fun k => x5 (ix1 k)) k :=
  norm_apply x0 x1 x2 x3 x4 x5 r k

/-- and the router's product, padded with zeros. -/
theorem router_apply (x0 : Vec Ideal S65536x1024 .f32) (x1 : Vec Ideal S65536x256 .bf16) (x2 : Vec Ideal S65536x512 .bf16) (x3 : Vec Ideal S65536x256 .bf16) (x4 : Vec Ideal S1024x1024 .f32) (x5 : Vec Ideal S1024 .f32) (x6 : Vec Ideal S1024x36 .f32) (r : Fin 65536) (c : Fin 128) :
    val_main_v20 (F := Ideal) x0 x1 x2 x3 x4 x5 x6 (ix2 r c)
      = if h : c.val < 36 then prod (normed (row (fun k => x0 (ix2 r k)) (fun k => x1 (ix2 r k)) (fun k => x2 (ix2 r k)) (fun k => x3 (ix2 r k)) (fun k c => x4 (ix2 k c))) (fun k => x5 (ix1 k))) (fun k => x6 (ix2 k ⟨c.val, h⟩)) else 0 := by
  have e := norm_apply x0 x1 x2 x3 x4 x5 r
  pointwise [val_main_v20, val_main_v19, val_main_call0_v0, val_main_c]
  simp only [e]
  have z : (FloatOps.sitofp FTy.f32 0#32 : Ideal .f32) = 0 := sitofp_zero
  rw [z]
  rfl

end Cert.Reference4Ideal.Read

namespace Cert.Kernel4Ideal.Gen

open Idealize.ShloMosaic Idealize.ShloMosaic.TcCoe Idealize.ShloMosaic.Tactic
open Idealize.ShloMosaic.Pipeline (Dat)
open Cert.Norm

/-- A block's rows, -/
theorem pay2_apply (a : Vec Ideal S1024x256 .bf16) (wa : Vec Ideal S256x1024 .bf16) (b : Vec Ideal S1024x512 .bf16) (wb : Vec Ideal S512x1024 .bf16) (c : Vec Ideal S1024x256 .bf16) (wc : Vec Ideal S256x1024 .bf16) (x : Vec Ideal S1024x1024 .f32) (r k : Fin 1024) :
    k0_pay2 (F := Ideal) a wa b wb c wc x (ix2 r k) = (split (fun k => x (ix2 r k)) (fun k => a (ix2 r k)) (fun k => b (ix2 r k)) (fun k => c (ix2 r k)) (fun k j => wa (ix2 k j)) (fun k j => wb (ix2 k j)) (fun k j => wc (ix2 k j))) k := by
  pointwise [k0_pay2]
  rfl

/-- their norms, -/
theorem pay3_apply (a : Vec Ideal S1024x256 .bf16) (wa : Vec Ideal S256x1024 .bf16) (b : Vec Ideal S1024x512 .bf16) (wb : Vec Ideal S512x1024 .bf16) (c : Vec Ideal S1024x256 .bf16) (wc : Vec Ideal S256x1024 .bf16) (x : Vec Ideal S1024x1024 .f32) (g : Vec Ideal S1x1024 .f32) (r k : Fin 1024) :
    k0_pay3 (F := Ideal) a wa b wb c wc x g (ix2 r k) = normed (split (fun k => x (ix2 r k)) (fun k => a (ix2 r k)) (fun k => b (ix2 r k)) (fun k => c (ix2 r k)) (fun k j => wa (ix2 k j)) (fun k j => wb (ix2 k j)) (fun k j => wc (ix2 k j))) (fun k => g (ix2 0 k)) k := by
  have e := pay2_apply a wa b wb c wc x r
  pointwise [k0_pay3]
  simp only [e]
  rfl

/-- and the router's product. -/
theorem pay1_apply (h : Vec Ideal S1024x1024 .bf16) (w : Vec Ideal S1024x128 .bf16) (r : Fin 1024) (c : Fin 128) :
    k0_pay1 (F := Ideal) h w (ix2 r c) = prod (fun k => h (ix2 r k)) (fun k => w (ix2 k c)) := by
  pointwise [k0_pay1]
  rfl

variable (m : (ℓ : Loc nD τ sig) → Buf (Elt Ideal) ℓ)

/-- The arguments: the rows, the three mixers' outputs, the projection, the gains and the router's weights. -/
abbrev xOf (dev : Dev nD) : Vec Ideal S65536x1024 .f32 := m ((dev : Thread nD τ).loc main_arg0)
abbrev hyOf (dev : Dev nD) : Vec Ideal S65536x256 .bf16 := m ((dev : Thread nD τ).loc main_arg1)
abbrev rwOf (dev : Dev nD) : Vec Ideal S65536x512 .bf16 := m ((dev : Thread nD τ).loc main_arg2)
abbrev naOf (dev : Dev nD) : Vec Ideal S65536x256 .bf16 := m ((dev : Thread nD τ).loc main_arg3)
abbrev woOf (dev : Dev nD) : Vec Ideal S1024x1024 .f32 := m ((dev : Thread nD τ).loc main_arg4)
abbrev gOf (dev : Dev nD) : Vec Ideal S1024 .f32 := m ((dev : Thread nD τ).loc main_arg5)
abbrev rtOf (dev : Dev nD) : Vec Ideal S1024x36 .f32 := m ((dev : Thread nD τ).loc main_arg6)

/-- The host lays the gains out as a row, -/
theorem gain_entry (dev : Dev nD) : V m dev main_v6 = shapeCast S1x1024 (gOf m dev) shapeCasts_S1024_S1x1024 := by
  unfold V
  entry_read
  rfl

/-- casts the projection and cuts it at the mixers' rows, -/
theorem wh_entry (dev : Dev nD) : V m dev main_v3
    = extractStridedSlice S256x1024 ![0, 0] (truncf (F := Ideal) .bf16 (woOf m dev) bitsLt_bf16_f32) slices_S1024x1024_S256x1024_0_0 := by
  unfold V
  entry_read
  rfl

theorem wr_entry (dev : Dev nD) : V m dev main_v4
    = extractStridedSlice S512x1024 ![256, 0] (truncf (F := Ideal) .bf16 (woOf m dev) bitsLt_bf16_f32) slices_S1024x1024_S512x1024_256_0 := by
  unfold V
  entry_read
  rfl

theorem wn_entry (dev : Dev nD) : V m dev main_v5
    = extractStridedSlice S256x1024 ![768, 0] (truncf (F := Ideal) .bf16 (woOf m dev) bitsLt_bf16_f32) slices_S1024x1024_S256x1024_768_0 := by
  unfold V
  entry_read
  rfl

/-- and pads the router's weights with zeros. -/
theorem rt_entry (dev : Dev nD) : V m dev main_v1
    = pad S1024x128 ![0, 0] ![0, 92] ![0, 0] (truncf (F := Ideal) .bf16 (rtOf m dev) bitsLt_bf16_f32) (sitofp (F := Ideal) .bf16 (constantI S_ 32 0#32)) pads_S1024x36_S1024x128_000_0920 h_S_ := by
  unfold V
  entry_read
  rfl

/-- The block each window is at. -/
theorem idx : ∀ t : Fin cfg0.N, win0_0.index t = ![t.val, 0] ∧ win0_1.index t = ![t.val, 0] ∧ win0_2.index t = ![t.val, 0] ∧ win0_3.index t = ![t.val, 0] ∧ win0_4.index t = ![0, 0] ∧ win0_5.index t = ![0, 0] ∧ win0_6.index t = ![0, 0] ∧ win0_7.index t = ![0, 0] ∧ win0_8.index t = ![0, 0] ∧ win0_9.index t = ![t.val, 0] ∧ win0_10.index t = ![t.val, 0] ∧ win0_11.index t = ![t.val, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![0, 0] ∧ win0_5.index t = ![0, 0] ∧ win0_6.index t = ![0, 0] ∧ win0_7.index t = ![0, 0] ∧ win0_8.index t = ![0, 0] ∧ win0_9.index t = ![t.val, 0] ∧ win0_10.index t = ![t.val, 0] ∧ win0_11.index t = ![t.val, 0])

/-- The blocks of a point. -/
abbrev xBlk (dev : Dev nD) (t : Fin cfg0.N) : Vec Ideal S1024x1024 .f32 := iblk m dev 0 t
abbrev hyBlk (dev : Dev nD) (t : Fin cfg0.N) : Vec Ideal S1024x256 .bf16 := iblk m dev 1 t
abbrev rwBlk (dev : Dev nD) (t : Fin cfg0.N) : Vec Ideal S1024x512 .bf16 := iblk m dev 2 t
abbrev naBlk (dev : Dev nD) (t : Fin cfg0.N) : Vec Ideal S1024x256 .bf16 := iblk m dev 3 t
abbrev whBlk (dev : Dev nD) (t : Fin cfg0.N) : Vec Ideal S256x1024 .bf16 := iblk m dev 4 t
abbrev wrBlk (dev : Dev nD) (t : Fin cfg0.N) : Vec Ideal S512x1024 .bf16 := iblk m dev 5 t
abbrev wnBlk (dev : Dev nD) (t : Fin cfg0.N) : Vec Ideal S256x1024 .bf16 := iblk m dev 6 t
abbrev gBlk (dev : Dev nD) (t : Fin cfg0.N) : Vec Ideal S1x1024 .f32 := iblk m dev 7 t
abbrev rtBlk (dev : Dev nD) (t : Fin cfg0.N) : Vec Ideal S1024x128 .bf16 := iblk m dev 8 t

/-- The gains' block is the gains, -/
theorem g_read (dev : Dev nD) (t : Fin cfg0.N) (k : Fin 1024) : gBlk m dev t (ix2 0 k) = gOf m dev (ix1 k) := by
  have e : gBlk m dev t (ix2 0 k) = V m dev main_v6 (ix2 0 k) := by
    blk_ext [gBlk, iblk, idx t]
  rw [e, gain_entry]
  pointwise

/-- a mixer's block of the projection its rows of it, -/
theorem wh_read (dev : Dev nD) (t : Fin cfg0.N) (k : Fin 256) (c : Fin 1024) : whBlk m dev t (ix2 k c) = woOf m dev (ix2 ⟨k.val, by omega⟩ c) := by
  have e : whBlk m dev t (ix2 k c) = V m dev main_v3 (ix2 k c) := by
    blk_ext [whBlk, iblk, idx t]
  rw [e, wh_entry]
  pointwise

theorem wr_read (dev : Dev nD) (t : Fin cfg0.N) (k : Fin 512) (c : Fin 1024) : wrBlk m dev t (ix2 k c) = woOf m dev (ix2 ⟨256 + k.val, by omega⟩ c) := by
  have e : wrBlk m dev t (ix2 k c) = V m dev main_v4 (ix2 k c) := by
    blk_ext [wrBlk, iblk, idx t]
  rw [e, wr_entry]
  pointwise

theorem wn_read (dev : Dev nD) (t : Fin cfg0.N) (k : Fin 256) (c : Fin 1024) : wnBlk m dev t (ix2 k c) = woOf m dev (ix2 ⟨768 + k.val, by omega⟩ c) := by
  have e : wnBlk m dev t (ix2 k c) = V m dev main_v5 (ix2 k c) := by
    blk_ext [wnBlk, iblk, idx t]
  rw [e, wn_entry]
  pointwise

/-- and the router's its weights and zeros. -/
theorem rt_read (dev : Dev nD) (t : Fin cfg0.N) (k : Fin 1024) (c : Fin 128) :
    rtBlk m dev t (ix2 k c) = if h : c.val < 36 then rtOf m dev (ix2 k ⟨c.val, h⟩) else 0 := by
  have e : rtBlk m dev t (ix2 k c) = V m dev main_v1 (ix2 k c) := by
    blk_ext [rtBlk, iblk, idx t]
  rw [e, rt_entry]
  pointwise
  have z : (FloatOps.sitofp FTy.bf16 0#32 : Ideal .bf16) = 0 := sitofp_zero
  rw [z]

section
variable (dev : Dev nD) (t : Fin cfg0.N) (r : Fin 1024) (R : Fin 65536) (h : R.val = 1024 * t.val + r.val)
include h

/-- A row of a block is a row of the array: -/
theorem x_read (k : Fin 1024) : xBlk m dev t (ix2 r k) = xOf m dev (ix2 R k) := by
  rw [xOf, ← V_main_arg0 m dev]
  blk_ext [xBlk, iblk, idx t]

theorem hy_read (k : Fin 256) : hyBlk m dev t (ix2 r k) = hyOf m dev (ix2 R k) := by
  rw [hyOf, ← V_main_arg1 m dev]
  blk_ext [hyBlk, iblk, idx t]

theorem rw_read (k : Fin 512) : rwBlk m dev t (ix2 r k) = rwOf m dev (ix2 R k) := by
  rw [rwOf, ← V_main_arg2 m dev]
  blk_ext [rwBlk, iblk, idx t]

theorem na_read (k : Fin 256) : naBlk m dev t (ix2 r k) = naOf m dev (ix2 R k) := by
  rw [naOf, ← V_main_arg3 m dev]
  blk_ext [naBlk, iblk, idx t]

/-- its row with the projection too. -/
theorem row_read : split (fun k => xBlk m dev t (ix2 r k)) (fun k => hyBlk m dev t (ix2 r k)) (fun k => rwBlk m dev t (ix2 r k)) (fun k => naBlk m dev t (ix2 r k))
      (fun k j => whBlk m dev t (ix2 k j)) (fun k j => wrBlk m dev t (ix2 k j)) (fun k j => wnBlk m dev t (ix2 k j))
    = row (fun k => xOf m dev (ix2 R k)) (fun k => hyOf m dev (ix2 R k)) (fun k => rwOf m dev (ix2 R k)) (fun k => naOf m dev (ix2 R k))
        (fun k j => woOf m dev (ix2 k j)) := by
  rw [row_eq_split]
  simp only [x_read m dev t r R h, hy_read m dev t r R h, rw_read m dev t r R h, na_read m dev t r R h, wh_read, wr_read, wn_read]

end

/-- What a point leaves at a place of its block of rows, -/
theorem row_apply (dev : Dev nD) (t : Fin cfg0.N) (y : S1024x1024.Idx) (i : S65536x1024.Idx) (h0 : (i 0).val = 1024 * t.val + (y 0).val) (h1 : (i 1).val = (y 1).val) :
    out0_9 (xBlk m dev t) (hyBlk m dev t) (rwBlk m dev t) (naBlk m dev t) (whBlk m dev t) (wrBlk m dev t) (wnBlk m dev t) (gBlk m dev t) (rtBlk m dev t) y = Cert.Reference4Ideal.Read.val_main_v5 (F := Ideal) (xOf m dev) (hyOf m dev) (rwOf m dev) (naOf m dev) (woOf m dev) i := by
  have hz0 : (![0, 0] : Fin S1024x1024.rank → Nat) = fun _ => 0 := funext fun a => by fin_cases a <;> rfl
  have hz1 : (![0, 0] : Fin S1024x256.rank → Nat) = fun _ => 0 := funext fun a => by fin_cases a <;> rfl
  have hz2 : (![0, 0] : Fin S1024x512.rank → Nat) = fun _ => 0 := funext fun a => by fin_cases a <;> rfl
  have hz3 : (![0, 0] : Fin S256x1024.rank → Nat) = fun _ => 0 := funext fun a => by fin_cases a <;> rfl
  have hz4 : (![0, 0] : Fin S512x1024.rank → Nat) = fun _ => 0 := funext fun a => by fin_cases a <;> rfl
  have hz5 : (![0, 0] : Fin S1x1024.rank → Nat) = fun _ => 0 := funext fun a => by fin_cases a <;> rfl
  have hz6 : (![0, 0] : Fin S1024x128.rank → Nat) = fun _ => 0 := funext fun a => by fin_cases a <;> rfl
  have ey : y = ix2 (y 0) (y 1) := funext fun a => by fin_cases a <;> rfl
  have ei : i = ix2 (i 0) (y 1) := funext fun a => by
    match a with
    | ⟨0, _⟩ => rfl
    | ⟨1, _⟩ => exact Fin.ext h1
  rw [ey, ei]
  refine Eq.trans ?_ (Cert.Reference4Ideal.Read.row_apply _ _ _ _ _ (i 0) (y 1)).symm
  unfold out0_9
  rw [View.canon_unit_zero hz0, View.ld_unit_zero hz1, View.ld_unit_zero hz3, View.ld_unit_zero hz2, View.ld_unit_zero hz4, View.ld_unit_zero hz1, View.ld_unit_zero hz3, View.ld_unit_zero hz0]
  refine (pay2_apply _ _ _ _ _ _ _ (y 0) (y 1)).trans ?_
  exact congrFun (row_read m dev t (y 0) (i 0) h0) (y 1)

/-- the norm of a row of a block, -/
theorem norm_apply (dev : Dev nD) (t : Fin cfg0.N) (r : Fin 1024) (R : Fin 65536) (h : R.val = 1024 * t.val + r.val) (k : Fin 1024) :
    k0_pay4 (xBlk m dev t) (hyBlk m dev t) (rwBlk m dev t) (naBlk m dev t) (whBlk m dev t) (wrBlk m dev t) (wnBlk m dev t) (gBlk m dev t) (rtBlk m dev t) (ix2 r k)
      = normed (row (fun k => xOf m dev (ix2 R k)) (fun k => hyOf m dev (ix2 R k)) (fun k => rwOf m dev (ix2 R k)) (fun k => naOf m dev (ix2 R k))
        (fun k j => woOf m dev (ix2 k j))) (fun k => gOf m dev (ix1 k)) k := by
  have hz0 : (![0, 0] : Fin S1024x1024.rank → Nat) = fun _ => 0 := funext fun a => by fin_cases a <;> rfl
  have hz1 : (![0, 0] : Fin S1024x256.rank → Nat) = fun _ => 0 := funext fun a => by fin_cases a <;> rfl
  have hz2 : (![0, 0] : Fin S1024x512.rank → Nat) = fun _ => 0 := funext fun a => by fin_cases a <;> rfl
  have hz3 : (![0, 0] : Fin S256x1024.rank → Nat) = fun _ => 0 := funext fun a => by fin_cases a <;> rfl
  have hz4 : (![0, 0] : Fin S512x1024.rank → Nat) = fun _ => 0 := funext fun a => by fin_cases a <;> rfl
  have hz5 : (![0, 0] : Fin S1x1024.rank → Nat) = fun _ => 0 := funext fun a => by fin_cases a <;> rfl
  have hz6 : (![0, 0] : Fin S1024x128.rank → Nat) = fun _ => 0 := funext fun a => by fin_cases a <;> rfl
  unfold k0_pay4
  rw [View.ld_unit_zero hz1, View.ld_unit_zero hz3, View.ld_unit_zero hz2, View.ld_unit_zero hz4, View.ld_unit_zero hz1, View.ld_unit_zero hz3, View.ld_unit_zero hz0, View.ld_unit_zero hz5]
  refine (pay3_apply _ _ _ _ _ _ _ _ r k).trans ?_
  rw [row_read m dev t r R h]
  simp only [g_read]

/-- of its block of norms, -/
theorem out_apply (dev : Dev nD) (t : Fin cfg0.N) (y : S1024x1024.Idx) (i : S65536x1024.Idx) (h0 : (i 0).val = 1024 * t.val + (y 0).val) (h1 : (i 1).val = (y 1).val) :
    out0_10 (xBlk m dev t) (hyBlk m dev t) (rwBlk m dev t) (naBlk m dev t) (whBlk m dev t) (wrBlk m dev t) (wnBlk m dev t) (gBlk m dev t) (rtBlk m dev t) y = Cert.Reference4Ideal.Read.val_main_v21 (F := Ideal) (xOf m dev) (hyOf m dev) (rwOf m dev) (naOf m dev) (woOf m dev) (gOf m dev) i := by
  have hz0 : (![0, 0] : Fin S1024x1024.rank → Nat) = fun _ => 0 := funext fun a => by fin_cases a <;> rfl
  have ey : y = ix2 (y 0) (y 1) := funext fun a => by fin_cases a <;> rfl
  have ei : i = ix2 (i 0) (y 1) := funext fun a => by
    match a with
    | ⟨0, _⟩ => rfl
    | ⟨1, _⟩ => exact Fin.ext h1
  rw [ey, ei]
  refine Eq.trans ?_ (Cert.Reference4Ideal.Read.out_apply _ _ _ _ _ _ (i 0) (y 1)).symm
  unfold out0_10
  rw [View.canon_unit_zero hz0]
  exact norm_apply m dev t (y 0) (i 0) h0 (y 1)

/-- and of its block of the router's products. -/
theorem router_apply (dev : Dev nD) (t : Fin cfg0.N) (y : S1024x128.Idx) (i : S65536x128.Idx) (h0 : (i 0).val = 1024 * t.val + (y 0).val) (h1 : (i 1).val = (y 1).val) :
    out0_11 (xBlk m dev t) (hyBlk m dev t) (rwBlk m dev t) (naBlk m dev t) (whBlk m dev t) (wrBlk m dev t) (wnBlk m dev t) (gBlk m dev t) (rtBlk m dev t) y = Cert.Reference4Ideal.Read.val_main_v20 (F := Ideal) (xOf m dev) (hyOf m dev) (rwOf m dev) (naOf m dev) (woOf m dev) (gOf m dev) (rtOf m dev) i := by
  have hz6 : (![0, 0] : Fin S1024x128.rank → Nat) = fun _ => 0 := funext fun a => by fin_cases a <;> rfl
  have ey : y = ix2 (y 0) (y 1) := funext fun a => by fin_cases a <;> rfl
  have ei : i = ix2 (i 0) (y 1) := funext fun a => by
    match a with
    | ⟨0, _⟩ => rfl
    | ⟨1, _⟩ => exact Fin.ext h1
  rw [ey, ei]
  refine Eq.trans ?_ (Cert.Reference4Ideal.Read.router_apply _ _ _ _ _ _ _ (i 0) (y 1)).symm
  unfold out0_11
  rw [View.canon_unit_zero hz6, View.ld_unit_zero hz6]
  refine (pay1_apply _ _ (y 0) (y 1)).trans ?_
  refine (congrArg₂ prod (funext fun k => norm_apply m dev t (y 0) (i 0) h0 k) (funext fun k => rt_read m dev t k (y 1))).trans ?_
  by_cases hc : (y 1).val < 36
  · rw [dif_pos hc]
    refine congrArg (prod _) (funext fun k => ?_)
    exact dif_pos hc
  · rw [dif_neg hc]
    refine Finset.sum_eq_zero fun k _ => ?_
    exact (congrArg (_ * ·) (dif_neg hc)).trans (mul_zero _)

/-- The rows after the run are the reference's, -/
theorem final_row (dev : Dev nD) : (dats m 0 dev).arrAt 9 cfg0.N = Cert.Reference4Ideal.Read.val_main_v5 (F := Ideal) (xOf m dev) (hyOf m dev) (rwOf m dev) (naOf m dev) (woOf m dev) := by
  refine (dats m 0 dev).arrAt_eq_of_covers 9 _ (by decide +kernel) fun t _ y => ?_
  blk_simp
  rw [after0_9]
  refine row_apply m dev t y _ ?_ ?_
  all_goals
    blk_simp [idx t]
    try (idx_bounds y; omega)

/-- the norms, -/
theorem final_norm (dev : Dev nD) : (dats m 0 dev).arrAt 10 cfg0.N = Cert.Reference4Ideal.Read.val_main_v21 (F := Ideal) (xOf m dev) (hyOf m dev) (rwOf m dev) (naOf m dev) (woOf m dev) (gOf m dev) := by
  refine (dats m 0 dev).arrAt_eq_of_covers 10 _ (by decide +kernel) fun t _ y => ?_
  blk_simp
  rw [after0_10]
  refine out_apply m dev t y _ ?_ ?_
  all_goals
    blk_simp [idx t]
    try (idx_bounds y; omega)

/-- and the router's products. -/
theorem final_router (dev : Dev nD) : (dats m 0 dev).arrAt 11 cfg0.N = Cert.Reference4Ideal.Read.val_main_v20 (F := Ideal) (xOf m dev) (hyOf m dev) (rwOf m dev) (naOf m dev) (woOf m dev) (gOf m dev) (rtOf m dev) := by
  refine (dats m 0 dev).arrAt_eq_of_covers 11 _ (by decide +kernel) fun t _ y => ?_
  blk_simp
  rw [after0_11]
  refine router_apply m dev t y _ ?_ ?_
  all_goals
    blk_simp [idx t]
    try (idx_bounds y; omega)

end Cert.Kernel4Ideal.Gen
-- ==== Proof.FinalNorm.lean ====
/- The last norm, of a row with its experts' outputs: what its kernel and its reference leave. -/
module

public import proofs.«01_k».proof.Proof.NormSpec
public import proofs.«01_k».proof.Proof.Gen.Kernel5Ideal.Value
public import proofs.«01_k».proof.Proof.Gen.Reference5Ideal.Read
public import Idealize.ShloMosaic.Lib.Pointwise
public import Idealize.ShloMosaic.Lib.Pipeline.ValueKit
public import Idealize.ShloMosaic.Lib.Claim

@[expose] public section

set_option maxRecDepth 16384

noncomputable section

namespace Cert.Reference5Ideal.Read

open Idealize.ShloMosaic Idealize.ShloMosaic.TcCoe Idealize.ShloMosaic.Tactic
open Cert.Norm

/-- The reference's row with its experts' outputs, -/
theorem sum_apply (x0 : Vec Ideal S65536x1024 .f32) (x1 x2 : Vec Ideal S65536x1024 .bf16) (x3 x4 : Vec Ideal S65536x1 .f32) (r : Fin 65536) (k : Fin 1024) :
    val_main_v7 (F := Ideal) x0 x1 x2 x3 x4 (ix2 r k) = gated (fun k => x0 (ix2 r k)) (fun k => x1 (ix2 r k)) (fun k => x2 (ix2 r k)) (x3 (ix2 r 0)) (x4 (ix2 r 0)) k := by
  pointwise [val_main_v7, val_main_v6, val_main_v5, val_main_v4, val_main_v3, val_main_v2, val_main_v1, val_main_v0]
  simp only [gated, mul_comm]

/-- and its norm. -/
theorem ref_apply (x0 : Vec Ideal S65536x1024 .f32) (x1 x2 : Vec Ideal S65536x1024 .bf16) (x3 x4 : Vec Ideal S65536x1 .f32) (x5 : Vec Ideal S1024 .f32) (r : Fin 65536) (c : Fin 1024) :
    val_main_v20 (F := Ideal) x0 x1 x2 x3 x4 x5 (ix2 r c)
      = normed (gated (fun k => x0 (ix2 r k)) (fun k => x1 (ix2 r k)) (fun k => x2 (ix2 r k)) (x3 (ix2 r 0)) (x4 (ix2 r 0))) (fun k => x5 (ix1 k)) c := by
  have e := sum_apply x0 x1 x2 x3 x4 r
  pointwise [val_main_v20, val_main_v19, val_main_v18, val_main_v17, val_main_v16, val_main_v15, val_main_v14, val_main_v13, val_main_v12, val_main_v11, val_main_v10, val_main_v9, val_main_v8, val_main_cst, val_main_cst_0, val_main_cst_1]
  simp only [e]
  rfl

end Cert.Reference5Ideal.Read

namespace Cert.Kernel5Ideal.Gen

open Idealize.ShloMosaic Idealize.ShloMosaic.TcCoe Idealize.ShloMosaic.Tactic
open Idealize.ShloMosaic.Pipeline (Dat)
open Cert.Norm

/-- A block's norm. -/
theorem pay1_apply (x : Vec Ideal S512x1024 .f32) (a : Vec Ideal S512x1 .f32) (y : Vec Ideal S512x1024 .bf16) (b : Vec Ideal S512x1 .f32) (z : Vec Ideal S512x1024 .bf16) (g : Vec Ideal S1x1024 .f32) (r : Fin 512) (c : Fin 1024) :
    k0_pay1 (F := Ideal) x a y b z g (ix2 r c) = normed (gated (fun k => x (ix2 r k)) (fun k => y (ix2 r k)) (fun k => z (ix2 r k)) (a (ix2 r 0)) (b (ix2 r 0))) (fun k => g (ix2 0 k)) c := by
  pointwise [k0_pay1]
  rfl

variable (m : (ℓ : Loc nD τ sig) → Buf (Elt Ideal) ℓ)

/-- The arguments: the rows, the two experts' outputs, their gates, the gains. -/
abbrev xOf (dev : Dev nD) : Vec Ideal S65536x1024 .f32 := m ((dev : Thread nD τ).loc main_arg0)
abbrev y0Of (dev : Dev nD) : Vec Ideal S65536x1024 .bf16 := m ((dev : Thread nD τ).loc main_arg1)
abbrev y1Of (dev : Dev nD) : Vec Ideal S65536x1024 .bf16 := m ((dev : Thread nD τ).loc main_arg2)
abbrev g0Of (dev : Dev nD) : Vec Ideal S65536x1 .f32 := m ((dev : Thread nD τ).loc main_arg3)
abbrev g1Of (dev : Dev nD) : Vec Ideal S65536x1 .f32 := m ((dev : Thread nD τ).loc main_arg4)
abbrev gOf (dev : Dev nD) : Vec Ideal S1024 .f32 := m ((dev : Thread nD τ).loc main_arg5)

/-- The host lays the gains out as a row. -/
theorem gain_entry (dev : Dev nD) : V m dev main_v0 = shapeCast S1x1024 (gOf m dev) shapeCasts_S1024_S1x1024 := by
  unfold V
  entry_read
  rfl

/-- The block each window is at. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![0, 0] ∧ win0_6.index t = ![t.val, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![0, 0] ∧ win0_6.index t = ![t.val, 0])

/-- The blocks of a point. -/
abbrev xBlk (dev : Dev nD) (t : Fin cfg0.N) : Vec Ideal S512x1024 .f32 := iblk m dev 0 t
abbrev y0Blk (dev : Dev nD) (t : Fin cfg0.N) : Vec Ideal S512x1024 .bf16 := iblk m dev 1 t
abbrev y1Blk (dev : Dev nD) (t : Fin cfg0.N) : Vec Ideal S512x1024 .bf16 := iblk m dev 2 t
abbrev g0Blk (dev : Dev nD) (t : Fin cfg0.N) : Vec Ideal S512x1 .f32 := iblk m dev 3 t
abbrev g1Blk (dev : Dev nD) (t : Fin cfg0.N) : Vec Ideal S512x1 .f32 := iblk m dev 4 t
abbrev gBlk (dev : Dev nD) (t : Fin cfg0.N) : Vec Ideal S1x1024 .f32 := iblk m dev 5 t

section
variable (dev : Dev nD) (t : Fin cfg0.N) (r : Fin 512) (R : Fin 65536) (h : R.val = 512 * t.val + r.val)
include h

/-- A row of a block is a row of the array: -/
theorem x_read (k : Fin 1024) : xBlk m dev t (ix2 r k) = xOf m dev (ix2 R k) := by
  rw [xOf, ← V_main_arg0 m dev]
  blk_ext [xBlk, iblk, idx t]

theorem y0_read (k : Fin 1024) : y0Blk m dev t (ix2 r k) = y0Of m dev (ix2 R k) := by
  rw [y0Of, ← V_main_arg1 m dev]
  blk_ext [y0Blk, iblk, idx t]

theorem y1_read (k : Fin 1024) : y1Blk m dev t (ix2 r k) = y1Of m dev (ix2 R k) := by
  rw [y1Of, ← V_main_arg2 m dev]
  blk_ext [y1Blk, iblk, idx t]

theorem g0_read : g0Blk m dev t (ix2 r 0) = g0Of m dev (ix2 R 0) := by
  rw [g0Of, ← V_main_arg3 m dev]
  blk_ext [g0Blk, iblk, idx t]

theorem g1_read : g1Blk m dev t (ix2 r 0) = g1Of m dev (ix2 R 0) := by
  rw [g1Of, ← V_main_arg4 m dev]
  blk_ext [g1Blk, iblk, idx t]

/-- the sum of a row with its experts' outputs too. -/
theorem gated_read : gated (fun k => xBlk m dev t (ix2 r k)) (fun k => y0Blk m dev t (ix2 r k)) (fun k => y1Blk m dev t (ix2 r k))
      (g0Blk m dev t (ix2 r 0)) (g1Blk m dev t (ix2 r 0))
    = gated (fun k => xOf m dev (ix2 R k)) (fun k => y0Of m dev (ix2 R k)) (fun k => y1Of m dev (ix2 R k))
        (g0Of m dev (ix2 R 0)) (g1Of m dev (ix2 R 0)) := by
  simp only [x_read m dev t r R h, y0_read m dev t r R h, y1_read m dev t r R h, g0_read m dev t r R h, g1_read m dev t r R h]

end

/-- The gains' block is the gains. -/
theorem g_read (dev : Dev nD) (t : Fin cfg0.N) (k : Fin 1024) : gBlk m dev t (ix2 0 k) = gOf m dev (ix1 k) := by
  have e : gBlk m dev t (ix2 0 k) = V m dev main_v0 (ix2 0 k) := by
    blk_ext [gBlk, iblk, idx t]
  rw [e, gain_entry]
  pointwise

/-- What a point leaves at a place of its block. -/
theorem out_apply (dev : Dev nD) (t : Fin cfg0.N) (y : S512x1024.Idx) (i : S65536x1024.Idx) (h0 : (i 0).val = 512 * t.val + (y 0).val) (h1 : (i 1).val = (y 1).val) :
    out0_6 (xBlk m dev t) (y0Blk m dev t) (y1Blk m dev t) (g0Blk m dev t) (g1Blk m dev t) (gBlk m dev t) y
      = Cert.Reference5Ideal.Read.val_main_v20 (F := Ideal) (xOf m dev) (y0Of m dev) (y1Of m dev) (g0Of m dev) (g1Of m dev) (gOf m dev) i := by
  have hz0 : (![0, 0] : Fin S512x1024.rank → Nat) = fun _ => 0 := funext fun a => by fin_cases a <;> rfl
  have hz1 : (![0, 0] : Fin S512x1.rank → Nat) = fun _ => 0 := funext fun a => by fin_cases a <;> rfl
  have hz2 : (![0, 0] : Fin S1x1024.rank → Nat) = fun _ => 0 := funext fun a => by fin_cases a <;> rfl
  have ey : y = ix2 (y 0) (y 1) := funext fun a => by fin_cases a <;> rfl
  have ei : i = ix2 (i 0) (y 1) := funext fun a => by
    match a with
    | ⟨0, _⟩ => rfl
    | ⟨1, _⟩ => exact Fin.ext h1
  rw [ey, ei]
  refine Eq.trans ?_ (Cert.Reference5Ideal.Read.ref_apply _ _ _ _ _ _ (i 0) (y 1)).symm
  unfold out0_6
  rw [View.canon_unit_zero hz0, View.ld_unit_zero hz0, View.ld_unit_zero hz0, View.ld_unit_zero hz0, View.ld_unit_zero hz1, View.ld_unit_zero hz1, View.ld_unit_zero hz2]
  refine (pay1_apply _ _ _ _ _ _ (y 0) (y 1)).trans ?_
  rw [gated_read m dev t (y 0) (i 0) h0]
  simp only [g_read]

/-- The result array after the run is the reference's. -/
theorem final (dev : Dev nD) : (dats m 0 dev).arrAt 6 cfg0.N
    = Cert.Reference5Ideal.Read.val_main_v20 (F := Ideal) (xOf m dev) (y0Of m dev) (y1Of m dev) (g0Of m dev) (g1Of m dev) (gOf m dev) := by
  refine (dats m 0 dev).arrAt_eq_of_covers 6 _ (by decide +kernel) fun t _ y => ?_
  blk_simp
  rw [after0_6]
  refine out_apply m dev t y _ ?_ ?_
  all_goals
    blk_simp [idx t]
    try (idx_bounds y; omega)

end Cert.Kernel5Ideal.Gen
-- ==== Proof.lean ====
/- The certificate: the frames of the kernel, of its idealization and of the reference, and the equality of their results. -/
module

public import proofs.«01_k».proof.Proof.KMoeLaunch
public import proofs.«01_k».proof.Proof.MoeVal
public import proofs.«01_k».proof.Proof.Gen.Reference6Ideal
public import proofs.«01_k».proof.Proof.Gen.Pre_in_range
public import proofs.«01_k».proof.Defs
public import proofs.«01_k».proof.Proof.KFrame
public import proofs.«01_k».proof.Proof.NaOut
public import proofs.«01_k».proof.Proof.NaRef
public import proofs.«01_k».proof.Proof.NaPre
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Proj
public import proofs.«01_k».proof.Proof.ProjMoe
public import proofs.«01_k».proof.Proof.OutProj
public import proofs.«01_k».proof.Proof.FinalNorm
public import Idealize.ShloMosaic.Lib.Claim

@[expose] public section

set_option maxRecDepth 16384

noncomputable section

namespace Cert.Proof

open Idealize.ShloMosaic Idealize.ShloMosaic.TcCoe Idealize.SL.Sem Idealize.ShloMosaic.Tactic

attribute [local instance] Cert.Kernel.Gen.facts Cert.KernelIdeal.Gen.facts Cert.ReferenceIdeal.Gen.facts Cert.Pre_finite.facts
  Cert.Kernel2.Gen.facts Cert.Kernel2Ideal.Gen.facts Cert.Reference2Ideal.Gen.facts
  Cert.Kernel3.Gen.facts Cert.Kernel3Ideal.Gen.facts Cert.Reference3Ideal.Gen.facts
  Cert.Kernel4.Gen.facts Cert.Kernel4Ideal.Gen.facts Cert.Reference4Ideal.Gen.facts
  Cert.Kernel5.Gen.facts Cert.Kernel5Ideal.Gen.facts Cert.Reference5Ideal.Gen.facts
  Cert.Kernel6.Gen.facts Cert.Kernel6Ideal.Gen.facts Cert.Reference6Ideal.Gen.facts Cert.Pre_in_range.Gen.facts

/-- The kernel's frame. -/
theorem frame_Kernel : Cert.quiescent_Kernel := fun m ρ _ => Cert.Kernel.Gen.frame m ρ

/-- The idealized kernel's, -/
theorem frame_KernelIdeal : Cert.quiescent_KernelIdeal := fun m ρ _ => Cert.KernelIdeal.Gen.frame m ρ

theorem frame_KernelIdeal_finite : Cert.quiescent_KernelIdeal_pre_finite := fun m ρ _ => Cert.KernelIdeal.Gen.frame m ρ

/-- and the reference's. -/
theorem frame_ReferenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

theorem frame_ReferenceIdeal_finite : Cert.quiescent_ReferenceIdeal_pre_finite := fun m g _ => frame_ReferenceIdeal m g trivial

/-- The reference's result. -/
theorem reference_value (m : (ℓ : Loc Cert.ReferenceIdeal.nD Cert.ReferenceIdeal.τ Cert.ReferenceIdeal.sig) → Buf (Elt Ideal) ℓ)
    (c : Dev Cert.ReferenceIdeal.nD) : Cert.ReferenceIdeal.Value.res_main_v104 m c
      = Cert.Na.arr (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1)) :=
  (Cert.ReferenceIdeal.Read.val_main_v104_eq m c).trans (Cert.ReferenceIdeal.Read.v104_arr _ _)

/-- The idealized kernel and the reference end with the same attention. -/
theorem value : Cert.algebraic_KernelIdeal_ReferenceIdeal_pre_finite := by
  intro m g m' g' hpre hagree
  refine ⟨fun c => (Cert.KernelIdeal.Gen.dats m 0 c).arrAt 4 (Cert.KernelIdeal.cfgs 0).N, ?_, ?_⟩
  · run_from Cert.KernelIdeal.Gen.run_main m g & Cert.KernelIdeal.Gen.unchanged m g
  · refine (θ_run Cert.ReferenceIdeal.defs _ _).mono (fun r h c => ⟨(h c).1.trans ?_, (h c).2⟩) (Cert.ReferenceIdeal.Value.run m' g')
    have hr := Cert.Pre_finite.real_of_fn _ _ (hpre c)
    refine (reference_value m' c).trans ?_
    rw [(hagree c).1, (hagree c).2]
    exact (Cert.KernelIdeal.Gen.final m c hr.1 hr.2).symm

/-! ### The normed projection -/

theorem frame_Kernel2 : Cert.quiescent_Kernel2 := fun m ρ _ => Cert.Kernel2.Gen.frame m ρ

theorem frame_Kernel2Ideal : Cert.quiescent_Kernel2Ideal := fun m ρ _ => Cert.Kernel2Ideal.Gen.frame m ρ

theorem frame_Reference2Ideal : Cert.quiescent_Reference2Ideal := fun m g _ =>
  (θ_run Cert.Reference2Ideal.defs _ _).mono (fun r h => ⟨fun c => (h c).2, sem_eq_zero_of_no_sems (by decide) r.2⟩)
    (Cert.Reference2Ideal.Value.run m g)

/-- The idealized kernel and the reference end with the same arrays. -/
theorem value2 : Cert.algebraic_Kernel2Ideal_Reference2Ideal := by
  intro m g m' g' hpre hagree
  refine ⟨fun c => (Cert.Kernel2Ideal.Gen.dats m 0 c).arrAt 3 Cert.Kernel2Ideal.cfg0.N, ?_, ?_⟩
  · exact (θ_run Cert.Kernel2Ideal.defs _ _).mono (fun r h c => h c) (Cert.Kernel2Ideal.Value.run_blocks m g)
  · refine (θ_run Cert.Reference2Ideal.defs _ _).mono (fun r h c => ⟨(h c).1.trans ?_, (h c).2⟩) (Cert.Reference2Ideal.Value.run m' g')
    · refine Eq.trans ?_ (Cert.Kernel2Ideal.Gen.final m c).symm
      refine (Cert.Reference2Ideal.Read.val_main_v13_eq _ _ _).trans ?_
      rw [(hagree c).1, (hagree c).2.1, (hagree c).2.2]

/-! ### The normed projection after the experts -/

theorem frame_Kernel3 : Cert.quiescent_Kernel3 := fun m ρ _ => Cert.Kernel3.Gen.frame m ρ

theorem frame_Kernel3Ideal : Cert.quiescent_Kernel3Ideal := fun m ρ _ => Cert.Kernel3Ideal.Gen.frame m ρ

theorem frame_Reference3Ideal : Cert.quiescent_Reference3Ideal := fun m g _ =>
  (θ_run Cert.Reference3Ideal.defs _ _).mono (fun r h => ⟨fun c => (h c).2.2, sem_eq_zero_of_no_sems (by decide) r.2⟩)
    (Cert.Reference3Ideal.Value.run m g)

/-- The idealized kernel and the reference end with the same arrays. -/
theorem value3 : Cert.algebraic_Kernel3Ideal_Reference3Ideal := by
  intro m g m' g' hpre hagree
  refine ⟨fun c => (Cert.Kernel3Ideal.Gen.dats m 0 c).arrAt 8 Cert.Kernel3Ideal.cfg0.N, fun c => (Cert.Kernel3Ideal.Gen.dats m 0 c).arrAt 7 Cert.Kernel3Ideal.cfg0.N, ?_, ?_⟩
  · exact (θ_run Cert.Kernel3Ideal.defs _ _).mono (fun r h c => ⟨(h c).2.1, (h c).1, (h c).2.2⟩) (Cert.Kernel3Ideal.Value.run_blocks m g)
  · refine (θ_run Cert.Reference3Ideal.defs _ _).mono (fun r h c => ⟨(h c).1.trans ?_, (h c).2.1.trans ?_, (h c).2.2⟩) (Cert.Reference3Ideal.Value.run m' g')
    · refine Eq.trans ?_ (Cert.Kernel3Ideal.Gen.final_sum m c).symm
      refine (Cert.Reference3Ideal.Read.val_main_v7_eq _ _ _ _ _).trans ?_
      rw [(hagree c).1, (hagree c).2.1, (hagree c).2.2.1, (hagree c).2.2.2.1, (hagree c).2.2.2.2.1]
    · refine Eq.trans ?_ (Cert.Kernel3Ideal.Gen.final m c).symm
      refine (Cert.Reference3Ideal.Read.val_main_v21_eq _ _ _ _ _ _ _).trans ?_
      rw [(hagree c).1, (hagree c).2.1, (hagree c).2.2.1, (hagree c).2.2.2.1, (hagree c).2.2.2.2.1, (hagree c).2.2.2.2.2.1, (hagree c).2.2.2.2.2.2]

/-! ### The output projection -/

theorem frame_Kernel4 : Cert.quiescent_Kernel4 := fun m ρ _ => Cert.Kernel4.Gen.frame m ρ

theorem frame_Kernel4Ideal : Cert.quiescent_Kernel4Ideal := fun m ρ _ => Cert.Kernel4Ideal.Gen.frame m ρ

theorem frame_Reference4Ideal : Cert.quiescent_Reference4Ideal := fun m g _ =>
  (θ_run Cert.Reference4Ideal.defs _ _).mono (fun r h => ⟨fun c => (h c).2.2.2, sem_eq_zero_of_no_sems (by decide) r.2⟩)
    (Cert.Reference4Ideal.Value.run m g)

/-- The idealized kernel and the reference end with the same arrays. -/
theorem value4 : Cert.algebraic_Kernel4Ideal_Reference4Ideal := by
  intro m g m' g' hpre hagree
  refine ⟨fun c => (Cert.Kernel4Ideal.Gen.dats m 0 c).arrAt 9 Cert.Kernel4Ideal.cfg0.N, fun c => (Cert.Kernel4Ideal.Gen.dats m 0 c).arrAt 10 Cert.Kernel4Ideal.cfg0.N, fun c => (Cert.Kernel4Ideal.Gen.dats m 0 c).arrAt 11 Cert.Kernel4Ideal.cfg0.N, ?_, ?_⟩
  · exact (θ_run Cert.Kernel4Ideal.defs _ _).mono (fun r h c => h c) (Cert.Kernel4Ideal.Value.run_blocks m g)
  · refine (θ_run Cert.Reference4Ideal.defs _ _).mono (fun r h c => ⟨(h c).1.trans ?_, (h c).2.1.trans ?_, (h c).2.2.1.trans ?_, (h c).2.2.2⟩) (Cert.Reference4Ideal.Value.run m' g')
    · refine Eq.trans ?_ (Cert.Kernel4Ideal.Gen.final_row m c).symm
      refine (Cert.Reference4Ideal.Read.val_main_v5_eq _ _ _ _ _).trans ?_
      rw [(hagree c).1, (hagree c).2.1, (hagree c).2.2.1, (hagree c).2.2.2.1, (hagree c).2.2.2.2.1]
    · refine Eq.trans ?_ (Cert.Kernel4Ideal.Gen.final_norm m c).symm
      refine (Cert.Reference4Ideal.Read.val_main_v21_eq _ _ _ _ _ _).trans ?_
      rw [(hagree c).1, (hagree c).2.1, (hagree c).2.2.1, (hagree c).2.2.2.1, (hagree c).2.2.2.2.1, (hagree c).2.2.2.2.2.1]
    · refine Eq.trans ?_ (Cert.Kernel4Ideal.Gen.final_router m c).symm
      refine (Cert.Reference4Ideal.Read.val_main_v20_eq _ _ _ _ _ _ _).trans ?_
      rw [(hagree c).1, (hagree c).2.1, (hagree c).2.2.1, (hagree c).2.2.2.1, (hagree c).2.2.2.2.1, (hagree c).2.2.2.2.2.1, (hagree c).2.2.2.2.2.2]

/-! ### The last norm -/

theorem frame_Kernel5 : Cert.quiescent_Kernel5 := fun m ρ _ => Cert.Kernel5.Gen.frame m ρ

theorem frame_Kernel5Ideal : Cert.quiescent_Kernel5Ideal := fun m ρ _ => Cert.Kernel5Ideal.Gen.frame m ρ

theorem frame_Reference5Ideal : Cert.quiescent_Reference5Ideal := fun m g _ =>
  (θ_run Cert.Reference5Ideal.defs _ _).mono (fun r h => ⟨fun c => (h c).2, sem_eq_zero_of_no_sems (by decide) r.2⟩)
    (Cert.Reference5Ideal.Value.run m g)

/-- The idealized kernel and the reference end with the same arrays. -/
theorem value5 : Cert.algebraic_Kernel5Ideal_Reference5Ideal := by
  intro m g m' g' hpre hagree
  refine ⟨fun c => (Cert.Kernel5Ideal.Gen.dats m 0 c).arrAt 6 Cert.Kernel5Ideal.cfg0.N, ?_, ?_⟩
  · exact (θ_run Cert.Kernel5Ideal.defs _ _).mono (fun r h c => h c) (Cert.Kernel5Ideal.Value.run_blocks m g)
  · refine (θ_run Cert.Reference5Ideal.defs _ _).mono (fun r h c => ⟨(h c).1.trans ?_, (h c).2⟩) (Cert.Reference5Ideal.Value.run m' g')
    · refine Eq.trans ?_ (Cert.Kernel5Ideal.Gen.final m c).symm
      refine (Cert.Reference5Ideal.Read.val_main_v20_eq _ _ _ _ _ _).trans ?_
      rw [(hagree c).1, (hagree c).2.1, (hagree c).2.2.1, (hagree c).2.2.2.1, (hagree c).2.2.2.2.1, (hagree c).2.2.2.2.2]

/-! ### The experts' feed-forward -/

/-- Every block's expert is one of the 32, so every weight window stays in its array. -/
theorem ok_Kernel6 (m : (ℓ : Loc Cert.Kernel6.nD Cert.Kernel6.τ Cert.Kernel6.sig) → Buf (Elt Bits) ℓ) (h : Cert.Pre_Kernel6 m) : Cert.Kernel6.Gen.Ok m :=
  Cert.Kernel6.Gen.ok_of_range (Cert.Kernel6.Gen.tbl m) fun k => by
    unfold Cert.Kernel6.Gen.expert
    split
    · exact Cert.Pre_in_range.word_range _ _ _ _ _ (h 0) _
    · decide

theorem range_Kernel6Ideal (m : (ℓ : Loc Cert.Kernel6Ideal.nD Cert.Kernel6Ideal.τ Cert.Kernel6Ideal.sig) → Buf (Elt Ideal) ℓ) (h : Cert.Pre_Kernel6Ideal m) (k : ℕ) :
    Cert.Kernel6Ideal.Gen.expert (Cert.Kernel6Ideal.Gen.tbl m) k < 32 :=
  Cert.Kernel6Ideal.Gen.range_of m (fun i => Cert.Pre_in_range.word_range _ _ _ _ _ (h 0) i) k

theorem ok_Kernel6Ideal (m : (ℓ : Loc Cert.Kernel6Ideal.nD Cert.Kernel6Ideal.τ Cert.Kernel6Ideal.sig) → Buf (Elt Ideal) ℓ) (h : Cert.Pre_Kernel6Ideal m) : Cert.Kernel6Ideal.Gen.Ok m :=
  Cert.Kernel6Ideal.Gen.ok_of_range (Cert.Kernel6Ideal.Gen.tbl m) (range_Kernel6Ideal m h)

theorem frame_Kernel6 : Cert.quiescent_Kernel6 := fun m ρ h => Cert.Kernel6.Gen.frame m ρ (ok_Kernel6 m h)

theorem frame_Kernel6Ideal : Cert.quiescent_Kernel6Ideal := fun m ρ h => Cert.Kernel6Ideal.Gen.frame m ρ (ok_Kernel6Ideal m h)

theorem frame_Reference6Ideal : Cert.quiescent_Reference6Ideal := fun m g _ =>
  (θ_run Cert.Reference6Ideal.defs _ _).mono (fun r h => ⟨fun c => (h c).2, sem_eq_zero_of_no_sems (by decide) r.2⟩)
    (Cert.Reference6Ideal.Value.run m g)

theorem frame_Reference6Ideal_range : Cert.quiescent_Reference6Ideal_pre_in_range := fun m g _ => frame_Reference6Ideal m g trivial

/-- The idealized kernel and the reference end with the same array. -/
theorem value6 : Cert.algebraic_Kernel6Ideal_Reference6Ideal := by
  intro m g m' g' hpre hagree
  have hO := ok_Kernel6Ideal m hpre
  refine ⟨fun c => (Cert.Kernel6Ideal.Gen.dats m hO 0 c).arrAt 4 (Cert.Kernel6Ideal.Gen.cfgM m hO).N, ?_, ?_⟩
  · run_from Cert.Kernel6Ideal.Gen.run_main m g hO & Cert.Kernel6Ideal.Gen.unchanged m g hO
  · refine (θ_run Cert.Reference6Ideal.defs _ _).mono (fun r h c => ⟨(h c).1.trans ?_, (h c).2⟩) (Cert.Reference6Ideal.Value.run m' g')
    refine Eq.trans ?_ (Cert.Kernel6Ideal.Gen.final m hO (range_Kernel6Ideal m hpre) c).symm
    refine (Cert.Reference6Ideal.Read.val_main_v17_eq _ _ _ _ _).trans ?_
    rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_finite.facts, Cert.Pre_in_range.Gen.facts, frame_Kernel, frame_KernelIdeal, frame_KernelIdeal_finite, frame_ReferenceIdeal, frame_ReferenceIdeal_finite,
  frame_Kernel2, frame_Kernel2Ideal, frame_Reference2Ideal,
  frame_Kernel3, frame_Kernel3Ideal, frame_Reference3Ideal,
  frame_Kernel4, frame_Kernel4Ideal, frame_Reference4Ideal,
  frame_Kernel5, frame_Kernel5Ideal, frame_Reference5Ideal,
  frame_Kernel6, frame_Kernel6Ideal, frame_Reference6Ideal, frame_Reference6Ideal_range,
  trivial, value, trivial, value2, trivial, value3, trivial, value4, trivial, value5, trivial, value6⟩

end Cert.Proof

end
